-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S1 : Shape := ⟨1, ![1]⟩
abbrev S256x4096 : Shape := ⟨2, ![256, 4096]⟩
abbrev S1x256x4096 : Shape := ⟨3, ![1, 256, 4096]⟩
abbrev S2x256x4096 : Shape := ⟨3, ![2, 256, 4096]⟩
abbrev S16x2x256x4096 : Shape := ⟨4, ![16, 2, 256, 4096]⟩
abbrev S2x16x256x256 : Shape := ⟨4, ![2, 16, 256, 256]⟩
abbrev S16x2 : Shape := ⟨2, ![16, 2]⟩
abbrev S_ : Shape := ⟨0, ![]⟩
abbrev S1x1 : Shape := ⟨2, ![1, 1]⟩
abbrev S1x1x256x256 : Shape := ⟨4, ![1, 1, 256, 256]⟩
abbrev S256x256 : Shape := ⟨2, ![256, 256]⟩
abbrev S1x1x256x4096 : Shape := ⟨4, ![1, 1, 256, 4096]⟩

abbrev nBuf : Space → Nat
  | .hbm => 10
  | .vmem => 5
  | .smem => 2
  | _ => 0

abbrev bufTy : (tb : Table) → Fin (tcTables nBuf tb) → BufTy
  | .hbm, ⟨0, _⟩ => ⟨S4096x256, .fp8e4m3⟩
  | .hbm, ⟨1, _⟩ => ⟨S256x8192, .fp8e5m2⟩
  | .hbm, ⟨2, _⟩ => ⟨S1, .f32⟩
  | .hbm, ⟨3, _⟩ => ⟨S1, .f32⟩
  | .hbm, ⟨4, _⟩ => ⟨S256x4096, .fp8e5m2⟩
  | .hbm, ⟨5, _⟩ => ⟨S256x4096, .fp8e5m2⟩
  | .hbm, ⟨6, _⟩ => ⟨S1x256x4096, .fp8e5m2⟩
  | .hbm, ⟨7, _⟩ => ⟨S1x256x4096, .fp8e5m2⟩
  | .hbm, ⟨8, _⟩ => ⟨S2x256x4096, .fp8e5m2⟩
  | .hbm, ⟨9, _⟩ => ⟨S256x8192, .f32⟩
  | .local _ .vmem, ⟨0, _⟩ => ⟨S4096x256, .fp8e4m3⟩
  | .local _ .vmem, ⟨1, _⟩ => ⟨S2x256x4096, .fp8e5m2⟩
  | .local _ .vmem, ⟨2, _⟩ => ⟨S256x8192, .f32⟩
  | .local _ .vmem, ⟨3, _⟩ => ⟨S16x2x256x4096, .fp8e5m2⟩
  | .local _ .vmem, ⟨4, _⟩ => ⟨S2x16x256x256, .fp8e4m3⟩
  | .local _ .smem, ⟨0, _⟩ => ⟨S1, .f32⟩
  | .local _ .smem, ⟨1, _⟩ => ⟨S1, .f32⟩
  | _, _ => ⟨S4096x256, .fp8e4m3⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 2 → Bool
  | ⟨0, _⟩ => false
  | ⟨1, _⟩ => true
  | _ => false

abbrev dmaSemScoped : Fin 133 → Bool
  | ⟨i, _⟩ => dmaSemScopedAt i

abbrev sig : RefSig :=
  (ofTc nBuf bufTy 2 133 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_9 : BitVec 32 := 1#32
  let v16 : BitVec 32 := Scalar.addi v2 c1_i32_9
  let c16_i32_10 : BitVec 32 := 16#32
  let v17 : BitVec 32 := Scalar.addi v16 c16_i32_10
  let c16_i32_11 : BitVec 32 := 16#32
  let v18 : BitVec 32 := Scalar.remsi v17 c16_i32_11
  let c1_i32_13 : BitVec 32 := 1#32
  let v19 : BitVec 32 := Scalar.muli v18 c1_i32_13
  let v20 : BitVec 32 := Scalar.addi c0_i32 v19
  v20.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_14 : BitVec 32 := 2#32
  let v21 : BitVec 32 := Scalar.addi v2 c2_i32_14
  let c16_i32_15 : BitVec 32 := 16#32
  let v22 : BitVec 32 := Scalar.addi v21 c16_i32_15
  let c16_i32_16 : BitVec 32 := 16#32
  let v23 : BitVec 32 := Scalar.remsi v22 c16_i32_16
  let c1_i32_18 : BitVec 32 := 1#32
  let v24 : BitVec 32 := Scalar.muli v23 c1_i32_18
  let v25 : BitVec 32 := Scalar.addi c0_i32_19 v24
  v25.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_20 : BitVec 32 := 3#32
  let v26 : BitVec 32 := Scalar.addi v2 c3_i32_20
  let c16_i32_21 : BitVec 32 := 16#32
  let v27 : BitVec 32 := Scalar.addi v26 c16_i32_21
  let c16_i32_22 : BitVec 32 := 16#32
  let v28 : BitVec 32 := Scalar.remsi v27 c16_i32_22
  let c1_i32_24 : BitVec 32 := 1#32
  let v29 : BitVec 32 := Scalar.muli v28 c1_i32_24
  let v30 : BitVec 32 := Scalar.addi c0_i32_25 v29
  v30.toNat
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v31 : BitVec 32 := Scalar.addi v2 c4_i32
  let c16_i32_26 : BitVec 32 := 16#32
  let v32 : BitVec 32 := Scalar.addi v31 c16_i32_26
  let c16_i32_27 : BitVec 32 := 16#32
  let v33 : BitVec 32 := Scalar.remsi v32 c16_i32_27
  let c1_i32_29 : BitVec 32 := 1#32
  let v34 : BitVec 32 := Scalar.muli v33 c1_i32_29
  let v35 : BitVec 32 := Scalar.addi c0_i32_30 v34
  v35.toNat
def k0_dev5 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v36 : BitVec 32 := Scalar.addi v2 c5_i32
  let c16_i32_31 : BitVec 32 := 16#32
  let v37 : BitVec 32 := Scalar.addi v36 c16_i32_31
  let c16_i32_32 : BitVec 32 := 16#32
  let v38 : BitVec 32 := Scalar.remsi v37 c16_i32_32
  let c1_i32_34 : BitVec 32 := 1#32
  let v39 : BitVec 32 := Scalar.muli v38 c1_i32_34
  let v40 : BitVec 32 := Scalar.addi c0_i32_35 v39
  v40.toNat
def k0_dev6 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v41 : BitVec 32 := Scalar.addi v2 c6_i32
  let c16_i32_36 : BitVec 32 := 16#32
  let v42 : BitVec 32 := Scalar.addi v41 c16_i32_36
  let c16_i32_37 : BitVec 32 := 16#32
  let v43 : BitVec 32 := Scalar.remsi v42 c16_i32_37
  let c1_i32_39 : BitVec 32 := 1#32
  let v44 : BitVec 32 := Scalar.muli v43 c1_i32_39
  let v45 : BitVec 32 := Scalar.addi c0_i32_40 v44
  v45.toNat
def k0_dev7 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v46 : BitVec 32 := Scalar.addi v2 c7_i32
  let c16_i32_41 : BitVec 32 := 16#32
  let v47 : BitVec 32 := Scalar.addi v46 c16_i32_41
  let c16_i32_42 : BitVec 32 := 16#32
  let v48 : BitVec 32 := Scalar.remsi v47 c16_i32_42
  let c1_i32_44 : BitVec 32 := 1#32
  let v49 : BitVec 32 := Scalar.muli v48 c1_i32_44
  let v50 : BitVec 32 := Scalar.addi c0_i32_45 v49
  v50.toNat
def k0_dev8 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v51 : BitVec 32 := Scalar.addi v2 c8_i32
  let c16_i32_46 : BitVec 32 := 16#32
  let v52 : BitVec 32 := Scalar.addi v51 c16_i32_46
  let c16_i32_47 : BitVec 32 := 16#32
  let v53 : BitVec 32 := Scalar.remsi v52 c16_i32_47
  let c1_i32_49 : BitVec 32 := 1#32
  let v54 : BitVec 32 := Scalar.muli v53 c1_i32_49
  let v55 : BitVec 32 := Scalar.addi c0_i32_50 v54
  v55.toNat
def k0_dev9 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v56 : BitVec 32 := Scalar.addi v2 c9_i32
  let c16_i32_51 : BitVec 32 := 16#32
  let v57 : BitVec 32 := Scalar.addi v56 c16_i32_51
  let c16_i32_52 : BitVec 32 := 16#32
  let v58 : BitVec 32 := Scalar.remsi v57 c16_i32_52
  let c1_i32_54 : BitVec 32 := 1#32
  let v59 : BitVec 32 := Scalar.muli v58 c1_i32_54
  let v60 : BitVec 32 := Scalar.addi c0_i32_55 v59
  v60.toNat
def k0_dev10 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v61 : BitVec 32 := Scalar.addi v2 c10_i32
  let c16_i32_56 : BitVec 32 := 16#32
  let v62 : BitVec 32 := Scalar.addi v61 c16_i32_56
  let c16_i32_57 : BitVec 32 := 16#32
  let v63 : BitVec 32 := Scalar.remsi v62 c16_i32_57
  let c1_i32_59 : BitVec 32 := 1#32
  let v64 : BitVec 32 := Scalar.muli v63 c1_i32_59
  let v65 : BitVec 32 := Scalar.addi c0_i32_60 v64
  v65.toNat
def k0_dev11 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v66 : BitVec 32 := Scalar.addi v2 c11_i32
  let c16_i32_61 : BitVec 32 := 16#32
  let v67 : BitVec 32 := Scalar.addi v66 c16_i32_61
  let c16_i32_62 : BitVec 32 := 16#32
  let v68 : BitVec 32 := Scalar.remsi v67 c16_i32_62
  let c1_i32_64 : BitVec 32 := 1#32
  let v69 : BitVec 32 := Scalar.muli v68 c1_i32_64
  let v70 : BitVec 32 := Scalar.addi c0_i32_65 v69
  v70.toNat
def k0_dev12 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v71 : BitVec 32 := Scalar.addi v2 c12_i32
  let c16_i32_66 : BitVec 32 := 16#32
  let v72 : BitVec 32 := Scalar.addi v71 c16_i32_66
  let c16_i32_67 : BitVec 32 := 16#32
  let v73 : BitVec 32 := Scalar.remsi v72 c16_i32_67
  let c1_i32_69 : BitVec 32 := 1#32
  let v74 : BitVec 32 := Scalar.muli v73 c1_i32_69
  let v75 : BitVec 32 := Scalar.addi c0_i32_70 v74
  v75.toNat
def k0_dev13 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v76 : BitVec 32 := Scalar.addi v2 c13_i32
  let c16_i32_71 : BitVec 32 := 16#32
  let v77 : BitVec 32 := Scalar.addi v76 c16_i32_71
  let c16_i32_72 : BitVec 32 := 16#32
  let v78 : BitVec 32 := Scalar.remsi v77 c16_i32_72
  let c1_i32_74 : BitVec 32 := 1#32
  let v79 : BitVec 32 := Scalar.muli v78 c1_i32_74
  let v80 : BitVec 32 := Scalar.addi c0_i32_75 v79
  v80.toNat
def k0_dev14 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v81 : BitVec 32 := Scalar.addi v2 c14_i32
  let c16_i32_76 : BitVec 32 := 16#32
  let v82 : BitVec 32 := Scalar.addi v81 c16_i32_76
  let c16_i32_77 : BitVec 32 := 16#32
  let v83 : BitVec 32 := Scalar.remsi v82 c16_i32_77
  let c1_i32_79 : BitVec 32 := 1#32
  let v84 : BitVec 32 := Scalar.muli v83 c1_i32_79
  let v85 : BitVec 32 := Scalar.addi c0_i32_80 v84
  v85.toNat
def k0_dev15 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v86 : BitVec 32 := Scalar.addi v2 c15_i32
  let c16_i32_81 : BitVec 32 := 16#32
  let v87 : BitVec 32 := Scalar.addi v86 c16_i32_81
  let c16_i32_82 : BitVec 32 := 16#32
  let v88 : BitVec 32 := Scalar.remsi v87 c16_i32_82
  let c1_i32_84 : BitVec 32 := 1#32
  let v89 : BitVec 32 := Scalar.muli v88 c1_i32_84
  let v90 : BitVec 32 := Scalar.addi c0_i32_85 v89
  v90.toNat
def k0_off1 (d0 : Dev nD) (c1_i32_87 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v91 : BitVec 32 := Scalar.addi v2 c1_i32_87
  let c16_i32_88 : BitVec 32 := 16#32
  let v92 : BitVec 32 := Scalar.addi v91 c16_i32_88
  let c16_i32_89 : BitVec 32 := 16#32
  let v93 : BitVec 32 := Scalar.remsi v92 c16_i32_89
  let c0_i32_92 : BitVec 32 := 0#32
  ![v93.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_91 : BitVec 32 := 0#32
  ![v2.toNat, 0]
def k0_off3 (d0 : Dev nD) : Fin 4 → Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let c0_i32_96 : BitVec 32 := 0#32
  ![0, v2.toNat, 0, 0]
def k0_off4 (d0 : Dev nD) (c1_i32_87 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v91 : BitVec 32 := Scalar.addi v2 c1_i32_87
  let c16_i32_88 : BitVec 32 := 16#32
  let v92 : BitVec 32 := Scalar.addi v91 c16_i32_88
  let c16_i32_89 : BitVec 32 := 16#32
  let v93 : BitVec 32 := Scalar.remsi v92 c16_i32_89
  let c256_i32 : BitVec 32 := 256#32
  let v94 : BitVec 32 := Scalar.muli v93 c256_i32
  let c0_i32_97 : BitVec 32 := 0#32
  ![v94.toNat, 0]
def k0_dev16 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v91 : BitVec 32 := Scalar.addi v2 c1_i32_87
  let c16_i32_88 : BitVec 32 := 16#32
  let v92 : BitVec 32 := Scalar.addi v91 c16_i32_88
  let c16_i32_89 : BitVec 32 := 16#32
  let v93 : BitVec 32 := Scalar.remsi v92 c16_i32_89
  let c1_i32_93 : BitVec 32 := 1#32
  let v95 : BitVec 32 := Scalar.muli v93 c1_i32_93
  let v96 : BitVec 32 := Scalar.addi c0_i32_94 v95
  v96.toNat
def k0_off5 (d0 : Dev nD) (c1_i32_87 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v91 : BitVec 32 := Scalar.addi v2 c1_i32_87
  let c16_i32_88 : BitVec 32 := 16#32
  let v92 : BitVec 32 := Scalar.addi v91 c16_i32_88
  let c16_i32_89 : BitVec 32 := 16#32
  let v93 : BitVec 32 := Scalar.remsi v92 c16_i32_89
  let c1_i32_101 : BitVec 32 := 1#32
  ![v93.toNat, 1]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_100 : BitVec 32 := 1#32
  ![v2.toNat, 1]
def k0_off7 (d0 : Dev nD) : Fin 4 → Nat :=
  let c1_i32_99 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_104 : BitVec 32 := 0#32
  let c0_i32_105 : BitVec 32 := 0#32
  ![1, v2.toNat, 0, 0]
def k0_dev17 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v91 : BitVec 32 := Scalar.addi v2 c1_i32_87
  let c16_i32_88 : BitVec 32 := 16#32
  let v92 : BitVec 32 := Scalar.addi v91 c16_i32_88
  let c16_i32_89 : BitVec 32 := 16#32
  let v93 : BitVec 32 := Scalar.remsi v92 c16_i32_89
  let c1_i32_102 : BitVec 32 := 1#32
  let v105 : BitVec 32 := Scalar.muli v93 c1_i32_102
  let v106 : BitVec 32 := Scalar.addi c0_i32_103 v105
  v106.toNat
def k0_dev18 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_107 : BitVec 32 := 2#32
  let v114 : BitVec 32 := Scalar.addi v2 c2_i32_107
  let c16_i32_108 : BitVec 32 := 16#32
  let v115 : BitVec 32 := Scalar.addi v114 c16_i32_108
  let c16_i32_109 : BitVec 32 := 16#32
  let v116 : BitVec 32 := Scalar.remsi v115 c16_i32_109
  let c1_i32_114 : BitVec 32 := 1#32
  let v118 : BitVec 32 := Scalar.muli v116 c1_i32_114
  let v119 : BitVec 32 := Scalar.addi c0_i32_115 v118
  v119.toNat
def k0_dev19 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_107 : BitVec 32 := 2#32
  let v114 : BitVec 32 := Scalar.addi v2 c2_i32_107
  let c16_i32_108 : BitVec 32 := 16#32
  let v115 : BitVec 32 := Scalar.addi v114 c16_i32_108
  let c16_i32_109 : BitVec 32 := 16#32
  let v116 : BitVec 32 := Scalar.remsi v115 c16_i32_109
  let c1_i32_123 : BitVec 32 := 1#32
  let v128 : BitVec 32 := Scalar.muli v116 c1_i32_123
  let v129 : BitVec 32 := Scalar.addi c0_i32_124 v128
  v129.toNat
def k0_dev20 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_128 : BitVec 32 := 3#32
  let v137 : BitVec 32 := Scalar.addi v2 c3_i32_128
  let c16_i32_129 : BitVec 32 := 16#32
  let v138 : BitVec 32 := Scalar.addi v137 c16_i32_129
  let c16_i32_130 : BitVec 32 := 16#32
  let v139 : BitVec 32 := Scalar.remsi v138 c16_i32_130
  let c1_i32_135 : BitVec 32 := 1#32
  let v141 : BitVec 32 := Scalar.muli v139 c1_i32_135
  let v142 : BitVec 32 := Scalar.addi c0_i32_136 v141
  v142.toNat
def k0_dev21 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_128 : BitVec 32 := 3#32
  let v137 : BitVec 32 := Scalar.addi v2 c3_i32_128
  let c16_i32_129 : BitVec 32 := 16#32
  let v138 : BitVec 32 := Scalar.addi v137 c16_i32_129
  let c16_i32_130 : BitVec 32 := 16#32
  let v139 : BitVec 32 := Scalar.remsi v138 c16_i32_130
  let c1_i32_144 : BitVec 32 := 1#32
  let v151 : BitVec 32 := Scalar.muli v139 c1_i32_144
  let v152 : BitVec 32 := Scalar.addi c0_i32_145 v151
  v152.toNat
def k0_dev22 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_149 : BitVec 32 := 4#32
  let v160 : BitVec 32 := Scalar.addi v2 c4_i32_149
  let c16_i32_150 : BitVec 32 := 16#32
  let v161 : BitVec 32 := Scalar.addi v160 c16_i32_150
  let c16_i32_151 : BitVec 32 := 16#32
  let v162 : BitVec 32 := Scalar.remsi v161 c16_i32_151
  let c1_i32_156 : BitVec 32 := 1#32
  let v164 : BitVec 32 := Scalar.muli v162 c1_i32_156
  let v165 : BitVec 32 := Scalar.addi c0_i32_157 v164
  v165.toNat
def k0_dev23 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_149 : BitVec 32 := 4#32
  let v160 : BitVec 32 := Scalar.addi v2 c4_i32_149
  let c16_i32_150 : BitVec 32 := 16#32
  let v161 : BitVec 32 := Scalar.addi v160 c16_i32_150
  let c16_i32_151 : BitVec 32 := 16#32
  let v162 : BitVec 32 := Scalar.remsi v161 c16_i32_151
  let c1_i32_165 : BitVec 32 := 1#32
  let v174 : BitVec 32 := Scalar.muli v162 c1_i32_165
  let v175 : BitVec 32 := Scalar.addi c0_i32_166 v174
  v175.toNat
def k0_dev24 (d0 : Dev nD) : Nat :=
  let c0_i32_178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_170 : BitVec 32 := 5#32
  let v183 : BitVec 32 := Scalar.addi v2 c5_i32_170
  let c16_i32_171 : BitVec 32 := 16#32
  let v184 : BitVec 32 := Scalar.addi v183 c16_i32_171
  let c16_i32_172 : BitVec 32 := 16#32
  let v185 : BitVec 32 := Scalar.remsi v184 c16_i32_172
  let c1_i32_177 : BitVec 32 := 1#32
  let v187 : BitVec 32 := Scalar.muli v185 c1_i32_177
  let v188 : BitVec 32 := Scalar.addi c0_i32_178 v187
  v188.toNat
def k0_dev25 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_170 : BitVec 32 := 5#32
  let v183 : BitVec 32 := Scalar.addi v2 c5_i32_170
  let c16_i32_171 : BitVec 32 := 16#32
  let v184 : BitVec 32 := Scalar.addi v183 c16_i32_171
  let c16_i32_172 : BitVec 32 := 16#32
  let v185 : BitVec 32 := Scalar.remsi v184 c16_i32_172
  let c1_i32_186 : BitVec 32 := 1#32
  let v197 : BitVec 32 := Scalar.muli v185 c1_i32_186
  let v198 : BitVec 32 := Scalar.addi c0_i32_187 v197
  v198.toNat
def k0_dev26 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_191 : BitVec 32 := 6#32
  let v206 : BitVec 32 := Scalar.addi v2 c6_i32_191
  let c16_i32_192 : BitVec 32 := 16#32
  let v207 : BitVec 32 := Scalar.addi v206 c16_i32_192
  let c16_i32_193 : BitVec 32 := 16#32
  let v208 : BitVec 32 := Scalar.remsi v207 c16_i32_193
  let c1_i32_198 : BitVec 32 := 1#32
  let v210 : BitVec 32 := Scalar.muli v208 c1_i32_198
  let v211 : BitVec 32 := Scalar.addi c0_i32_199 v210
  v211.toNat
def k0_dev27 (d0 : Dev nD) : Nat :=
  let c0_i32_208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_191 : BitVec 32 := 6#32
  let v206 : BitVec 32 := Scalar.addi v2 c6_i32_191
  let c16_i32_192 : BitVec 32 := 16#32
  let v207 : BitVec 32 := Scalar.addi v206 c16_i32_192
  let c16_i32_193 : BitVec 32 := 16#32
  let v208 : BitVec 32 := Scalar.remsi v207 c16_i32_193
  let c1_i32_207 : BitVec 32 := 1#32
  let v220 : BitVec 32 := Scalar.muli v208 c1_i32_207
  let v221 : BitVec 32 := Scalar.addi c0_i32_208 v220
  v221.toNat
def k0_dev28 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_212 : BitVec 32 := 7#32
  let v229 : BitVec 32 := Scalar.addi v2 c7_i32_212
  let c16_i32_213 : BitVec 32 := 16#32
  let v230 : BitVec 32 := Scalar.addi v229 c16_i32_213
  let c16_i32_214 : BitVec 32 := 16#32
  let v231 : BitVec 32 := Scalar.remsi v230 c16_i32_214
  let c1_i32_219 : BitVec 32 := 1#32
  let v233 : BitVec 32 := Scalar.muli v231 c1_i32_219
  let v234 : BitVec 32 := Scalar.addi c0_i32_220 v233
  v234.toNat
def k0_dev29 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_212 : BitVec 32 := 7#32
  let v229 : BitVec 32 := Scalar.addi v2 c7_i32_212
  let c16_i32_213 : BitVec 32 := 16#32
  let v230 : BitVec 32 := Scalar.addi v229 c16_i32_213
  let c16_i32_214 : BitVec 32 := 16#32
  let v231 : BitVec 32 := Scalar.remsi v230 c16_i32_214
  let c1_i32_228 : BitVec 32 := 1#32
  let v243 : BitVec 32 := Scalar.muli v231 c1_i32_228
  let v244 : BitVec 32 := Scalar.addi c0_i32_229 v243
  v244.toNat
def k0_dev30 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_233 : BitVec 32 := 8#32
  let v252 : BitVec 32 := Scalar.addi v2 c8_i32_233
  let c16_i32_234 : BitVec 32 := 16#32
  let v253 : BitVec 32 := Scalar.addi v252 c16_i32_234
  let c16_i32_235 : BitVec 32 := 16#32
  let v254 : BitVec 32 := Scalar.remsi v253 c16_i32_235
  let c1_i32_240 : BitVec 32 := 1#32
  let v256 : BitVec 32 := Scalar.muli v254 c1_i32_240
  let v257 : BitVec 32 := Scalar.addi c0_i32_241 v256
  v257.toNat
def k0_dev31 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_233 : BitVec 32 := 8#32
  let v252 : BitVec 32 := Scalar.addi v2 c8_i32_233
  let c16_i32_234 : BitVec 32 := 16#32
  let v253 : BitVec 32 := Scalar.addi v252 c16_i32_234
  let c16_i32_235 : BitVec 32 := 16#32
  let v254 : BitVec 32 := Scalar.remsi v253 c16_i32_235
  let c1_i32_249 : BitVec 32 := 1#32
  let v266 : BitVec 32 := Scalar.muli v254 c1_i32_249
  let v267 : BitVec 32 := Scalar.addi c0_i32_250 v266
  v267.toNat
def k0_dev32 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_254 : BitVec 32 := 9#32
  let v275 : BitVec 32 := Scalar.addi v2 c9_i32_254
  let c16_i32_255 : BitVec 32 := 16#32
  let v276 : BitVec 32 := Scalar.addi v275 c16_i32_255
  let c16_i32_256 : BitVec 32 := 16#32
  let v277 : BitVec 32 := Scalar.remsi v276 c16_i32_256
  let c1_i32_261 : BitVec 32 := 1#32
  let v279 : BitVec 32 := Scalar.muli v277 c1_i32_261
  let v280 : BitVec 32 := Scalar.addi c0_i32_262 v279
  v280.toNat
def k0_dev33 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_254 : BitVec 32 := 9#32
  let v275 : BitVec 32 := Scalar.addi v2 c9_i32_254
  let c16_i32_255 : BitVec 32 := 16#32
  let v276 : BitVec 32 := Scalar.addi v275 c16_i32_255
  let c16_i32_256 : BitVec 32 := 16#32
  let v277 : BitVec 32 := Scalar.remsi v276 c16_i32_256
  let c1_i32_270 : BitVec 32 := 1#32
  let v289 : BitVec 32 := Scalar.muli v277 c1_i32_270
  let v290 : BitVec 32 := Scalar.addi c0_i32_271 v289
  v290.toNat
def k0_dev34 (d0 : Dev nD) : Nat :=
  let c0_i32_283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_275 : BitVec 32 := 10#32
  let v298 : BitVec 32 := Scalar.addi v2 c10_i32_275
  let c16_i32_276 : BitVec 32 := 16#32
  let v299 : BitVec 32 := Scalar.addi v298 c16_i32_276
  let c16_i32_277 : BitVec 32 := 16#32
  let v300 : BitVec 32 := Scalar.remsi v299 c16_i32_277
  let c1_i32_282 : BitVec 32 := 1#32
  let v302 : BitVec 32 := Scalar.muli v300 c1_i32_282
  let v303 : BitVec 32 := Scalar.addi c0_i32_283 v302
  v303.toNat
def k0_dev35 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_275 : BitVec 32 := 10#32
  let v298 : BitVec 32 := Scalar.addi v2 c10_i32_275
  let c16_i32_276 : BitVec 32 := 16#32
  let v299 : BitVec 32 := Scalar.addi v298 c16_i32_276
  let c16_i32_277 : BitVec 32 := 16#32
  let v300 : BitVec 32 := Scalar.remsi v299 c16_i32_277
  let c1_i32_291 : BitVec 32 := 1#32
  let v312 : BitVec 32 := Scalar.muli v300 c1_i32_291
  let v313 : BitVec 32 := Scalar.addi c0_i32_292 v312
  v313.toNat
def k0_dev36 (d0 : Dev nD) : Nat :=
  let c0_i32_304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_296 : BitVec 32 := 11#32
  let v321 : BitVec 32 := Scalar.addi v2 c11_i32_296
  let c16_i32_297 : BitVec 32 := 16#32
  let v322 : BitVec 32 := Scalar.addi v321 c16_i32_297
  let c16_i32_298 : BitVec 32 := 16#32
  let v323 : BitVec 32 := Scalar.remsi v322 c16_i32_298
  let c1_i32_303 : BitVec 32 := 1#32
  let v325 : BitVec 32 := Scalar.muli v323 c1_i32_303
  let v326 : BitVec 32 := Scalar.addi c0_i32_304 v325
  v326.toNat
def k0_dev37 (d0 : Dev nD) : Nat :=
  let c0_i32_313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_296 : BitVec 32 := 11#32
  let v321 : BitVec 32 := Scalar.addi v2 c11_i32_296
  let c16_i32_297 : BitVec 32 := 16#32
  let v322 : BitVec 32 := Scalar.addi v321 c16_i32_297
  let c16_i32_298 : BitVec 32 := 16#32
  let v323 : BitVec 32 := Scalar.remsi v322 c16_i32_298
  let c1_i32_312 : BitVec 32 := 1#32
  let v335 : BitVec 32 := Scalar.muli v323 c1_i32_312
  let v336 : BitVec 32 := Scalar.addi c0_i32_313 v335
  v336.toNat
def k0_dev38 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_317 : BitVec 32 := 12#32
  let v344 : BitVec 32 := Scalar.addi v2 c12_i32_317
  let c16_i32_318 : BitVec 32 := 16#32
  let v345 : BitVec 32 := Scalar.addi v344 c16_i32_318
  let c16_i32_319 : BitVec 32 := 16#32
  let v346 : BitVec 32 := Scalar.remsi v345 c16_i32_319
  let c1_i32_324 : BitVec 32 := 1#32
  let v348 : BitVec 32 := Scalar.muli v346 c1_i32_324
  let v349 : BitVec 32 := Scalar.addi c0_i32_325 v348
  v349.toNat
def k0_dev39 (d0 : Dev nD) : Nat :=
  let c0_i32_334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_317 : BitVec 32 := 12#32
  let v344 : BitVec 32 := Scalar.addi v2 c12_i32_317
  let c16_i32_318 : BitVec 32 := 16#32
  let v345 : BitVec 32 := Scalar.addi v344 c16_i32_318
  let c16_i32_319 : BitVec 32 := 16#32
  let v346 : BitVec 32 := Scalar.remsi v345 c16_i32_319
  let c1_i32_333 : BitVec 32 := 1#32
  let v358 : BitVec 32 := Scalar.muli v346 c1_i32_333
  let v359 : BitVec 32 := Scalar.addi c0_i32_334 v358
  v359.toNat
def k0_dev40 (d0 : Dev nD) : Nat :=
  let c0_i32_346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_338 : BitVec 32 := 13#32
  let v367 : BitVec 32 := Scalar.addi v2 c13_i32_338
  let c16_i32_339 : BitVec 32 := 16#32
  let v368 : BitVec 32 := Scalar.addi v367 c16_i32_339
  let c16_i32_340 : BitVec 32 := 16#32
  let v369 : BitVec 32 := Scalar.remsi v368 c16_i32_340
  let c1_i32_345 : BitVec 32 := 1#32
  let v371 : BitVec 32 := Scalar.muli v369 c1_i32_345
  let v372 : BitVec 32 := Scalar.addi c0_i32_346 v371
  v372.toNat
def k0_dev41 (d0 : Dev nD) : Nat :=
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_338 : BitVec 32 := 13#32
  let v367 : BitVec 32 := Scalar.addi v2 c13_i32_338
  let c16_i32_339 : BitVec 32 := 16#32
  let v368 : BitVec 32 := Scalar.addi v367 c16_i32_339
  let c16_i32_340 : BitVec 32 := 16#32
  let v369 : BitVec 32 := Scalar.remsi v368 c16_i32_340
  let c1_i32_354 : BitVec 32 := 1#32
  let v381 : BitVec 32 := Scalar.muli v369 c1_i32_354
  let v382 : BitVec 32 := Scalar.addi c0_i32_355 v381
  v382.toNat
def k0_dev42 (d0 : Dev nD) : Nat :=
  let c0_i32_367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_359 : BitVec 32 := 14#32
  let v390 : BitVec 32 := Scalar.addi v2 c14_i32_359
  let c16_i32_360 : BitVec 32 := 16#32
  let v391 : BitVec 32 := Scalar.addi v390 c16_i32_360
  let c16_i32_361 : BitVec 32 := 16#32
  let v392 : BitVec 32 := Scalar.remsi v391 c16_i32_361
  let c1_i32_366 : BitVec 32 := 1#32
  let v394 : BitVec 32 := Scalar.muli v392 c1_i32_366
  let v395 : BitVec 32 := Scalar.addi c0_i32_367 v394
  v395.toNat
def k0_dev43 (d0 : Dev nD) : Nat :=
  let c0_i32_376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_359 : BitVec 32 := 14#32
  let v390 : BitVec 32 := Scalar.addi v2 c14_i32_359
  let c16_i32_360 : BitVec 32 := 16#32
  let v391 : BitVec 32 := Scalar.addi v390 c16_i32_360
  let c16_i32_361 : BitVec 32 := 16#32
  let v392 : BitVec 32 := Scalar.remsi v391 c16_i32_361
  let c1_i32_375 : BitVec 32 := 1#32
  let v404 : BitVec 32 := Scalar.muli v392 c1_i32_375
  let v405 : BitVec 32 := Scalar.addi c0_i32_376 v404
  v405.toNat
def k0_dev44 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_380 : BitVec 32 := 15#32
  let v413 : BitVec 32 := Scalar.addi v2 c15_i32_380
  let c16_i32_381 : BitVec 32 := 16#32
  let v414 : BitVec 32 := Scalar.addi v413 c16_i32_381
  let c16_i32_382 : BitVec 32 := 16#32
  let v415 : BitVec 32 := Scalar.remsi v414 c16_i32_382
  let c1_i32_387 : BitVec 32 := 1#32
  let v417 : BitVec 32 := Scalar.muli v415 c1_i32_387
  let v418 : BitVec 32 := Scalar.addi c0_i32_388 v417
  v418.toNat
def k0_dev45 (d0 : Dev nD) : Nat :=
  let c0_i32_397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_380 : BitVec 32 := 15#32
  let v413 : BitVec 32 := Scalar.addi v2 c15_i32_380
  let c16_i32_381 : BitVec 32 := 16#32
  let v414 : BitVec 32 := Scalar.addi v413 c16_i32_381
  let c16_i32_382 : BitVec 32 := 16#32
  let v415 : BitVec 32 := Scalar.remsi v414 c16_i32_382
  let c1_i32_396 : BitVec 32 := 1#32
  let v427 : BitVec 32 := Scalar.muli v415 c1_i32_396
  let v428 : BitVec 32 := Scalar.addi c0_i32_397 v427
  v428.toNat
def k0_off8 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_402 : BitVec 32 := 0#32
  let c0_i32_407 : BitVec 32 := 0#32
  let c0_i32_408 : BitVec 32 := 0#32
  ![v2.toNat, 0, 0, 0]
def k0_dev46 (d0 : Dev nD) : Nat :=
  let c0_i32_406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_405 : BitVec 32 := 1#32
  let v436 : BitVec 32 := Scalar.muli v5 c1_i32_405
  let v437 : BitVec 32 := Scalar.addi c0_i32_406 v436
  v437.toNat
def k0_off9 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_412 : BitVec 32 := 1#32
  let c0_i32_417 : BitVec 32 := 0#32
  let c0_i32_418 : BitVec 32 := 0#32
  ![v2.toNat, 1, 0, 0]
def k0_dev47 (d0 : Dev nD) : Nat :=
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.remsi v2 c2_i32
  let c1_i32_3 : BitVec 32 := 1#32
  let v7 : BitVec 1 := Scalar.cmpi .eq v6 c1_i32_3
  let c1_i32_4 : BitVec 32 := 1#32
  let v8 : BitVec 32 := Scalar.subi v2 c1_i32_4
  let c16_i32_5 : BitVec 32 := 16#32
  let v9 : BitVec 32 := Scalar.addi v8 c16_i32_5
  let c16_i32_6 : BitVec 32 := 16#32
  let v10 : BitVec 32 := Scalar.remsi v9 c16_i32_6
  let c3_i32 : BitVec 32 := 3#32
  let v11 : BitVec 32 := Scalar.addi v2 c3_i32
  let c16_i32_7 : BitVec 32 := 16#32
  let v12 : BitVec 32 := Scalar.addi v11 c16_i32_7
  let c16_i32_8 : BitVec 32 := 16#32
  let v13 : BitVec 32 := Scalar.remsi v12 c16_i32_8
  let v14 : BitVec 32 := Scalar.select v7 v10 v13
  let c1_i32_415 : BitVec 32 := 1#32
  let v446 : BitVec 32 := Scalar.muli v14 c1_i32_415
  let v447 : BitVec 32 := Scalar.addi c0_i32_416 v446
  v447.toNat
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_421 : BitVec 32 := 256#32
  let v456 : BitVec 32 := Scalar.muli v2 c256_i32_421
  let v457 : Index := Scalar.indexCast v456
  let c0 : Index := 0#32
  ![v457.toNat, 0]
def k0_off11 (d0 : Dev nD) (c0_i32_431 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v471 : BitVec 32 := Scalar.subi v2 c0_i32_431
  let c1_i32_432 : BitVec 32 := 1#32
  let v472 : BitVec 32 := Scalar.subi v471 c1_i32_432
  let c16_i32_433 : BitVec 32 := 16#32
  let v473 : BitVec 32 := Scalar.addi v472 c16_i32_433
  let c16_i32_434 : BitVec 32 := 16#32
  let v474 : BitVec 32 := Scalar.remsi v473 c16_i32_434
  let c0_i32_443 : BitVec 32 := 0#32
  ![v474.toNat, 0]
def k0_off12 (d0 : Dev nD) (c0_i32_431 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v471 : BitVec 32 := Scalar.subi v2 c0_i32_431
  let c1_i32_432 : BitVec 32 := 1#32
  let v472 : BitVec 32 := Scalar.subi v471 c1_i32_432
  let c16_i32_433 : BitVec 32 := 16#32
  let v473 : BitVec 32 := Scalar.addi v472 c16_i32_433
  let c16_i32_434 : BitVec 32 := 16#32
  let v474 : BitVec 32 := Scalar.remsi v473 c16_i32_434
  let c0_i32_442 : BitVec 32 := 0#32
  let c0_i32_447 : BitVec 32 := 0#32
  let c0_i32_448 : BitVec 32 := 0#32
  ![v474.toNat, 0, 0, 0]
def k0_dev48 (d0 : Dev nD) : Nat :=
  let c0_i32_456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_455 : BitVec 32 := 1#32
  let v489 : BitVec 32 := Scalar.muli v5 c1_i32_455
  let v490 : BitVec 32 := Scalar.addi c0_i32_456 v489
  v490.toNat
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c1_i32_463 : BitVec 32 := 1#32
  ![v480.toNat, 1]
def k0_off14 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c1_i32_462 : BitVec 32 := 1#32
  let c0_i32_467 : BitVec 32 := 0#32
  let c0_i32_468 : BitVec 32 := 0#32
  ![v480.toNat, 1, 0, 0]
def k0_dev49 (d0 : Dev nD) : Nat :=
  let c0_i32_476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.remsi v2 c2_i32
  let c1_i32_3 : BitVec 32 := 1#32
  let v7 : BitVec 1 := Scalar.cmpi .eq v6 c1_i32_3
  let c1_i32_4 : BitVec 32 := 1#32
  let v8 : BitVec 32 := Scalar.subi v2 c1_i32_4
  let c16_i32_5 : BitVec 32 := 16#32
  let v9 : BitVec 32 := Scalar.addi v8 c16_i32_5
  let c16_i32_6 : BitVec 32 := 16#32
  let v10 : BitVec 32 := Scalar.remsi v9 c16_i32_6
  let c3_i32 : BitVec 32 := 3#32
  let v11 : BitVec 32 := Scalar.addi v2 c3_i32
  let c16_i32_7 : BitVec 32 := 16#32
  let v12 : BitVec 32 := Scalar.addi v11 c16_i32_7
  let c16_i32_8 : BitVec 32 := 16#32
  let v13 : BitVec 32 := Scalar.remsi v12 c16_i32_8
  let v14 : BitVec 32 := Scalar.select v7 v10 v13
  let c1_i32_475 : BitVec 32 := 1#32
  let v507 : BitVec 32 := Scalar.muli v14 c1_i32_475
  let v508 : BitVec 32 := Scalar.addi c0_i32_476 v507
  v508.toNat
def k0_off15 (d0 : Dev nD) (c0_i32_431 : BitVec 32) : Fin 4 → Nat :=
  let c0_i32_481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v471 : BitVec 32 := Scalar.subi v2 c0_i32_431
  let c1_i32_432 : BitVec 32 := 1#32
  let v472 : BitVec 32 := Scalar.subi v471 c1_i32_432
  let c16_i32_433 : BitVec 32 := 16#32
  let v473 : BitVec 32 := Scalar.addi v472 c16_i32_433
  let c16_i32_434 : BitVec 32 := 16#32
  let v474 : BitVec 32 := Scalar.remsi v473 c16_i32_434
  let c0_i32_486 : BitVec 32 := 0#32
  let c0_i32_487 : BitVec 32 := 0#32
  ![0, v474.toNat, 0, 0]
def k0_off16 (d0 : Dev nD) (c0_i32_431 : BitVec 32) : Fin 4 → Nat :=
  let c0_490 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v471 : BitVec 32 := Scalar.subi v2 c0_i32_431
  let c1_i32_432 : BitVec 32 := 1#32
  let v472 : BitVec 32 := Scalar.subi v471 c1_i32_432
  let c16_i32_433 : BitVec 32 := 16#32
  let v473 : BitVec 32 := Scalar.addi v472 c16_i32_433
  let c16_i32_434 : BitVec 32 := 16#32
  let v474 : BitVec 32 := Scalar.remsi v473 c16_i32_434
  let v524 : Index := Scalar.indexCast v474
  let c0_491 : Index := 0#32
  let c0_492 : Index := 0#32
  ![0, v524.toNat, 0, 0]
def k0_off17 (d0 : Dev nD) (c0_i32_431 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v471 : BitVec 32 := Scalar.subi v2 c0_i32_431
  let c1_i32_432 : BitVec 32 := 1#32
  let v472 : BitVec 32 := Scalar.subi v471 c1_i32_432
  let c16_i32_433 : BitVec 32 := 16#32
  let v473 : BitVec 32 := Scalar.addi v472 c16_i32_433
  let c16_i32_434 : BitVec 32 := 16#32
  let v474 : BitVec 32 := Scalar.remsi v473 c16_i32_434
  let v528 : Index := Scalar.indexCast v474
  let c0_493 : Index := 0#32
  let c0_494 : Index := 0#32
  let c0_495 : Index := 0#32
  ![v528.toNat, 0, 0, 0]
def k0_off18 (d0 : Dev nD) : Fin 4 → Nat :=
  let c1_i32_501 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c0_i32_506 : BitVec 32 := 0#32
  let c0_i32_507 : BitVec 32 := 0#32
  ![1, v480.toNat, 0, 0]
def k0_off19 (d0 : Dev nD) : Fin 4 → Nat :=
  let c1_510 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let v544 : Index := Scalar.indexCast v480
  let c0_511 : Index := 0#32
  let c0_512 : Index := 0#32
  ![1, v544.toNat, 0, 0]
def k0_off20 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let v548 : Index := Scalar.indexCast v480
  let c1_513 : Index := 1#32
  let c0_514 : Index := 0#32
  let c0_515 : Index := 0#32
  ![v548.toNat, 1, 0, 0]
def k0_dev50 (d0 : Dev nD) : Nat :=
  let c0_i32_546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_545 : BitVec 32 := 1#32
  let v575 : BitVec 32 := Scalar.muli v5 c1_i32_545
  let v576 : BitVec 32 := Scalar.addi c0_i32_546 v575
  v576.toNat
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c1_i32_553 : BitVec 32 := 1#32
  ![v566.toNat, 1]
def k0_off22 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c1_i32_552 : BitVec 32 := 1#32
  let c0_i32_557 : BitVec 32 := 0#32
  let c0_i32_558 : BitVec 32 := 0#32
  ![v566.toNat, 1, 0, 0]
def k0_dev51 (d0 : Dev nD) : Nat :=
  let c0_i32_566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.remsi v2 c2_i32
  let c1_i32_3 : BitVec 32 := 1#32
  let v7 : BitVec 1 := Scalar.cmpi .eq v6 c1_i32_3
  let c1_i32_4 : BitVec 32 := 1#32
  let v8 : BitVec 32 := Scalar.subi v2 c1_i32_4
  let c16_i32_5 : BitVec 32 := 16#32
  let v9 : BitVec 32 := Scalar.addi v8 c16_i32_5
  let c16_i32_6 : BitVec 32 := 16#32
  let v10 : BitVec 32 := Scalar.remsi v9 c16_i32_6
  let c3_i32 : BitVec 32 := 3#32
  let v11 : BitVec 32 := Scalar.addi v2 c3_i32
  let c16_i32_7 : BitVec 32 := 16#32
  let v12 : BitVec 32 := Scalar.addi v11 c16_i32_7
  let c16_i32_8 : BitVec 32 := 16#32
  let v13 : BitVec 32 := Scalar.remsi v12 c16_i32_8
  let v14 : BitVec 32 := Scalar.select v7 v10 v13
  let c1_i32_565 : BitVec 32 := 1#32
  let v593 : BitVec 32 := Scalar.muli v14 c1_i32_565
  let v594 : BitVec 32 := Scalar.addi c0_i32_566 v593
  v594.toNat
def k0_off23 (d0 : Dev nD) : Fin 4 → Nat :=
  let c1_i32_591 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c0_i32_596 : BitVec 32 := 0#32
  let c0_i32_597 : BitVec 32 := 0#32
  ![1, v566.toNat, 0, 0]
def k0_off24 (d0 : Dev nD) : Fin 4 → Nat :=
  let c1_600 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let v630 : Index := Scalar.indexCast v566
  let c0_601 : Index := 0#32
  let c0_602 : Index := 0#32
  ![1, v630.toNat, 0, 0]
def k0_off25 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let v634 : Index := Scalar.indexCast v566
  let c1_603 : Index := 1#32
  let c0_604 : Index := 0#32
  let c0_605 : Index := 0#32
  ![v634.toNat, 1, 0, 0]
def k0_dev52 (d0 : Dev nD) : Nat :=
  let c0_i32_636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_635 : BitVec 32 := 1#32
  let v661 : BitVec 32 := Scalar.muli v5 c1_i32_635
  let v662 : BitVec 32 := Scalar.addi c0_i32_636 v661
  v662.toNat
def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c1_i32_643 : BitVec 32 := 1#32
  ![v652.toNat, 1]
def k0_off27 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c1_i32_642 : BitVec 32 := 1#32
  let c0_i32_647 : BitVec 32 := 0#32
  let c0_i32_648 : BitVec 32 := 0#32
  ![v652.toNat, 1, 0, 0]
def k0_dev53 (d0 : Dev nD) : Nat :=
  let c0_i32_656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.remsi v2 c2_i32
  let c1_i32_3 : BitVec 32 := 1#32
  let v7 : BitVec 1 := Scalar.cmpi .eq v6 c1_i32_3
  let c1_i32_4 : BitVec 32 := 1#32
  let v8 : BitVec 32 := Scalar.subi v2 c1_i32_4
  let c16_i32_5 : BitVec 32 := 16#32
  let v9 : BitVec 32 := Scalar.addi v8 c16_i32_5
  let c16_i32_6 : BitVec 32 := 16#32
  let v10 : BitVec 32 := Scalar.remsi v9 c16_i32_6
  let c3_i32 : BitVec 32 := 3#32
  let v11 : BitVec 32 := Scalar.addi v2 c3_i32
  let c16_i32_7 : BitVec 32 := 16#32
  let v12 : BitVec 32 := Scalar.addi v11 c16_i32_7
  let c16_i32_8 : BitVec 32 := 16#32
  let v13 : BitVec 32 := Scalar.remsi v12 c16_i32_8
  let v14 : BitVec 32 := Scalar.select v7 v10 v13
  let c1_i32_655 : BitVec 32 := 1#32
  let v679 : BitVec 32 := Scalar.muli v14 c1_i32_655
  let v680 : BitVec 32 := Scalar.addi c0_i32_656 v679
  v680.toNat
def k0_off28 (d0 : Dev nD) : Fin 4 → Nat :=
  let c1_i32_681 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c0_i32_686 : BitVec 32 := 0#32
  let c0_i32_687 : BitVec 32 := 0#32
  ![1, v652.toNat, 0, 0]
def k0_off29 (d0 : Dev nD) : Fin 4 → Nat :=
  let c1_690 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let v716 : Index := Scalar.indexCast v652
  let c0_691 : Index := 0#32
  let c0_692 : Index := 0#32
  ![1, v716.toNat, 0, 0]
def k0_off30 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let v720 : Index := Scalar.indexCast v652
  let c1_693 : Index := 1#32
  let c0_694 : Index := 0#32
  let c0_695 : Index := 0#32
  ![v720.toNat, 1, 0, 0]
def k0_dev54 (d0 : Dev nD) : Nat :=
  let c0_i32_726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_725 : BitVec 32 := 1#32
  let v747 : BitVec 32 := Scalar.muli v5 c1_i32_725
  let v748 : BitVec 32 := Scalar.addi c0_i32_726 v747
  v748.toNat
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c1_i32_733 : BitVec 32 := 1#32
  ![v738.toNat, 1]
def k0_off32 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c1_i32_732 : BitVec 32 := 1#32
  let c0_i32_737 : BitVec 32 := 0#32
  let c0_i32_738 : BitVec 32 := 0#32
  ![v738.toNat, 1, 0, 0]
def k0_dev55 (d0 : Dev nD) : Nat :=
  let c0_i32_746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.remsi v2 c2_i32
  let c1_i32_3 : BitVec 32 := 1#32
  let v7 : BitVec 1 := Scalar.cmpi .eq v6 c1_i32_3
  let c1_i32_4 : BitVec 32 := 1#32
  let v8 : BitVec 32 := Scalar.subi v2 c1_i32_4
  let c16_i32_5 : BitVec 32 := 16#32
  let v9 : BitVec 32 := Scalar.addi v8 c16_i32_5
  let c16_i32_6 : BitVec 32 := 16#32
  let v10 : BitVec 32 := Scalar.remsi v9 c16_i32_6
  let c3_i32 : BitVec 32 := 3#32
  let v11 : BitVec 32 := Scalar.addi v2 c3_i32
  let c16_i32_7 : BitVec 32 := 16#32
  let v12 : BitVec 32 := Scalar.addi v11 c16_i32_7
  let c16_i32_8 : BitVec 32 := 16#32
  let v13 : BitVec 32 := Scalar.remsi v12 c16_i32_8
  let v14 : BitVec 32 := Scalar.select v7 v10 v13
  let c1_i32_745 : BitVec 32 := 1#32
  let v765 : BitVec 32 := Scalar.muli v14 c1_i32_745
  let v766 : BitVec 32 := Scalar.addi c0_i32_746 v765
  v766.toNat
def k0_off33 (d0 : Dev nD) : Fin 4 → Nat :=
  let c1_i32_771 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c0_i32_776 : BitVec 32 := 0#32
  let c0_i32_777 : BitVec 32 := 0#32
  ![1, v738.toNat, 0, 0]
def k0_off34 (d0 : Dev nD) : Fin 4 → Nat :=
  let c1_780 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let v802 : Index := Scalar.indexCast v738
  let c0_781 : Index := 0#32
  let c0_782 : Index := 0#32
  ![1, v802.toNat, 0, 0]
def k0_off35 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let v806 : Index := Scalar.indexCast v738
  let c1_783 : Index := 1#32
  let c0_784 : Index := 0#32
  let c0_785 : Index := 0#32
  ![v806.toNat, 1, 0, 0]
def k0_dev56 (d0 : Dev nD) : Nat :=
  let c0_i32_816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_815 : BitVec 32 := 1#32
  let v833 : BitVec 32 := Scalar.muli v5 c1_i32_815
  let v834 : BitVec 32 := Scalar.addi c0_i32_816 v833
  v834.toNat
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c1_i32_823 : BitVec 32 := 1#32
  ![v824.toNat, 1]
def k0_off37 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c1_i32_822 : BitVec 32 := 1#32
  let c0_i32_827 : BitVec 32 := 0#32
  let c0_i32_828 : BitVec 32 := 0#32
  ![v824.toNat, 1, 0, 0]
def k0_dev57 (d0 : Dev nD) : Nat :=
  let c0_i32_836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.remsi v2 c2_i32
  let c1_i32_3 : BitVec 32 := 1#32
  let v7 : BitVec 1 := Scalar.cmpi .eq v6 c1_i32_3
  let c1_i32_4 : BitVec 32 := 1#32
  let v8 : BitVec 32 := Scalar.subi v2 c1_i32_4
  let c16_i32_5 : BitVec 32 := 16#32
  let v9 : BitVec 32 := Scalar.addi v8 c16_i32_5
  let c16_i32_6 : BitVec 32 := 16#32
  let v10 : BitVec 32 := Scalar.remsi v9 c16_i32_6
  let c3_i32 : BitVec 32 := 3#32
  let v11 : BitVec 32 := Scalar.addi v2 c3_i32
  let c16_i32_7 : BitVec 32 := 16#32
  let v12 : BitVec 32 := Scalar.addi v11 c16_i32_7
  let c16_i32_8 : BitVec 32 := 16#32
  let v13 : BitVec 32 := Scalar.remsi v12 c16_i32_8
  let v14 : BitVec 32 := Scalar.select v7 v10 v13
  let c1_i32_835 : BitVec 32 := 1#32
  let v851 : BitVec 32 := Scalar.muli v14 c1_i32_835
  let v852 : BitVec 32 := Scalar.addi c0_i32_836 v851
  v852.toNat
def k0_off38 (d0 : Dev nD) : Fin 4 → Nat :=
  let c1_i32_861 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c0_i32_866 : BitVec 32 := 0#32
  let c0_i32_867 : BitVec 32 := 0#32
  ![1, v824.toNat, 0, 0]
def k0_off39 (d0 : Dev nD) : Fin 4 → Nat :=
  let c1_870 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let v888 : Index := Scalar.indexCast v824
  let c0_871 : Index := 0#32
  let c0_872 : Index := 0#32
  ![1, v888.toNat, 0, 0]
def k0_off40 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let v892 : Index := Scalar.indexCast v824
  let c1_873 : Index := 1#32
  let c0_874 : Index := 0#32
  let c0_875 : Index := 0#32
  ![v892.toNat, 1, 0, 0]
def k0_dev58 (d0 : Dev nD) : Nat :=
  let c0_i32_906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_905 : BitVec 32 := 1#32
  let v919 : BitVec 32 := Scalar.muli v5 c1_i32_905
  let v920 : BitVec 32 := Scalar.addi c0_i32_906 v919
  v920.toNat
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c1_i32_913 : BitVec 32 := 1#32
  ![v910.toNat, 1]
def k0_off42 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c1_i32_912 : BitVec 32 := 1#32
  let c0_i32_917 : BitVec 32 := 0#32
  let c0_i32_918 : BitVec 32 := 0#32
  ![v910.toNat, 1, 0, 0]
def k0_dev59 (d0 : Dev nD) : Nat :=
  let c0_i32_926 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.remsi v2 c2_i32
  let c1_i32_3 : BitVec 32 := 1#32
  let v7 : BitVec 1 := Scalar.cmpi .eq v6 c1_i32_3
  let c1_i32_4 : BitVec 32 := 1#32
  let v8 : BitVec 32 := Scalar.subi v2 c1_i32_4
  let c16_i32_5 : BitVec 32 := 16#32
  let v9 : BitVec 32 := Scalar.addi v8 c16_i32_5
  let c16_i32_6 : BitVec 32 := 16#32
  let v10 : BitVec 32 := Scalar.remsi v9 c16_i32_6
  let c3_i32 : BitVec 32 := 3#32
  let v11 : BitVec 32 := Scalar.addi v2 c3_i32
  let c16_i32_7 : BitVec 32 := 16#32
  let v12 : BitVec 32 := Scalar.addi v11 c16_i32_7
  let c16_i32_8 : BitVec 32 := 16#32
  let v13 : BitVec 32 := Scalar.remsi v12 c16_i32_8
  let v14 : BitVec 32 := Scalar.select v7 v10 v13
  let c1_i32_925 : BitVec 32 := 1#32
  let v937 : BitVec 32 := Scalar.muli v14 c1_i32_925
  let v938 : BitVec 32 := Scalar.addi c0_i32_926 v937
  v938.toNat
def k0_off43 (d0 : Dev nD) : Fin 4 → Nat :=
  let c1_i32_951 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c0_i32_956 : BitVec 32 := 0#32
  let c0_i32_957 : BitVec 32 := 0#32
  ![1, v910.toNat, 0, 0]
def k0_off44 (d0 : Dev nD) : Fin 4 → Nat :=
  let c1_960 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let v974 : Index := Scalar.indexCast v910
  let c0_961 : Index := 0#32
  let c0_962 : Index := 0#32
  ![1, v974.toNat, 0, 0]
def k0_off45 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let v978 : Index := Scalar.indexCast v910
  let c1_963 : Index := 1#32
  let c0_964 : Index := 0#32
  let c0_965 : Index := 0#32
  ![v978.toNat, 1, 0, 0]
def k0_dev60 (d0 : Dev nD) : Nat :=
  let c0_i32_996 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_995 : BitVec 32 := 1#32
  let v1005 : BitVec 32 := Scalar.muli v5 c1_i32_995
  let v1006 : BitVec 32 := Scalar.addi c0_i32_996 v1005
  v1006.toNat
def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c1_i32_1003 : BitVec 32 := 1#32
  ![v996.toNat, 1]
def k0_off47 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c1_i32_1002 : BitVec 32 := 1#32
  let c0_i32_1007 : BitVec 32 := 0#32
  let c0_i32_1008 : BitVec 32 := 0#32
  ![v996.toNat, 1, 0, 0]
def k0_dev61 (d0 : Dev nD) : Nat :=
  let c0_i32_1016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.remsi v2 c2_i32
  let c1_i32_3 : BitVec 32 := 1#32
  let v7 : BitVec 1 := Scalar.cmpi .eq v6 c1_i32_3
  let c1_i32_4 : BitVec 32 := 1#32
  let v8 : BitVec 32 := Scalar.subi v2 c1_i32_4
  let c16_i32_5 : BitVec 32 := 16#32
  let v9 : BitVec 32 := Scalar.addi v8 c16_i32_5
  let c16_i32_6 : BitVec 32 := 16#32
  let v10 : BitVec 32 := Scalar.remsi v9 c16_i32_6
  let c3_i32 : BitVec 32 := 3#32
  let v11 : BitVec 32 := Scalar.addi v2 c3_i32
  let c16_i32_7 : BitVec 32 := 16#32
  let v12 : BitVec 32 := Scalar.addi v11 c16_i32_7
  let c16_i32_8 : BitVec 32 := 16#32
  let v13 : BitVec 32 := Scalar.remsi v12 c16_i32_8
  let v14 : BitVec 32 := Scalar.select v7 v10 v13
  let c1_i32_1015 : BitVec 32 := 1#32
  let v1023 : BitVec 32 := Scalar.muli v14 c1_i32_1015
  let v1024 : BitVec 32 := Scalar.addi c0_i32_1016 v1023
  v1024.toNat
def k0_off48 (d0 : Dev nD) : Fin 4 → Nat :=
  let c1_i32_1041 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c0_i32_1046 : BitVec 32 := 0#32
  let c0_i32_1047 : BitVec 32 := 0#32
  ![1, v996.toNat, 0, 0]
def k0_off49 (d0 : Dev nD) : Fin 4 → Nat :=
  let c1_1050 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let v1060 : Index := Scalar.indexCast v996
  let c0_1051 : Index := 0#32
  let c0_1052 : Index := 0#32
  ![1, v1060.toNat, 0, 0]
def k0_off50 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let v1064 : Index := Scalar.indexCast v996
  let c1_1053 : Index := 1#32
  let c0_1054 : Index := 0#32
  let c0_1055 : Index := 0#32
  ![v1064.toNat, 1, 0, 0]
def k0_dev62 (d0 : Dev nD) : Nat :=
  let c0_i32_1086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1085 : BitVec 32 := 1#32
  let v1091 : BitVec 32 := Scalar.muli v5 c1_i32_1085
  let v1092 : BitVec 32 := Scalar.addi c0_i32_1086 v1091
  v1092.toNat
def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c1_i32_1093 : BitVec 32 := 1#32
  ![v1082.toNat, 1]
def k0_off52 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c1_i32_1092 : BitVec 32 := 1#32
  let c0_i32_1097 : BitVec 32 := 0#32
  let c0_i32_1098 : BitVec 32 := 0#32
  ![v1082.toNat, 1, 0, 0]
def k0_dev63 (d0 : Dev nD) : Nat :=
  let c0_i32_1106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.remsi v2 c2_i32
  let c1_i32_3 : BitVec 32 := 1#32
  let v7 : BitVec 1 := Scalar.cmpi .eq v6 c1_i32_3
  let c1_i32_4 : BitVec 32 := 1#32
  let v8 : BitVec 32 := Scalar.subi v2 c1_i32_4
  let c16_i32_5 : BitVec 32 := 16#32
  let v9 : BitVec 32 := Scalar.addi v8 c16_i32_5
  let c16_i32_6 : BitVec 32 := 16#32
  let v10 : BitVec 32 := Scalar.remsi v9 c16_i32_6
  let c3_i32 : BitVec 32 := 3#32
  let v11 : BitVec 32 := Scalar.addi v2 c3_i32
  let c16_i32_7 : BitVec 32 := 16#32
  let v12 : BitVec 32 := Scalar.addi v11 c16_i32_7
  let c16_i32_8 : BitVec 32 := 16#32
  let v13 : BitVec 32 := Scalar.remsi v12 c16_i32_8
  let v14 : BitVec 32 := Scalar.select v7 v10 v13
  let c1_i32_1105 : BitVec 32 := 1#32
  let v1109 : BitVec 32 := Scalar.muli v14 c1_i32_1105
  let v1110 : BitVec 32 := Scalar.addi c0_i32_1106 v1109
  v1110.toNat
def k0_off53 (d0 : Dev nD) : Fin 4 → Nat :=
  let c1_i32_1131 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c0_i32_1136 : BitVec 32 := 0#32
  let c0_i32_1137 : BitVec 32 := 0#32
  ![1, v1082.toNat, 0, 0]
def k0_off54 (d0 : Dev nD) : Fin 4 → Nat :=
  let c1_1140 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let v1146 : Index := Scalar.indexCast v1082
  let c0_1141 : Index := 0#32
  let c0_1142 : Index := 0#32
  ![1, v1146.toNat, 0, 0]
def k0_off55 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let v1150 : Index := Scalar.indexCast v1082
  let c1_1143 : Index := 1#32
  let c0_1144 : Index := 0#32
  let c0_1145 : Index := 0#32
  ![v1150.toNat, 1, 0, 0]
def k0_dev64 (d0 : Dev nD) : Nat :=
  let c0_i32_1176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1175 : BitVec 32 := 1#32
  let v1177 : BitVec 32 := Scalar.muli v5 c1_i32_1175
  let v1178 : BitVec 32 := Scalar.addi c0_i32_1176 v1177
  v1178.toNat
def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c1_i32_1183 : BitVec 32 := 1#32
  ![v1168.toNat, 1]
def k0_off57 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c1_i32_1182 : BitVec 32 := 1#32
  let c0_i32_1187 : BitVec 32 := 0#32
  let c0_i32_1188 : BitVec 32 := 0#32
  ![v1168.toNat, 1, 0, 0]
def k0_dev65 (d0 : Dev nD) : Nat :=
  let c0_i32_1196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.remsi v2 c2_i32
  let c1_i32_3 : BitVec 32 := 1#32
  let v7 : BitVec 1 := Scalar.cmpi .eq v6 c1_i32_3
  let c1_i32_4 : BitVec 32 := 1#32
  let v8 : BitVec 32 := Scalar.subi v2 c1_i32_4
  let c16_i32_5 : BitVec 32 := 16#32
  let v9 : BitVec 32 := Scalar.addi v8 c16_i32_5
  let c16_i32_6 : BitVec 32 := 16#32
  let v10 : BitVec 32 := Scalar.remsi v9 c16_i32_6
  let c3_i32 : BitVec 32 := 3#32
  let v11 : BitVec 32 := Scalar.addi v2 c3_i32
  let c16_i32_7 : BitVec 32 := 16#32
  let v12 : BitVec 32 := Scalar.addi v11 c16_i32_7
  let c16_i32_8 : BitVec 32 := 16#32
  let v13 : BitVec 32 := Scalar.remsi v12 c16_i32_8
  let v14 : BitVec 32 := Scalar.select v7 v10 v13
  let c1_i32_1195 : BitVec 32 := 1#32
  let v1195 : BitVec 32 := Scalar.muli v14 c1_i32_1195
  let v1196 : BitVec 32 := Scalar.addi c0_i32_1196 v1195
  v1196.toNat
def k0_off58 (d0 : Dev nD) : Fin 4 → Nat :=
  let c1_i32_1221 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c0_i32_1226 : BitVec 32 := 0#32
  let c0_i32_1227 : BitVec 32 := 0#32
  ![1, v1168.toNat, 0, 0]
def k0_off59 (d0 : Dev nD) : Fin 4 → Nat :=
  let c1_1230 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let v1232 : Index := Scalar.indexCast v1168
  let c0_1231 : Index := 0#32
  let c0_1232 : Index := 0#32
  ![1, v1232.toNat, 0, 0]
def k0_off60 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let v1236 : Index := Scalar.indexCast v1168
  let c1_1233 : Index := 1#32
  let c0_1234 : Index := 0#32
  let c0_1235 : Index := 0#32
  ![v1236.toNat, 1, 0, 0]
def k0_dev66 (d0 : Dev nD) : Nat :=
  let c0_i32_1266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1265 : BitVec 32 := 1#32
  let v1263 : BitVec 32 := Scalar.muli v5 c1_i32_1265
  let v1264 : BitVec 32 := Scalar.addi c0_i32_1266 v1263
  v1264.toNat
def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c1_i32_1273 : BitVec 32 := 1#32
  ![v1254.toNat, 1]
def k0_off62 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c1_i32_1272 : BitVec 32 := 1#32
  let c0_i32_1277 : BitVec 32 := 0#32
  let c0_i32_1278 : BitVec 32 := 0#32
  ![v1254.toNat, 1, 0, 0]
def k0_dev67 (d0 : Dev nD) : Nat :=
  let c0_i32_1286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.remsi v2 c2_i32
  let c1_i32_3 : BitVec 32 := 1#32
  let v7 : BitVec 1 := Scalar.cmpi .eq v6 c1_i32_3
  let c1_i32_4 : BitVec 32 := 1#32
  let v8 : BitVec 32 := Scalar.subi v2 c1_i32_4
  let c16_i32_5 : BitVec 32 := 16#32
  let v9 : BitVec 32 := Scalar.addi v8 c16_i32_5
  let c16_i32_6 : BitVec 32 := 16#32
  let v10 : BitVec 32 := Scalar.remsi v9 c16_i32_6
  let c3_i32 : BitVec 32 := 3#32
  let v11 : BitVec 32 := Scalar.addi v2 c3_i32
  let c16_i32_7 : BitVec 32 := 16#32
  let v12 : BitVec 32 := Scalar.addi v11 c16_i32_7
  let c16_i32_8 : BitVec 32 := 16#32
  let v13 : BitVec 32 := Scalar.remsi v12 c16_i32_8
  let v14 : BitVec 32 := Scalar.select v7 v10 v13
  let c1_i32_1285 : BitVec 32 := 1#32
  let v1281 : BitVec 32 := Scalar.muli v14 c1_i32_1285
  let v1282 : BitVec 32 := Scalar.addi c0_i32_1286 v1281
  v1282.toNat
def k0_off63 (d0 : Dev nD) : Fin 4 → Nat :=
  let c1_i32_1311 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c0_i32_1316 : BitVec 32 := 0#32
  let c0_i32_1317 : BitVec 32 := 0#32
  ![1, v1254.toNat, 0, 0]
def k0_off64 (d0 : Dev nD) : Fin 4 → Nat :=
  let c1_1320 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let v1318 : Index := Scalar.indexCast v1254
  let c0_1321 : Index := 0#32
  let c0_1322 : Index := 0#32
  ![1, v1318.toNat, 0, 0]
def k0_off65 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let v1322 : Index := Scalar.indexCast v1254
  let c1_1323 : Index := 1#32
  let c0_1324 : Index := 0#32
  let c0_1325 : Index := 0#32
  ![v1322.toNat, 1, 0, 0]
def k0_dev68 (d0 : Dev nD) : Nat :=
  let c0_i32_1356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1355 : BitVec 32 := 1#32
  let v1349 : BitVec 32 := Scalar.muli v5 c1_i32_1355
  let v1350 : BitVec 32 := Scalar.addi c0_i32_1356 v1349
  v1350.toNat
def k0_off66 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c1_i32_1363 : BitVec 32 := 1#32
  ![v1340.toNat, 1]
def k0_off67 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c1_i32_1362 : BitVec 32 := 1#32
  let c0_i32_1367 : BitVec 32 := 0#32
  let c0_i32_1368 : BitVec 32 := 0#32
  ![v1340.toNat, 1, 0, 0]
def k0_dev69 (d0 : Dev nD) : Nat :=
  let c0_i32_1376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.remsi v2 c2_i32
  let c1_i32_3 : BitVec 32 := 1#32
  let v7 : BitVec 1 := Scalar.cmpi .eq v6 c1_i32_3
  let c1_i32_4 : BitVec 32 := 1#32
  let v8 : BitVec 32 := Scalar.subi v2 c1_i32_4
  let c16_i32_5 : BitVec 32 := 16#32
  let v9 : BitVec 32 := Scalar.addi v8 c16_i32_5
  let c16_i32_6 : BitVec 32 := 16#32
  let v10 : BitVec 32 := Scalar.remsi v9 c16_i32_6
  let c3_i32 : BitVec 32 := 3#32
  let v11 : BitVec 32 := Scalar.addi v2 c3_i32
  let c16_i32_7 : BitVec 32 := 16#32
  let v12 : BitVec 32 := Scalar.addi v11 c16_i32_7
  let c16_i32_8 : BitVec 32 := 16#32
  let v13 : BitVec 32 := Scalar.remsi v12 c16_i32_8
  let v14 : BitVec 32 := Scalar.select v7 v10 v13
  let c1_i32_1375 : BitVec 32 := 1#32
  let v1367 : BitVec 32 := Scalar.muli v14 c1_i32_1375
  let v1368 : BitVec 32 := Scalar.addi c0_i32_1376 v1367
  v1368.toNat
def k0_off68 (d0 : Dev nD) : Fin 4 → Nat :=
  let c1_i32_1401 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c0_i32_1406 : BitVec 32 := 0#32
  let c0_i32_1407 : BitVec 32 := 0#32
  ![1, v1340.toNat, 0, 0]
def k0_off69 (d0 : Dev nD) : Fin 4 → Nat :=
  let c1_1410 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let v1404 : Index := Scalar.indexCast v1340
  let c0_1411 : Index := 0#32
  let c0_1412 : Index := 0#32
  ![1, v1404.toNat, 0, 0]
def k0_off70 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let v1408 : Index := Scalar.indexCast v1340
  let c1_1413 : Index := 1#32
  let c0_1414 : Index := 0#32
  let c0_1415 : Index := 0#32
  ![v1408.toNat, 1, 0, 0]
def k0_dev70 (d0 : Dev nD) : Nat :=
  let c0_i32_1446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1445 : BitVec 32 := 1#32
  let v1435 : BitVec 32 := Scalar.muli v5 c1_i32_1445
  let v1436 : BitVec 32 := Scalar.addi c0_i32_1446 v1435
  v1436.toNat
def k0_off71 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c2_i32_1425 : BitVec 32 := 2#32
  let v1421 : BitVec 32 := Scalar.remsi v1340 c2_i32_1425
  let c0_i32_1426 : BitVec 32 := 0#32
  let v1422 : BitVec 1 := Scalar.cmpi .eq v1421 c0_i32_1426
  let c1_i32_1427 : BitVec 32 := 1#32
  let c13_i32_1428 : BitVec 32 := 13#32
  let v1423 : BitVec 32 := Scalar.select v1422 c1_i32_1427 c13_i32_1428
  let v1424 : BitVec 32 := Scalar.addi v1340 v1423
  let c16_i32_1429 : BitVec 32 := 16#32
  let v1425 : BitVec 32 := Scalar.addi v1424 c16_i32_1429
  let c16_i32_1430 : BitVec 32 := 16#32
  let v1426 : BitVec 32 := Scalar.remsi v1425 c16_i32_1430
  let c1_i32_1453 : BitVec 32 := 1#32
  ![v1426.toNat, 1]
def k0_off72 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c2_i32_1425 : BitVec 32 := 2#32
  let v1421 : BitVec 32 := Scalar.remsi v1340 c2_i32_1425
  let c0_i32_1426 : BitVec 32 := 0#32
  let v1422 : BitVec 1 := Scalar.cmpi .eq v1421 c0_i32_1426
  let c1_i32_1427 : BitVec 32 := 1#32
  let c13_i32_1428 : BitVec 32 := 13#32
  let v1423 : BitVec 32 := Scalar.select v1422 c1_i32_1427 c13_i32_1428
  let v1424 : BitVec 32 := Scalar.addi v1340 v1423
  let c16_i32_1429 : BitVec 32 := 16#32
  let v1425 : BitVec 32 := Scalar.addi v1424 c16_i32_1429
  let c16_i32_1430 : BitVec 32 := 16#32
  let v1426 : BitVec 32 := Scalar.remsi v1425 c16_i32_1430
  let c1_i32_1452 : BitVec 32 := 1#32
  let c0_i32_1457 : BitVec 32 := 0#32
  let c0_i32_1458 : BitVec 32 := 0#32
  ![v1426.toNat, 1, 0, 0]
def k0_dev71 (d0 : Dev nD) : Nat :=
  let c0_i32_1466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.remsi v2 c2_i32
  let c1_i32_3 : BitVec 32 := 1#32
  let v7 : BitVec 1 := Scalar.cmpi .eq v6 c1_i32_3
  let c1_i32_4 : BitVec 32 := 1#32
  let v8 : BitVec 32 := Scalar.subi v2 c1_i32_4
  let c16_i32_5 : BitVec 32 := 16#32
  let v9 : BitVec 32 := Scalar.addi v8 c16_i32_5
  let c16_i32_6 : BitVec 32 := 16#32
  let v10 : BitVec 32 := Scalar.remsi v9 c16_i32_6
  let c3_i32 : BitVec 32 := 3#32
  let v11 : BitVec 32 := Scalar.addi v2 c3_i32
  let c16_i32_7 : BitVec 32 := 16#32
  let v12 : BitVec 32 := Scalar.addi v11 c16_i32_7
  let c16_i32_8 : BitVec 32 := 16#32
  let v13 : BitVec 32 := Scalar.remsi v12 c16_i32_8
  let v14 : BitVec 32 := Scalar.select v7 v10 v13
  let c1_i32_1465 : BitVec 32 := 1#32
  let v1453 : BitVec 32 := Scalar.muli v14 c1_i32_1465
  let v1454 : BitVec 32 := Scalar.addi c0_i32_1466 v1453
  v1454.toNat
def k0_off73 (d0 : Dev nD) : Fin 4 → Nat :=
  let c1_i32_1491 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c2_i32_1425 : BitVec 32 := 2#32
  let v1421 : BitVec 32 := Scalar.remsi v1340 c2_i32_1425
  let c0_i32_1426 : BitVec 32 := 0#32
  let v1422 : BitVec 1 := Scalar.cmpi .eq v1421 c0_i32_1426
  let c1_i32_1427 : BitVec 32 := 1#32
  let c13_i32_1428 : BitVec 32 := 13#32
  let v1423 : BitVec 32 := Scalar.select v1422 c1_i32_1427 c13_i32_1428
  let v1424 : BitVec 32 := Scalar.addi v1340 v1423
  let c16_i32_1429 : BitVec 32 := 16#32
  let v1425 : BitVec 32 := Scalar.addi v1424 c16_i32_1429
  let c16_i32_1430 : BitVec 32 := 16#32
  let v1426 : BitVec 32 := Scalar.remsi v1425 c16_i32_1430
  let c0_i32_1496 : BitVec 32 := 0#32
  let c0_i32_1497 : BitVec 32 := 0#32
  ![1, v1426.toNat, 0, 0]
def k0_off74 (d0 : Dev nD) : Fin 4 → Nat :=
  let c1_1500 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c2_i32_1425 : BitVec 32 := 2#32
  let v1421 : BitVec 32 := Scalar.remsi v1340 c2_i32_1425
  let c0_i32_1426 : BitVec 32 := 0#32
  let v1422 : BitVec 1 := Scalar.cmpi .eq v1421 c0_i32_1426
  let c1_i32_1427 : BitVec 32 := 1#32
  let c13_i32_1428 : BitVec 32 := 13#32
  let v1423 : BitVec 32 := Scalar.select v1422 c1_i32_1427 c13_i32_1428
  let v1424 : BitVec 32 := Scalar.addi v1340 v1423
  let c16_i32_1429 : BitVec 32 := 16#32
  let v1425 : BitVec 32 := Scalar.addi v1424 c16_i32_1429
  let c16_i32_1430 : BitVec 32 := 16#32
  let v1426 : BitVec 32 := Scalar.remsi v1425 c16_i32_1430
  let v1490 : Index := Scalar.indexCast v1426
  let c0_1501 : Index := 0#32
  let c0_1502 : Index := 0#32
  ![1, v1490.toNat, 0, 0]
def k0_off75 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c2_i32_1425 : BitVec 32 := 2#32
  let v1421 : BitVec 32 := Scalar.remsi v1340 c2_i32_1425
  let c0_i32_1426 : BitVec 32 := 0#32
  let v1422 : BitVec 1 := Scalar.cmpi .eq v1421 c0_i32_1426
  let c1_i32_1427 : BitVec 32 := 1#32
  let c13_i32_1428 : BitVec 32 := 13#32
  let v1423 : BitVec 32 := Scalar.select v1422 c1_i32_1427 c13_i32_1428
  let v1424 : BitVec 32 := Scalar.addi v1340 v1423
  let c16_i32_1429 : BitVec 32 := 16#32
  let v1425 : BitVec 32 := Scalar.addi v1424 c16_i32_1429
  let c16_i32_1430 : BitVec 32 := 16#32
  let v1426 : BitVec 32 := Scalar.remsi v1425 c16_i32_1430
  let v1494 : Index := Scalar.indexCast v1426
  let c1_1503 : Index := 1#32
  let c0_1504 : Index := 0#32
  let c0_1505 : Index := 0#32
  ![v1494.toNat, 1, 0, 0]
def k0_dev72 (d0 : Dev nD) : Nat :=
  let c0_i32_1536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1535 : BitVec 32 := 1#32
  let v1521 : BitVec 32 := Scalar.muli v5 c1_i32_1535
  let v1522 : BitVec 32 := Scalar.addi c0_i32_1536 v1521
  v1522.toNat
def k0_off76 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c2_i32_1425 : BitVec 32 := 2#32
  let v1421 : BitVec 32 := Scalar.remsi v1340 c2_i32_1425
  let c0_i32_1426 : BitVec 32 := 0#32
  let v1422 : BitVec 1 := Scalar.cmpi .eq v1421 c0_i32_1426
  let c1_i32_1427 : BitVec 32 := 1#32
  let c13_i32_1428 : BitVec 32 := 13#32
  let v1423 : BitVec 32 := Scalar.select v1422 c1_i32_1427 c13_i32_1428
  let v1424 : BitVec 32 := Scalar.addi v1340 v1423
  let c16_i32_1429 : BitVec 32 := 16#32
  let v1425 : BitVec 32 := Scalar.addi v1424 c16_i32_1429
  let c16_i32_1430 : BitVec 32 := 16#32
  let v1426 : BitVec 32 := Scalar.remsi v1425 c16_i32_1430
  let c2_i32_1515 : BitVec 32 := 2#32
  let v1507 : BitVec 32 := Scalar.remsi v1426 c2_i32_1515
  let c0_i32_1516 : BitVec 32 := 0#32
  let v1508 : BitVec 1 := Scalar.cmpi .eq v1507 c0_i32_1516
  let c1_i32_1517 : BitVec 32 := 1#32
  let c13_i32_1518 : BitVec 32 := 13#32
  let v1509 : BitVec 32 := Scalar.select v1508 c1_i32_1517 c13_i32_1518
  let v1510 : BitVec 32 := Scalar.addi v1426 v1509
  let c16_i32_1519 : BitVec 32 := 16#32
  let v1511 : BitVec 32 := Scalar.addi v1510 c16_i32_1519
  let c16_i32_1520 : BitVec 32 := 16#32
  let v1512 : BitVec 32 := Scalar.remsi v1511 c16_i32_1520
  let c1_i32_1543 : BitVec 32 := 1#32
  ![v1512.toNat, 1]
def k0_off77 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c2_i32_1425 : BitVec 32 := 2#32
  let v1421 : BitVec 32 := Scalar.remsi v1340 c2_i32_1425
  let c0_i32_1426 : BitVec 32 := 0#32
  let v1422 : BitVec 1 := Scalar.cmpi .eq v1421 c0_i32_1426
  let c1_i32_1427 : BitVec 32 := 1#32
  let c13_i32_1428 : BitVec 32 := 13#32
  let v1423 : BitVec 32 := Scalar.select v1422 c1_i32_1427 c13_i32_1428
  let v1424 : BitVec 32 := Scalar.addi v1340 v1423
  let c16_i32_1429 : BitVec 32 := 16#32
  let v1425 : BitVec 32 := Scalar.addi v1424 c16_i32_1429
  let c16_i32_1430 : BitVec 32 := 16#32
  let v1426 : BitVec 32 := Scalar.remsi v1425 c16_i32_1430
  let c2_i32_1515 : BitVec 32 := 2#32
  let v1507 : BitVec 32 := Scalar.remsi v1426 c2_i32_1515
  let c0_i32_1516 : BitVec 32 := 0#32
  let v1508 : BitVec 1 := Scalar.cmpi .eq v1507 c0_i32_1516
  let c1_i32_1517 : BitVec 32 := 1#32
  let c13_i32_1518 : BitVec 32 := 13#32
  let v1509 : BitVec 32 := Scalar.select v1508 c1_i32_1517 c13_i32_1518
  let v1510 : BitVec 32 := Scalar.addi v1426 v1509
  let c16_i32_1519 : BitVec 32 := 16#32
  let v1511 : BitVec 32 := Scalar.addi v1510 c16_i32_1519
  let c16_i32_1520 : BitVec 32 := 16#32
  let v1512 : BitVec 32 := Scalar.remsi v1511 c16_i32_1520
  let c1_i32_1542 : BitVec 32 := 1#32
  let c0_i32_1547 : BitVec 32 := 0#32
  let c0_i32_1548 : BitVec 32 := 0#32
  ![v1512.toNat, 1, 0, 0]
def k0_dev73 (d0 : Dev nD) : Nat :=
  let c0_i32_1556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.remsi v2 c2_i32
  let c1_i32_3 : BitVec 32 := 1#32
  let v7 : BitVec 1 := Scalar.cmpi .eq v6 c1_i32_3
  let c1_i32_4 : BitVec 32 := 1#32
  let v8 : BitVec 32 := Scalar.subi v2 c1_i32_4
  let c16_i32_5 : BitVec 32 := 16#32
  let v9 : BitVec 32 := Scalar.addi v8 c16_i32_5
  let c16_i32_6 : BitVec 32 := 16#32
  let v10 : BitVec 32 := Scalar.remsi v9 c16_i32_6
  let c3_i32 : BitVec 32 := 3#32
  let v11 : BitVec 32 := Scalar.addi v2 c3_i32
  let c16_i32_7 : BitVec 32 := 16#32
  let v12 : BitVec 32 := Scalar.addi v11 c16_i32_7
  let c16_i32_8 : BitVec 32 := 16#32
  let v13 : BitVec 32 := Scalar.remsi v12 c16_i32_8
  let v14 : BitVec 32 := Scalar.select v7 v10 v13
  let c1_i32_1555 : BitVec 32 := 1#32
  let v1539 : BitVec 32 := Scalar.muli v14 c1_i32_1555
  let v1540 : BitVec 32 := Scalar.addi c0_i32_1556 v1539
  v1540.toNat
def k0_off78 (d0 : Dev nD) : Fin 4 → Nat :=
  let c1_i32_1581 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c2_i32_1425 : BitVec 32 := 2#32
  let v1421 : BitVec 32 := Scalar.remsi v1340 c2_i32_1425
  let c0_i32_1426 : BitVec 32 := 0#32
  let v1422 : BitVec 1 := Scalar.cmpi .eq v1421 c0_i32_1426
  let c1_i32_1427 : BitVec 32 := 1#32
  let c13_i32_1428 : BitVec 32 := 13#32
  let v1423 : BitVec 32 := Scalar.select v1422 c1_i32_1427 c13_i32_1428
  let v1424 : BitVec 32 := Scalar.addi v1340 v1423
  let c16_i32_1429 : BitVec 32 := 16#32
  let v1425 : BitVec 32 := Scalar.addi v1424 c16_i32_1429
  let c16_i32_1430 : BitVec 32 := 16#32
  let v1426 : BitVec 32 := Scalar.remsi v1425 c16_i32_1430
  let c2_i32_1515 : BitVec 32 := 2#32
  let v1507 : BitVec 32 := Scalar.remsi v1426 c2_i32_1515
  let c0_i32_1516 : BitVec 32 := 0#32
  let v1508 : BitVec 1 := Scalar.cmpi .eq v1507 c0_i32_1516
  let c1_i32_1517 : BitVec 32 := 1#32
  let c13_i32_1518 : BitVec 32 := 13#32
  let v1509 : BitVec 32 := Scalar.select v1508 c1_i32_1517 c13_i32_1518
  let v1510 : BitVec 32 := Scalar.addi v1426 v1509
  let c16_i32_1519 : BitVec 32 := 16#32
  let v1511 : BitVec 32 := Scalar.addi v1510 c16_i32_1519
  let c16_i32_1520 : BitVec 32 := 16#32
  let v1512 : BitVec 32 := Scalar.remsi v1511 c16_i32_1520
  let c0_i32_1586 : BitVec 32 := 0#32
  let c0_i32_1587 : BitVec 32 := 0#32
  ![1, v1512.toNat, 0, 0]
def k0_off79 (d0 : Dev nD) : Fin 4 → Nat :=
  let c1_1590 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c2_i32_1425 : BitVec 32 := 2#32
  let v1421 : BitVec 32 := Scalar.remsi v1340 c2_i32_1425
  let c0_i32_1426 : BitVec 32 := 0#32
  let v1422 : BitVec 1 := Scalar.cmpi .eq v1421 c0_i32_1426
  let c1_i32_1427 : BitVec 32 := 1#32
  let c13_i32_1428 : BitVec 32 := 13#32
  let v1423 : BitVec 32 := Scalar.select v1422 c1_i32_1427 c13_i32_1428
  let v1424 : BitVec 32 := Scalar.addi v1340 v1423
  let c16_i32_1429 : BitVec 32 := 16#32
  let v1425 : BitVec 32 := Scalar.addi v1424 c16_i32_1429
  let c16_i32_1430 : BitVec 32 := 16#32
  let v1426 : BitVec 32 := Scalar.remsi v1425 c16_i32_1430
  let c2_i32_1515 : BitVec 32 := 2#32
  let v1507 : BitVec 32 := Scalar.remsi v1426 c2_i32_1515
  let c0_i32_1516 : BitVec 32 := 0#32
  let v1508 : BitVec 1 := Scalar.cmpi .eq v1507 c0_i32_1516
  let c1_i32_1517 : BitVec 32 := 1#32
  let c13_i32_1518 : BitVec 32 := 13#32
  let v1509 : BitVec 32 := Scalar.select v1508 c1_i32_1517 c13_i32_1518
  let v1510 : BitVec 32 := Scalar.addi v1426 v1509
  let c16_i32_1519 : BitVec 32 := 16#32
  let v1511 : BitVec 32 := Scalar.addi v1510 c16_i32_1519
  let c16_i32_1520 : BitVec 32 := 16#32
  let v1512 : BitVec 32 := Scalar.remsi v1511 c16_i32_1520
  let v1576 : Index := Scalar.indexCast v1512
  let c0_1591 : Index := 0#32
  let c0_1592 : Index := 0#32
  ![1, v1576.toNat, 0, 0]
def k0_off80 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c2_i32_1425 : BitVec 32 := 2#32
  let v1421 : BitVec 32 := Scalar.remsi v1340 c2_i32_1425
  let c0_i32_1426 : BitVec 32 := 0#32
  let v1422 : BitVec 1 := Scalar.cmpi .eq v1421 c0_i32_1426
  let c1_i32_1427 : BitVec 32 := 1#32
  let c13_i32_1428 : BitVec 32 := 13#32
  let v1423 : BitVec 32 := Scalar.select v1422 c1_i32_1427 c13_i32_1428
  let v1424 : BitVec 32 := Scalar.addi v1340 v1423
  let c16_i32_1429 : BitVec 32 := 16#32
  let v1425 : BitVec 32 := Scalar.addi v1424 c16_i32_1429
  let c16_i32_1430 : BitVec 32 := 16#32
  let v1426 : BitVec 32 := Scalar.remsi v1425 c16_i32_1430
  let c2_i32_1515 : BitVec 32 := 2#32
  let v1507 : BitVec 32 := Scalar.remsi v1426 c2_i32_1515
  let c0_i32_1516 : BitVec 32 := 0#32
  let v1508 : BitVec 1 := Scalar.cmpi .eq v1507 c0_i32_1516
  let c1_i32_1517 : BitVec 32 := 1#32
  let c13_i32_1518 : BitVec 32 := 13#32
  let v1509 : BitVec 32 := Scalar.select v1508 c1_i32_1517 c13_i32_1518
  let v1510 : BitVec 32 := Scalar.addi v1426 v1509
  let c16_i32_1519 : BitVec 32 := 16#32
  let v1511 : BitVec 32 := Scalar.addi v1510 c16_i32_1519
  let c16_i32_1520 : BitVec 32 := 16#32
  let v1512 : BitVec 32 := Scalar.remsi v1511 c16_i32_1520
  let v1580 : Index := Scalar.indexCast v1512
  let c1_1593 : Index := 1#32
  let c0_1594 : Index := 0#32
  let c0_1595 : Index := 0#32
  ![v1580.toNat, 1, 0, 0]
def k0_dev74 (d0 : Dev nD) : Nat :=
  let c0_i32_1626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1625 : BitVec 32 := 1#32
  let v1607 : BitVec 32 := Scalar.muli v5 c1_i32_1625
  let v1608 : BitVec 32 := Scalar.addi c0_i32_1626 v1607
  v1608.toNat
def k0_off81 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c2_i32_1425 : BitVec 32 := 2#32
  let v1421 : BitVec 32 := Scalar.remsi v1340 c2_i32_1425
  let c0_i32_1426 : BitVec 32 := 0#32
  let v1422 : BitVec 1 := Scalar.cmpi .eq v1421 c0_i32_1426
  let c1_i32_1427 : BitVec 32 := 1#32
  let c13_i32_1428 : BitVec 32 := 13#32
  let v1423 : BitVec 32 := Scalar.select v1422 c1_i32_1427 c13_i32_1428
  let v1424 : BitVec 32 := Scalar.addi v1340 v1423
  let c16_i32_1429 : BitVec 32 := 16#32
  let v1425 : BitVec 32 := Scalar.addi v1424 c16_i32_1429
  let c16_i32_1430 : BitVec 32 := 16#32
  let v1426 : BitVec 32 := Scalar.remsi v1425 c16_i32_1430
  let c2_i32_1515 : BitVec 32 := 2#32
  let v1507 : BitVec 32 := Scalar.remsi v1426 c2_i32_1515
  let c0_i32_1516 : BitVec 32 := 0#32
  let v1508 : BitVec 1 := Scalar.cmpi .eq v1507 c0_i32_1516
  let c1_i32_1517 : BitVec 32 := 1#32
  let c13_i32_1518 : BitVec 32 := 13#32
  let v1509 : BitVec 32 := Scalar.select v1508 c1_i32_1517 c13_i32_1518
  let v1510 : BitVec 32 := Scalar.addi v1426 v1509
  let c16_i32_1519 : BitVec 32 := 16#32
  let v1511 : BitVec 32 := Scalar.addi v1510 c16_i32_1519
  let c16_i32_1520 : BitVec 32 := 16#32
  let v1512 : BitVec 32 := Scalar.remsi v1511 c16_i32_1520
  let c2_i32_1605 : BitVec 32 := 2#32
  let v1593 : BitVec 32 := Scalar.remsi v1512 c2_i32_1605
  let c0_i32_1606 : BitVec 32 := 0#32
  let v1594 : BitVec 1 := Scalar.cmpi .eq v1593 c0_i32_1606
  let c1_i32_1607 : BitVec 32 := 1#32
  let c13_i32_1608 : BitVec 32 := 13#32
  let v1595 : BitVec 32 := Scalar.select v1594 c1_i32_1607 c13_i32_1608
  let v1596 : BitVec 32 := Scalar.addi v1512 v1595
  let c16_i32_1609 : BitVec 32 := 16#32
  let v1597 : BitVec 32 := Scalar.addi v1596 c16_i32_1609
  let c16_i32_1610 : BitVec 32 := 16#32
  let v1598 : BitVec 32 := Scalar.remsi v1597 c16_i32_1610
  let c1_i32_1633 : BitVec 32 := 1#32
  ![v1598.toNat, 1]
def k0_off82 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c2_i32_1425 : BitVec 32 := 2#32
  let v1421 : BitVec 32 := Scalar.remsi v1340 c2_i32_1425
  let c0_i32_1426 : BitVec 32 := 0#32
  let v1422 : BitVec 1 := Scalar.cmpi .eq v1421 c0_i32_1426
  let c1_i32_1427 : BitVec 32 := 1#32
  let c13_i32_1428 : BitVec 32 := 13#32
  let v1423 : BitVec 32 := Scalar.select v1422 c1_i32_1427 c13_i32_1428
  let v1424 : BitVec 32 := Scalar.addi v1340 v1423
  let c16_i32_1429 : BitVec 32 := 16#32
  let v1425 : BitVec 32 := Scalar.addi v1424 c16_i32_1429
  let c16_i32_1430 : BitVec 32 := 16#32
  let v1426 : BitVec 32 := Scalar.remsi v1425 c16_i32_1430
  let c2_i32_1515 : BitVec 32 := 2#32
  let v1507 : BitVec 32 := Scalar.remsi v1426 c2_i32_1515
  let c0_i32_1516 : BitVec 32 := 0#32
  let v1508 : BitVec 1 := Scalar.cmpi .eq v1507 c0_i32_1516
  let c1_i32_1517 : BitVec 32 := 1#32
  let c13_i32_1518 : BitVec 32 := 13#32
  let v1509 : BitVec 32 := Scalar.select v1508 c1_i32_1517 c13_i32_1518
  let v1510 : BitVec 32 := Scalar.addi v1426 v1509
  let c16_i32_1519 : BitVec 32 := 16#32
  let v1511 : BitVec 32 := Scalar.addi v1510 c16_i32_1519
  let c16_i32_1520 : BitVec 32 := 16#32
  let v1512 : BitVec 32 := Scalar.remsi v1511 c16_i32_1520
  let c2_i32_1605 : BitVec 32 := 2#32
  let v1593 : BitVec 32 := Scalar.remsi v1512 c2_i32_1605
  let c0_i32_1606 : BitVec 32 := 0#32
  let v1594 : BitVec 1 := Scalar.cmpi .eq v1593 c0_i32_1606
  let c1_i32_1607 : BitVec 32 := 1#32
  let c13_i32_1608 : BitVec 32 := 13#32
  let v1595 : BitVec 32 := Scalar.select v1594 c1_i32_1607 c13_i32_1608
  let v1596 : BitVec 32 := Scalar.addi v1512 v1595
  let c16_i32_1609 : BitVec 32 := 16#32
  let v1597 : BitVec 32 := Scalar.addi v1596 c16_i32_1609
  let c16_i32_1610 : BitVec 32 := 16#32
  let v1598 : BitVec 32 := Scalar.remsi v1597 c16_i32_1610
  let c1_i32_1632 : BitVec 32 := 1#32
  let c0_i32_1637 : BitVec 32 := 0#32
  let c0_i32_1638 : BitVec 32 := 0#32
  ![v1598.toNat, 1, 0, 0]
def k0_dev75 (d0 : Dev nD) : Nat :=
  let c0_i32_1646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.remsi v2 c2_i32
  let c1_i32_3 : BitVec 32 := 1#32
  let v7 : BitVec 1 := Scalar.cmpi .eq v6 c1_i32_3
  let c1_i32_4 : BitVec 32 := 1#32
  let v8 : BitVec 32 := Scalar.subi v2 c1_i32_4
  let c16_i32_5 : BitVec 32 := 16#32
  let v9 : BitVec 32 := Scalar.addi v8 c16_i32_5
  let c16_i32_6 : BitVec 32 := 16#32
  let v10 : BitVec 32 := Scalar.remsi v9 c16_i32_6
  let c3_i32 : BitVec 32 := 3#32
  let v11 : BitVec 32 := Scalar.addi v2 c3_i32
  let c16_i32_7 : BitVec 32 := 16#32
  let v12 : BitVec 32 := Scalar.addi v11 c16_i32_7
  let c16_i32_8 : BitVec 32 := 16#32
  let v13 : BitVec 32 := Scalar.remsi v12 c16_i32_8
  let v14 : BitVec 32 := Scalar.select v7 v10 v13
  let c1_i32_1645 : BitVec 32 := 1#32
  let v1625 : BitVec 32 := Scalar.muli v14 c1_i32_1645
  let v1626 : BitVec 32 := Scalar.addi c0_i32_1646 v1625
  v1626.toNat
def k0_off83 (d0 : Dev nD) : Fin 4 → Nat :=
  let c1_i32_1671 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c2_i32_1425 : BitVec 32 := 2#32
  let v1421 : BitVec 32 := Scalar.remsi v1340 c2_i32_1425
  let c0_i32_1426 : BitVec 32 := 0#32
  let v1422 : BitVec 1 := Scalar.cmpi .eq v1421 c0_i32_1426
  let c1_i32_1427 : BitVec 32 := 1#32
  let c13_i32_1428 : BitVec 32 := 13#32
  let v1423 : BitVec 32 := Scalar.select v1422 c1_i32_1427 c13_i32_1428
  let v1424 : BitVec 32 := Scalar.addi v1340 v1423
  let c16_i32_1429 : BitVec 32 := 16#32
  let v1425 : BitVec 32 := Scalar.addi v1424 c16_i32_1429
  let c16_i32_1430 : BitVec 32 := 16#32
  let v1426 : BitVec 32 := Scalar.remsi v1425 c16_i32_1430
  let c2_i32_1515 : BitVec 32 := 2#32
  let v1507 : BitVec 32 := Scalar.remsi v1426 c2_i32_1515
  let c0_i32_1516 : BitVec 32 := 0#32
  let v1508 : BitVec 1 := Scalar.cmpi .eq v1507 c0_i32_1516
  let c1_i32_1517 : BitVec 32 := 1#32
  let c13_i32_1518 : BitVec 32 := 13#32
  let v1509 : BitVec 32 := Scalar.select v1508 c1_i32_1517 c13_i32_1518
  let v1510 : BitVec 32 := Scalar.addi v1426 v1509
  let c16_i32_1519 : BitVec 32 := 16#32
  let v1511 : BitVec 32 := Scalar.addi v1510 c16_i32_1519
  let c16_i32_1520 : BitVec 32 := 16#32
  let v1512 : BitVec 32 := Scalar.remsi v1511 c16_i32_1520
  let c2_i32_1605 : BitVec 32 := 2#32
  let v1593 : BitVec 32 := Scalar.remsi v1512 c2_i32_1605
  let c0_i32_1606 : BitVec 32 := 0#32
  let v1594 : BitVec 1 := Scalar.cmpi .eq v1593 c0_i32_1606
  let c1_i32_1607 : BitVec 32 := 1#32
  let c13_i32_1608 : BitVec 32 := 13#32
  let v1595 : BitVec 32 := Scalar.select v1594 c1_i32_1607 c13_i32_1608
  let v1596 : BitVec 32 := Scalar.addi v1512 v1595
  let c16_i32_1609 : BitVec 32 := 16#32
  let v1597 : BitVec 32 := Scalar.addi v1596 c16_i32_1609
  let c16_i32_1610 : BitVec 32 := 16#32
  let v1598 : BitVec 32 := Scalar.remsi v1597 c16_i32_1610
  let c0_i32_1676 : BitVec 32 := 0#32
  let c0_i32_1677 : BitVec 32 := 0#32
  ![1, v1598.toNat, 0, 0]
def k0_off84 (d0 : Dev nD) : Fin 4 → Nat :=
  let c1_1680 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c2_i32_1425 : BitVec 32 := 2#32
  let v1421 : BitVec 32 := Scalar.remsi v1340 c2_i32_1425
  let c0_i32_1426 : BitVec 32 := 0#32
  let v1422 : BitVec 1 := Scalar.cmpi .eq v1421 c0_i32_1426
  let c1_i32_1427 : BitVec 32 := 1#32
  let c13_i32_1428 : BitVec 32 := 13#32
  let v1423 : BitVec 32 := Scalar.select v1422 c1_i32_1427 c13_i32_1428
  let v1424 : BitVec 32 := Scalar.addi v1340 v1423
  let c16_i32_1429 : BitVec 32 := 16#32
  let v1425 : BitVec 32 := Scalar.addi v1424 c16_i32_1429
  let c16_i32_1430 : BitVec 32 := 16#32
  let v1426 : BitVec 32 := Scalar.remsi v1425 c16_i32_1430
  let c2_i32_1515 : BitVec 32 := 2#32
  let v1507 : BitVec 32 := Scalar.remsi v1426 c2_i32_1515
  let c0_i32_1516 : BitVec 32 := 0#32
  let v1508 : BitVec 1 := Scalar.cmpi .eq v1507 c0_i32_1516
  let c1_i32_1517 : BitVec 32 := 1#32
  let c13_i32_1518 : BitVec 32 := 13#32
  let v1509 : BitVec 32 := Scalar.select v1508 c1_i32_1517 c13_i32_1518
  let v1510 : BitVec 32 := Scalar.addi v1426 v1509
  let c16_i32_1519 : BitVec 32 := 16#32
  let v1511 : BitVec 32 := Scalar.addi v1510 c16_i32_1519
  let c16_i32_1520 : BitVec 32 := 16#32
  let v1512 : BitVec 32 := Scalar.remsi v1511 c16_i32_1520
  let c2_i32_1605 : BitVec 32 := 2#32
  let v1593 : BitVec 32 := Scalar.remsi v1512 c2_i32_1605
  let c0_i32_1606 : BitVec 32 := 0#32
  let v1594 : BitVec 1 := Scalar.cmpi .eq v1593 c0_i32_1606
  let c1_i32_1607 : BitVec 32 := 1#32
  let c13_i32_1608 : BitVec 32 := 13#32
  let v1595 : BitVec 32 := Scalar.select v1594 c1_i32_1607 c13_i32_1608
  let v1596 : BitVec 32 := Scalar.addi v1512 v1595
  let c16_i32_1609 : BitVec 32 := 16#32
  let v1597 : BitVec 32 := Scalar.addi v1596 c16_i32_1609
  let c16_i32_1610 : BitVec 32 := 16#32
  let v1598 : BitVec 32 := Scalar.remsi v1597 c16_i32_1610
  let v1662 : Index := Scalar.indexCast v1598
  let c0_1681 : Index := 0#32
  let c0_1682 : Index := 0#32
  ![1, v1662.toNat, 0, 0]
def k0_off85 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c2_i32_1425 : BitVec 32 := 2#32
  let v1421 : BitVec 32 := Scalar.remsi v1340 c2_i32_1425
  let c0_i32_1426 : BitVec 32 := 0#32
  let v1422 : BitVec 1 := Scalar.cmpi .eq v1421 c0_i32_1426
  let c1_i32_1427 : BitVec 32 := 1#32
  let c13_i32_1428 : BitVec 32 := 13#32
  let v1423 : BitVec 32 := Scalar.select v1422 c1_i32_1427 c13_i32_1428
  let v1424 : BitVec 32 := Scalar.addi v1340 v1423
  let c16_i32_1429 : BitVec 32 := 16#32
  let v1425 : BitVec 32 := Scalar.addi v1424 c16_i32_1429
  let c16_i32_1430 : BitVec 32 := 16#32
  let v1426 : BitVec 32 := Scalar.remsi v1425 c16_i32_1430
  let c2_i32_1515 : BitVec 32 := 2#32
  let v1507 : BitVec 32 := Scalar.remsi v1426 c2_i32_1515
  let c0_i32_1516 : BitVec 32 := 0#32
  let v1508 : BitVec 1 := Scalar.cmpi .eq v1507 c0_i32_1516
  let c1_i32_1517 : BitVec 32 := 1#32
  let c13_i32_1518 : BitVec 32 := 13#32
  let v1509 : BitVec 32 := Scalar.select v1508 c1_i32_1517 c13_i32_1518
  let v1510 : BitVec 32 := Scalar.addi v1426 v1509
  let c16_i32_1519 : BitVec 32 := 16#32
  let v1511 : BitVec 32 := Scalar.addi v1510 c16_i32_1519
  let c16_i32_1520 : BitVec 32 := 16#32
  let v1512 : BitVec 32 := Scalar.remsi v1511 c16_i32_1520
  let c2_i32_1605 : BitVec 32 := 2#32
  let v1593 : BitVec 32 := Scalar.remsi v1512 c2_i32_1605
  let c0_i32_1606 : BitVec 32 := 0#32
  let v1594 : BitVec 1 := Scalar.cmpi .eq v1593 c0_i32_1606
  let c1_i32_1607 : BitVec 32 := 1#32
  let c13_i32_1608 : BitVec 32 := 13#32
  let v1595 : BitVec 32 := Scalar.select v1594 c1_i32_1607 c13_i32_1608
  let v1596 : BitVec 32 := Scalar.addi v1512 v1595
  let c16_i32_1609 : BitVec 32 := 16#32
  let v1597 : BitVec 32 := Scalar.addi v1596 c16_i32_1609
  let c16_i32_1610 : BitVec 32 := 16#32
  let v1598 : BitVec 32 := Scalar.remsi v1597 c16_i32_1610
  let v1666 : Index := Scalar.indexCast v1598
  let c1_1683 : Index := 1#32
  let c0_1684 : Index := 0#32
  let c0_1685 : Index := 0#32
  ![v1666.toNat, 1, 0, 0]
def k0_off86 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c2_i32_1425 : BitVec 32 := 2#32
  let v1421 : BitVec 32 := Scalar.remsi v1340 c2_i32_1425
  let c0_i32_1426 : BitVec 32 := 0#32
  let v1422 : BitVec 1 := Scalar.cmpi .eq v1421 c0_i32_1426
  let c1_i32_1427 : BitVec 32 := 1#32
  let c13_i32_1428 : BitVec 32 := 13#32
  let v1423 : BitVec 32 := Scalar.select v1422 c1_i32_1427 c13_i32_1428
  let v1424 : BitVec 32 := Scalar.addi v1340 v1423
  let c16_i32_1429 : BitVec 32 := 16#32
  let v1425 : BitVec 32 := Scalar.addi v1424 c16_i32_1429
  let c16_i32_1430 : BitVec 32 := 16#32
  let v1426 : BitVec 32 := Scalar.remsi v1425 c16_i32_1430
  let c2_i32_1515 : BitVec 32 := 2#32
  let v1507 : BitVec 32 := Scalar.remsi v1426 c2_i32_1515
  let c0_i32_1516 : BitVec 32 := 0#32
  let v1508 : BitVec 1 := Scalar.cmpi .eq v1507 c0_i32_1516
  let c1_i32_1517 : BitVec 32 := 1#32
  let c13_i32_1518 : BitVec 32 := 13#32
  let v1509 : BitVec 32 := Scalar.select v1508 c1_i32_1517 c13_i32_1518
  let v1510 : BitVec 32 := Scalar.addi v1426 v1509
  let c16_i32_1519 : BitVec 32 := 16#32
  let v1511 : BitVec 32 := Scalar.addi v1510 c16_i32_1519
  let c16_i32_1520 : BitVec 32 := 16#32
  let v1512 : BitVec 32 := Scalar.remsi v1511 c16_i32_1520
  let c2_i32_1605 : BitVec 32 := 2#32
  let v1593 : BitVec 32 := Scalar.remsi v1512 c2_i32_1605
  let c0_i32_1606 : BitVec 32 := 0#32
  let v1594 : BitVec 1 := Scalar.cmpi .eq v1593 c0_i32_1606
  let c1_i32_1607 : BitVec 32 := 1#32
  let c13_i32_1608 : BitVec 32 := 13#32
  let v1595 : BitVec 32 := Scalar.select v1594 c1_i32_1607 c13_i32_1608
  let v1596 : BitVec 32 := Scalar.addi v1512 v1595
  let c16_i32_1609 : BitVec 32 := 16#32
  let v1597 : BitVec 32 := Scalar.addi v1596 c16_i32_1609
  let c16_i32_1610 : BitVec 32 := 16#32
  let v1598 : BitVec 32 := Scalar.remsi v1597 c16_i32_1610
  let c2_i32_1695 : BitVec 32 := 2#32
  let v1679 : BitVec 32 := Scalar.remsi v1598 c2_i32_1695
  let c0_i32_1696 : BitVec 32 := 0#32
  let v1680 : BitVec 1 := Scalar.cmpi .eq v1679 c0_i32_1696
  let c1_i32_1697 : BitVec 32 := 1#32
  let c13_i32_1698 : BitVec 32 := 13#32
  let v1681 : BitVec 32 := Scalar.select v1680 c1_i32_1697 c13_i32_1698
  let v1682 : BitVec 32 := Scalar.addi v1598 v1681
  let c16_i32_1699 : BitVec 32 := 16#32
  let v1683 : BitVec 32 := Scalar.addi v1682 c16_i32_1699
  let c16_i32_1700 : BitVec 32 := 16#32
  let v1684 : BitVec 32 := Scalar.remsi v1683 c16_i32_1700
  let c1_i32_1713 : BitVec 32 := 1#32
  ![v1684.toNat, 1]
def k0_off87 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c2_i32_1425 : BitVec 32 := 2#32
  let v1421 : BitVec 32 := Scalar.remsi v1340 c2_i32_1425
  let c0_i32_1426 : BitVec 32 := 0#32
  let v1422 : BitVec 1 := Scalar.cmpi .eq v1421 c0_i32_1426
  let c1_i32_1427 : BitVec 32 := 1#32
  let c13_i32_1428 : BitVec 32 := 13#32
  let v1423 : BitVec 32 := Scalar.select v1422 c1_i32_1427 c13_i32_1428
  let v1424 : BitVec 32 := Scalar.addi v1340 v1423
  let c16_i32_1429 : BitVec 32 := 16#32
  let v1425 : BitVec 32 := Scalar.addi v1424 c16_i32_1429
  let c16_i32_1430 : BitVec 32 := 16#32
  let v1426 : BitVec 32 := Scalar.remsi v1425 c16_i32_1430
  let c2_i32_1515 : BitVec 32 := 2#32
  let v1507 : BitVec 32 := Scalar.remsi v1426 c2_i32_1515
  let c0_i32_1516 : BitVec 32 := 0#32
  let v1508 : BitVec 1 := Scalar.cmpi .eq v1507 c0_i32_1516
  let c1_i32_1517 : BitVec 32 := 1#32
  let c13_i32_1518 : BitVec 32 := 13#32
  let v1509 : BitVec 32 := Scalar.select v1508 c1_i32_1517 c13_i32_1518
  let v1510 : BitVec 32 := Scalar.addi v1426 v1509
  let c16_i32_1519 : BitVec 32 := 16#32
  let v1511 : BitVec 32 := Scalar.addi v1510 c16_i32_1519
  let c16_i32_1520 : BitVec 32 := 16#32
  let v1512 : BitVec 32 := Scalar.remsi v1511 c16_i32_1520
  let c2_i32_1605 : BitVec 32 := 2#32
  let v1593 : BitVec 32 := Scalar.remsi v1512 c2_i32_1605
  let c0_i32_1606 : BitVec 32 := 0#32
  let v1594 : BitVec 1 := Scalar.cmpi .eq v1593 c0_i32_1606
  let c1_i32_1607 : BitVec 32 := 1#32
  let c13_i32_1608 : BitVec 32 := 13#32
  let v1595 : BitVec 32 := Scalar.select v1594 c1_i32_1607 c13_i32_1608
  let v1596 : BitVec 32 := Scalar.addi v1512 v1595
  let c16_i32_1609 : BitVec 32 := 16#32
  let v1597 : BitVec 32 := Scalar.addi v1596 c16_i32_1609
  let c16_i32_1610 : BitVec 32 := 16#32
  let v1598 : BitVec 32 := Scalar.remsi v1597 c16_i32_1610
  let c2_i32_1695 : BitVec 32 := 2#32
  let v1679 : BitVec 32 := Scalar.remsi v1598 c2_i32_1695
  let c0_i32_1696 : BitVec 32 := 0#32
  let v1680 : BitVec 1 := Scalar.cmpi .eq v1679 c0_i32_1696
  let c1_i32_1697 : BitVec 32 := 1#32
  let c13_i32_1698 : BitVec 32 := 13#32
  let v1681 : BitVec 32 := Scalar.select v1680 c1_i32_1697 c13_i32_1698
  let v1682 : BitVec 32 := Scalar.addi v1598 v1681
  let c16_i32_1699 : BitVec 32 := 16#32
  let v1683 : BitVec 32 := Scalar.addi v1682 c16_i32_1699
  let c16_i32_1700 : BitVec 32 := 16#32
  let v1684 : BitVec 32 := Scalar.remsi v1683 c16_i32_1700
  let c1_i32_1712 : BitVec 32 := 1#32
  let c0_i32_1717 : BitVec 32 := 0#32
  let c0_i32_1718 : BitVec 32 := 0#32
  ![v1684.toNat, 1, 0, 0]
def k0_off88 (d0 : Dev nD) : Fin 4 → Nat :=
  let c1_i32_1741 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c2_i32_1425 : BitVec 32 := 2#32
  let v1421 : BitVec 32 := Scalar.remsi v1340 c2_i32_1425
  let c0_i32_1426 : BitVec 32 := 0#32
  let v1422 : BitVec 1 := Scalar.cmpi .eq v1421 c0_i32_1426
  let c1_i32_1427 : BitVec 32 := 1#32
  let c13_i32_1428 : BitVec 32 := 13#32
  let v1423 : BitVec 32 := Scalar.select v1422 c1_i32_1427 c13_i32_1428
  let v1424 : BitVec 32 := Scalar.addi v1340 v1423
  let c16_i32_1429 : BitVec 32 := 16#32
  let v1425 : BitVec 32 := Scalar.addi v1424 c16_i32_1429
  let c16_i32_1430 : BitVec 32 := 16#32
  let v1426 : BitVec 32 := Scalar.remsi v1425 c16_i32_1430
  let c2_i32_1515 : BitVec 32 := 2#32
  let v1507 : BitVec 32 := Scalar.remsi v1426 c2_i32_1515
  let c0_i32_1516 : BitVec 32 := 0#32
  let v1508 : BitVec 1 := Scalar.cmpi .eq v1507 c0_i32_1516
  let c1_i32_1517 : BitVec 32 := 1#32
  let c13_i32_1518 : BitVec 32 := 13#32
  let v1509 : BitVec 32 := Scalar.select v1508 c1_i32_1517 c13_i32_1518
  let v1510 : BitVec 32 := Scalar.addi v1426 v1509
  let c16_i32_1519 : BitVec 32 := 16#32
  let v1511 : BitVec 32 := Scalar.addi v1510 c16_i32_1519
  let c16_i32_1520 : BitVec 32 := 16#32
  let v1512 : BitVec 32 := Scalar.remsi v1511 c16_i32_1520
  let c2_i32_1605 : BitVec 32 := 2#32
  let v1593 : BitVec 32 := Scalar.remsi v1512 c2_i32_1605
  let c0_i32_1606 : BitVec 32 := 0#32
  let v1594 : BitVec 1 := Scalar.cmpi .eq v1593 c0_i32_1606
  let c1_i32_1607 : BitVec 32 := 1#32
  let c13_i32_1608 : BitVec 32 := 13#32
  let v1595 : BitVec 32 := Scalar.select v1594 c1_i32_1607 c13_i32_1608
  let v1596 : BitVec 32 := Scalar.addi v1512 v1595
  let c16_i32_1609 : BitVec 32 := 16#32
  let v1597 : BitVec 32 := Scalar.addi v1596 c16_i32_1609
  let c16_i32_1610 : BitVec 32 := 16#32
  let v1598 : BitVec 32 := Scalar.remsi v1597 c16_i32_1610
  let c2_i32_1695 : BitVec 32 := 2#32
  let v1679 : BitVec 32 := Scalar.remsi v1598 c2_i32_1695
  let c0_i32_1696 : BitVec 32 := 0#32
  let v1680 : BitVec 1 := Scalar.cmpi .eq v1679 c0_i32_1696
  let c1_i32_1697 : BitVec 32 := 1#32
  let c13_i32_1698 : BitVec 32 := 13#32
  let v1681 : BitVec 32 := Scalar.select v1680 c1_i32_1697 c13_i32_1698
  let v1682 : BitVec 32 := Scalar.addi v1598 v1681
  let c16_i32_1699 : BitVec 32 := 16#32
  let v1683 : BitVec 32 := Scalar.addi v1682 c16_i32_1699
  let c16_i32_1700 : BitVec 32 := 16#32
  let v1684 : BitVec 32 := Scalar.remsi v1683 c16_i32_1700
  let c0_i32_1746 : BitVec 32 := 0#32
  let c0_i32_1747 : BitVec 32 := 0#32
  ![1, v1684.toNat, 0, 0]
def k0_off89 (d0 : Dev nD) : Fin 4 → Nat :=
  let c1_1750 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c2_i32_1425 : BitVec 32 := 2#32
  let v1421 : BitVec 32 := Scalar.remsi v1340 c2_i32_1425
  let c0_i32_1426 : BitVec 32 := 0#32
  let v1422 : BitVec 1 := Scalar.cmpi .eq v1421 c0_i32_1426
  let c1_i32_1427 : BitVec 32 := 1#32
  let c13_i32_1428 : BitVec 32 := 13#32
  let v1423 : BitVec 32 := Scalar.select v1422 c1_i32_1427 c13_i32_1428
  let v1424 : BitVec 32 := Scalar.addi v1340 v1423
  let c16_i32_1429 : BitVec 32 := 16#32
  let v1425 : BitVec 32 := Scalar.addi v1424 c16_i32_1429
  let c16_i32_1430 : BitVec 32 := 16#32
  let v1426 : BitVec 32 := Scalar.remsi v1425 c16_i32_1430
  let c2_i32_1515 : BitVec 32 := 2#32
  let v1507 : BitVec 32 := Scalar.remsi v1426 c2_i32_1515
  let c0_i32_1516 : BitVec 32 := 0#32
  let v1508 : BitVec 1 := Scalar.cmpi .eq v1507 c0_i32_1516
  let c1_i32_1517 : BitVec 32 := 1#32
  let c13_i32_1518 : BitVec 32 := 13#32
  let v1509 : BitVec 32 := Scalar.select v1508 c1_i32_1517 c13_i32_1518
  let v1510 : BitVec 32 := Scalar.addi v1426 v1509
  let c16_i32_1519 : BitVec 32 := 16#32
  let v1511 : BitVec 32 := Scalar.addi v1510 c16_i32_1519
  let c16_i32_1520 : BitVec 32 := 16#32
  let v1512 : BitVec 32 := Scalar.remsi v1511 c16_i32_1520
  let c2_i32_1605 : BitVec 32 := 2#32
  let v1593 : BitVec 32 := Scalar.remsi v1512 c2_i32_1605
  let c0_i32_1606 : BitVec 32 := 0#32
  let v1594 : BitVec 1 := Scalar.cmpi .eq v1593 c0_i32_1606
  let c1_i32_1607 : BitVec 32 := 1#32
  let c13_i32_1608 : BitVec 32 := 13#32
  let v1595 : BitVec 32 := Scalar.select v1594 c1_i32_1607 c13_i32_1608
  let v1596 : BitVec 32 := Scalar.addi v1512 v1595
  let c16_i32_1609 : BitVec 32 := 16#32
  let v1597 : BitVec 32 := Scalar.addi v1596 c16_i32_1609
  let c16_i32_1610 : BitVec 32 := 16#32
  let v1598 : BitVec 32 := Scalar.remsi v1597 c16_i32_1610
  let c2_i32_1695 : BitVec 32 := 2#32
  let v1679 : BitVec 32 := Scalar.remsi v1598 c2_i32_1695
  let c0_i32_1696 : BitVec 32 := 0#32
  let v1680 : BitVec 1 := Scalar.cmpi .eq v1679 c0_i32_1696
  let c1_i32_1697 : BitVec 32 := 1#32
  let c13_i32_1698 : BitVec 32 := 13#32
  let v1681 : BitVec 32 := Scalar.select v1680 c1_i32_1697 c13_i32_1698
  let v1682 : BitVec 32 := Scalar.addi v1598 v1681
  let c16_i32_1699 : BitVec 32 := 16#32
  let v1683 : BitVec 32 := Scalar.addi v1682 c16_i32_1699
  let c16_i32_1700 : BitVec 32 := 16#32
  let v1684 : BitVec 32 := Scalar.remsi v1683 c16_i32_1700
  let v1728 : Index := Scalar.indexCast v1684
  let c0_1751 : Index := 0#32
  let c0_1752 : Index := 0#32
  ![1, v1728.toNat, 0, 0]
def k0_off90 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_435 : BitVec 32 := 2#32
  let v475 : BitVec 32 := Scalar.remsi v2 c2_i32_435
  let c0_i32_436 : BitVec 32 := 0#32
  let v476 : BitVec 1 := Scalar.cmpi .eq v475 c0_i32_436
  let c1_i32_437 : BitVec 32 := 1#32
  let c13_i32_438 : BitVec 32 := 13#32
  let v477 : BitVec 32 := Scalar.select v476 c1_i32_437 c13_i32_438
  let v478 : BitVec 32 := Scalar.addi v2 v477
  let c16_i32_439 : BitVec 32 := 16#32
  let v479 : BitVec 32 := Scalar.addi v478 c16_i32_439
  let c16_i32_440 : BitVec 32 := 16#32
  let v480 : BitVec 32 := Scalar.remsi v479 c16_i32_440
  let c2_i32_525 : BitVec 32 := 2#32
  let v561 : BitVec 32 := Scalar.remsi v480 c2_i32_525
  let c0_i32_526 : BitVec 32 := 0#32
  let v562 : BitVec 1 := Scalar.cmpi .eq v561 c0_i32_526
  let c1_i32_527 : BitVec 32 := 1#32
  let c13_i32_528 : BitVec 32 := 13#32
  let v563 : BitVec 32 := Scalar.select v562 c1_i32_527 c13_i32_528
  let v564 : BitVec 32 := Scalar.addi v480 v563
  let c16_i32_529 : BitVec 32 := 16#32
  let v565 : BitVec 32 := Scalar.addi v564 c16_i32_529
  let c16_i32_530 : BitVec 32 := 16#32
  let v566 : BitVec 32 := Scalar.remsi v565 c16_i32_530
  let c2_i32_615 : BitVec 32 := 2#32
  let v647 : BitVec 32 := Scalar.remsi v566 c2_i32_615
  let c0_i32_616 : BitVec 32 := 0#32
  let v648 : BitVec 1 := Scalar.cmpi .eq v647 c0_i32_616
  let c1_i32_617 : BitVec 32 := 1#32
  let c13_i32_618 : BitVec 32 := 13#32
  let v649 : BitVec 32 := Scalar.select v648 c1_i32_617 c13_i32_618
  let v650 : BitVec 32 := Scalar.addi v566 v649
  let c16_i32_619 : BitVec 32 := 16#32
  let v651 : BitVec 32 := Scalar.addi v650 c16_i32_619
  let c16_i32_620 : BitVec 32 := 16#32
  let v652 : BitVec 32 := Scalar.remsi v651 c16_i32_620
  let c2_i32_705 : BitVec 32 := 2#32
  let v733 : BitVec 32 := Scalar.remsi v652 c2_i32_705
  let c0_i32_706 : BitVec 32 := 0#32
  let v734 : BitVec 1 := Scalar.cmpi .eq v733 c0_i32_706
  let c1_i32_707 : BitVec 32 := 1#32
  let c13_i32_708 : BitVec 32 := 13#32
  let v735 : BitVec 32 := Scalar.select v734 c1_i32_707 c13_i32_708
  let v736 : BitVec 32 := Scalar.addi v652 v735
  let c16_i32_709 : BitVec 32 := 16#32
  let v737 : BitVec 32 := Scalar.addi v736 c16_i32_709
  let c16_i32_710 : BitVec 32 := 16#32
  let v738 : BitVec 32 := Scalar.remsi v737 c16_i32_710
  let c2_i32_795 : BitVec 32 := 2#32
  let v819 : BitVec 32 := Scalar.remsi v738 c2_i32_795
  let c0_i32_796 : BitVec 32 := 0#32
  let v820 : BitVec 1 := Scalar.cmpi .eq v819 c0_i32_796
  let c1_i32_797 : BitVec 32 := 1#32
  let c13_i32_798 : BitVec 32 := 13#32
  let v821 : BitVec 32 := Scalar.select v820 c1_i32_797 c13_i32_798
  let v822 : BitVec 32 := Scalar.addi v738 v821
  let c16_i32_799 : BitVec 32 := 16#32
  let v823 : BitVec 32 := Scalar.addi v822 c16_i32_799
  let c16_i32_800 : BitVec 32 := 16#32
  let v824 : BitVec 32 := Scalar.remsi v823 c16_i32_800
  let c2_i32_885 : BitVec 32 := 2#32
  let v905 : BitVec 32 := Scalar.remsi v824 c2_i32_885
  let c0_i32_886 : BitVec 32 := 0#32
  let v906 : BitVec 1 := Scalar.cmpi .eq v905 c0_i32_886
  let c1_i32_887 : BitVec 32 := 1#32
  let c13_i32_888 : BitVec 32 := 13#32
  let v907 : BitVec 32 := Scalar.select v906 c1_i32_887 c13_i32_888
  let v908 : BitVec 32 := Scalar.addi v824 v907
  let c16_i32_889 : BitVec 32 := 16#32
  let v909 : BitVec 32 := Scalar.addi v908 c16_i32_889
  let c16_i32_890 : BitVec 32 := 16#32
  let v910 : BitVec 32 := Scalar.remsi v909 c16_i32_890
  let c2_i32_975 : BitVec 32 := 2#32
  let v991 : BitVec 32 := Scalar.remsi v910 c2_i32_975
  let c0_i32_976 : BitVec 32 := 0#32
  let v992 : BitVec 1 := Scalar.cmpi .eq v991 c0_i32_976
  let c1_i32_977 : BitVec 32 := 1#32
  let c13_i32_978 : BitVec 32 := 13#32
  let v993 : BitVec 32 := Scalar.select v992 c1_i32_977 c13_i32_978
  let v994 : BitVec 32 := Scalar.addi v910 v993
  let c16_i32_979 : BitVec 32 := 16#32
  let v995 : BitVec 32 := Scalar.addi v994 c16_i32_979
  let c16_i32_980 : BitVec 32 := 16#32
  let v996 : BitVec 32 := Scalar.remsi v995 c16_i32_980
  let c2_i32_1065 : BitVec 32 := 2#32
  let v1077 : BitVec 32 := Scalar.remsi v996 c2_i32_1065
  let c0_i32_1066 : BitVec 32 := 0#32
  let v1078 : BitVec 1 := Scalar.cmpi .eq v1077 c0_i32_1066
  let c1_i32_1067 : BitVec 32 := 1#32
  let c13_i32_1068 : BitVec 32 := 13#32
  let v1079 : BitVec 32 := Scalar.select v1078 c1_i32_1067 c13_i32_1068
  let v1080 : BitVec 32 := Scalar.addi v996 v1079
  let c16_i32_1069 : BitVec 32 := 16#32
  let v1081 : BitVec 32 := Scalar.addi v1080 c16_i32_1069
  let c16_i32_1070 : BitVec 32 := 16#32
  let v1082 : BitVec 32 := Scalar.remsi v1081 c16_i32_1070
  let c2_i32_1155 : BitVec 32 := 2#32
  let v1163 : BitVec 32 := Scalar.remsi v1082 c2_i32_1155
  let c0_i32_1156 : BitVec 32 := 0#32
  let v1164 : BitVec 1 := Scalar.cmpi .eq v1163 c0_i32_1156
  let c1_i32_1157 : BitVec 32 := 1#32
  let c13_i32_1158 : BitVec 32 := 13#32
  let v1165 : BitVec 32 := Scalar.select v1164 c1_i32_1157 c13_i32_1158
  let v1166 : BitVec 32 := Scalar.addi v1082 v1165
  let c16_i32_1159 : BitVec 32 := 16#32
  let v1167 : BitVec 32 := Scalar.addi v1166 c16_i32_1159
  let c16_i32_1160 : BitVec 32 := 16#32
  let v1168 : BitVec 32 := Scalar.remsi v1167 c16_i32_1160
  let c2_i32_1245 : BitVec 32 := 2#32
  let v1249 : BitVec 32 := Scalar.remsi v1168 c2_i32_1245
  let c0_i32_1246 : BitVec 32 := 0#32
  let v1250 : BitVec 1 := Scalar.cmpi .eq v1249 c0_i32_1246
  let c1_i32_1247 : BitVec 32 := 1#32
  let c13_i32_1248 : BitVec 32 := 13#32
  let v1251 : BitVec 32 := Scalar.select v1250 c1_i32_1247 c13_i32_1248
  let v1252 : BitVec 32 := Scalar.addi v1168 v1251
  let c16_i32_1249 : BitVec 32 := 16#32
  let v1253 : BitVec 32 := Scalar.addi v1252 c16_i32_1249
  let c16_i32_1250 : BitVec 32 := 16#32
  let v1254 : BitVec 32 := Scalar.remsi v1253 c16_i32_1250
  let c2_i32_1335 : BitVec 32 := 2#32
  let v1335 : BitVec 32 := Scalar.remsi v1254 c2_i32_1335
  let c0_i32_1336 : BitVec 32 := 0#32
  let v1336 : BitVec 1 := Scalar.cmpi .eq v1335 c0_i32_1336
  let c1_i32_1337 : BitVec 32 := 1#32
  let c13_i32_1338 : BitVec 32 := 13#32
  let v1337 : BitVec 32 := Scalar.select v1336 c1_i32_1337 c13_i32_1338
  let v1338 : BitVec 32 := Scalar.addi v1254 v1337
  let c16_i32_1339 : BitVec 32 := 16#32
  let v1339 : BitVec 32 := Scalar.addi v1338 c16_i32_1339
  let c16_i32_1340 : BitVec 32 := 16#32
  let v1340 : BitVec 32 := Scalar.remsi v1339 c16_i32_1340
  let c2_i32_1425 : BitVec 32 := 2#32
  let v1421 : BitVec 32 := Scalar.remsi v1340 c2_i32_1425
  let c0_i32_1426 : BitVec 32 := 0#32
  let v1422 : BitVec 1 := Scalar.cmpi .eq v1421 c0_i32_1426
  let c1_i32_1427 : BitVec 32 := 1#32
  let c13_i32_1428 : BitVec 32 := 13#32
  let v1423 : BitVec 32 := Scalar.select v1422 c1_i32_1427 c13_i32_1428
  let v1424 : BitVec 32 := Scalar.addi v1340 v1423
  let c16_i32_1429 : BitVec 32 := 16#32
  let v1425 : BitVec 32 := Scalar.addi v1424 c16_i32_1429
  let c16_i32_1430 : BitVec 32 := 16#32
  let v1426 : BitVec 32 := Scalar.remsi v1425 c16_i32_1430
  let c2_i32_1515 : BitVec 32 := 2#32
  let v1507 : BitVec 32 := Scalar.remsi v1426 c2_i32_1515
  let c0_i32_1516 : BitVec 32 := 0#32
  let v1508 : BitVec 1 := Scalar.cmpi .eq v1507 c0_i32_1516
  let c1_i32_1517 : BitVec 32 := 1#32
  let c13_i32_1518 : BitVec 32 := 13#32
  let v1509 : BitVec 32 := Scalar.select v1508 c1_i32_1517 c13_i32_1518
  let v1510 : BitVec 32 := Scalar.addi v1426 v1509
  let c16_i32_1519 : BitVec 32 := 16#32
  let v1511 : BitVec 32 := Scalar.addi v1510 c16_i32_1519
  let c16_i32_1520 : BitVec 32 := 16#32
  let v1512 : BitVec 32 := Scalar.remsi v1511 c16_i32_1520
  let c2_i32_1605 : BitVec 32 := 2#32
  let v1593 : BitVec 32 := Scalar.remsi v1512 c2_i32_1605
  let c0_i32_1606 : BitVec 32 := 0#32
  let v1594 : BitVec 1 := Scalar.cmpi .eq v1593 c0_i32_1606
  let c1_i32_1607 : BitVec 32 := 1#32
  let c13_i32_1608 : BitVec 32 := 13#32
  let v1595 : BitVec 32 := Scalar.select v1594 c1_i32_1607 c13_i32_1608
  let v1596 : BitVec 32 := Scalar.addi v1512 v1595
  let c16_i32_1609 : BitVec 32 := 16#32
  let v1597 : BitVec 32 := Scalar.addi v1596 c16_i32_1609
  let c16_i32_1610 : BitVec 32 := 16#32
  let v1598 : BitVec 32 := Scalar.remsi v1597 c16_i32_1610
  let c2_i32_1695 : BitVec 32 := 2#32
  let v1679 : BitVec 32 := Scalar.remsi v1598 c2_i32_1695
  let c0_i32_1696 : BitVec 32 := 0#32
  let v1680 : BitVec 1 := Scalar.cmpi .eq v1679 c0_i32_1696
  let c1_i32_1697 : BitVec 32 := 1#32
  let c13_i32_1698 : BitVec 32 := 13#32
  let v1681 : BitVec 32 := Scalar.select v1680 c1_i32_1697 c13_i32_1698
  let v1682 : BitVec 32 := Scalar.addi v1598 v1681
  let c16_i32_1699 : BitVec 32 := 16#32
  let v1683 : BitVec 32 := Scalar.addi v1682 c16_i32_1699
  let c16_i32_1700 : BitVec 32 := 16#32
  let v1684 : BitVec 32 := Scalar.remsi v1683 c16_i32_1700
  let v1732 : Index := Scalar.indexCast v1684
  let c1_1753 : Index := 1#32
  let c0_1754 : Index := 0#32
  let c0_1755 : Index := 0#32
  ![v1732.toNat, 1, 0, 0]
def k0_dev76 (d0 : Dev nD) : Nat :=
  let c0_i32_2256_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2251_r0 : BitVec 32 := 1#32
  let v2090_r0 : BitVec 32 := Scalar.addi v2 c1_i32_2251_r0
  let c16_i32_2252_r0 : BitVec 32 := 16#32
  let v2091_r0 : BitVec 32 := Scalar.addi v2090_r0 c16_i32_2252_r0
  let c16_i32_2253_r0 : BitVec 32 := 16#32
  let v2092_r0 : BitVec 32 := Scalar.remsi v2091_r0 c16_i32_2253_r0
  let c1_i32_2255_r0 : BitVec 32 := 1#32
  let v2093_r0 : BitVec 32 := Scalar.muli v2092_r0 c1_i32_2255_r0
  let v2094_r0 : BitVec 32 := Scalar.addi c0_i32_2256_r0 v2093_r0
  v2094_r0.toNat
def k0_dev77 (d0 : Dev nD) : Nat :=
  let c0_i32_2262_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2257_r0 : BitVec 32 := 2#32
  let v2095_r0 : BitVec 32 := Scalar.addi v2 c2_i32_2257_r0
  let c16_i32_2258_r0 : BitVec 32 := 16#32
  let v2096_r0 : BitVec 32 := Scalar.addi v2095_r0 c16_i32_2258_r0
  let c16_i32_2259_r0 : BitVec 32 := 16#32
  let v2097_r0 : BitVec 32 := Scalar.remsi v2096_r0 c16_i32_2259_r0
  let c1_i32_2261_r0 : BitVec 32 := 1#32
  let v2098_r0 : BitVec 32 := Scalar.muli v2097_r0 c1_i32_2261_r0
  let v2099_r0 : BitVec 32 := Scalar.addi c0_i32_2262_r0 v2098_r0
  v2099_r0.toNat
def k0_dev78 (d0 : Dev nD) : Nat :=
  let c0_i32_2268_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2263_r0 : BitVec 32 := 3#32
  let v2100_r0 : BitVec 32 := Scalar.addi v2 c3_i32_2263_r0
  let c16_i32_2264_r0 : BitVec 32 := 16#32
  let v2101_r0 : BitVec 32 := Scalar.addi v2100_r0 c16_i32_2264_r0
  let c16_i32_2265_r0 : BitVec 32 := 16#32
  let v2102_r0 : BitVec 32 := Scalar.remsi v2101_r0 c16_i32_2265_r0
  let c1_i32_2267_r0 : BitVec 32 := 1#32
  let v2103_r0 : BitVec 32 := Scalar.muli v2102_r0 c1_i32_2267_r0
  let v2104_r0 : BitVec 32 := Scalar.addi c0_i32_2268_r0 v2103_r0
  v2104_r0.toNat
def k0_dev79 (d0 : Dev nD) : Nat :=
  let c0_i32_2274_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2269_r0 : BitVec 32 := 4#32
  let v2105_r0 : BitVec 32 := Scalar.addi v2 c4_i32_2269_r0
  let c16_i32_2270_r0 : BitVec 32 := 16#32
  let v2106_r0 : BitVec 32 := Scalar.addi v2105_r0 c16_i32_2270_r0
  let c16_i32_2271_r0 : BitVec 32 := 16#32
  let v2107_r0 : BitVec 32 := Scalar.remsi v2106_r0 c16_i32_2271_r0
  let c1_i32_2273_r0 : BitVec 32 := 1#32
  let v2108_r0 : BitVec 32 := Scalar.muli v2107_r0 c1_i32_2273_r0
  let v2109_r0 : BitVec 32 := Scalar.addi c0_i32_2274_r0 v2108_r0
  v2109_r0.toNat
def k0_dev80 (d0 : Dev nD) : Nat :=
  let c0_i32_2280_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2275_r0 : BitVec 32 := 5#32
  let v2110_r0 : BitVec 32 := Scalar.addi v2 c5_i32_2275_r0
  let c16_i32_2276_r0 : BitVec 32 := 16#32
  let v2111_r0 : BitVec 32 := Scalar.addi v2110_r0 c16_i32_2276_r0
  let c16_i32_2277_r0 : BitVec 32 := 16#32
  let v2112_r0 : BitVec 32 := Scalar.remsi v2111_r0 c16_i32_2277_r0
  let c1_i32_2279_r0 : BitVec 32 := 1#32
  let v2113_r0 : BitVec 32 := Scalar.muli v2112_r0 c1_i32_2279_r0
  let v2114_r0 : BitVec 32 := Scalar.addi c0_i32_2280_r0 v2113_r0
  v2114_r0.toNat
def k0_dev81 (d0 : Dev nD) : Nat :=
  let c0_i32_2286_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2281_r0 : BitVec 32 := 6#32
  let v2115_r0 : BitVec 32 := Scalar.addi v2 c6_i32_2281_r0
  let c16_i32_2282_r0 : BitVec 32 := 16#32
  let v2116_r0 : BitVec 32 := Scalar.addi v2115_r0 c16_i32_2282_r0
  let c16_i32_2283_r0 : BitVec 32 := 16#32
  let v2117_r0 : BitVec 32 := Scalar.remsi v2116_r0 c16_i32_2283_r0
  let c1_i32_2285_r0 : BitVec 32 := 1#32
  let v2118_r0 : BitVec 32 := Scalar.muli v2117_r0 c1_i32_2285_r0
  let v2119_r0 : BitVec 32 := Scalar.addi c0_i32_2286_r0 v2118_r0
  v2119_r0.toNat
def k0_dev82 (d0 : Dev nD) : Nat :=
  let c0_i32_2292_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2287_r0 : BitVec 32 := 7#32
  let v2120_r0 : BitVec 32 := Scalar.addi v2 c7_i32_2287_r0
  let c16_i32_2288_r0 : BitVec 32 := 16#32
  let v2121_r0 : BitVec 32 := Scalar.addi v2120_r0 c16_i32_2288_r0
  let c16_i32_2289_r0 : BitVec 32 := 16#32
  let v2122_r0 : BitVec 32 := Scalar.remsi v2121_r0 c16_i32_2289_r0
  let c1_i32_2291_r0 : BitVec 32 := 1#32
  let v2123_r0 : BitVec 32 := Scalar.muli v2122_r0 c1_i32_2291_r0
  let v2124_r0 : BitVec 32 := Scalar.addi c0_i32_2292_r0 v2123_r0
  v2124_r0.toNat
def k0_dev83 (d0 : Dev nD) : Nat :=
  let c0_i32_2298_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2293_r0 : BitVec 32 := 8#32
  let v2125_r0 : BitVec 32 := Scalar.addi v2 c8_i32_2293_r0
  let c16_i32_2294_r0 : BitVec 32 := 16#32
  let v2126_r0 : BitVec 32 := Scalar.addi v2125_r0 c16_i32_2294_r0
  let c16_i32_2295_r0 : BitVec 32 := 16#32
  let v2127_r0 : BitVec 32 := Scalar.remsi v2126_r0 c16_i32_2295_r0
  let c1_i32_2297_r0 : BitVec 32 := 1#32
  let v2128_r0 : BitVec 32 := Scalar.muli v2127_r0 c1_i32_2297_r0
  let v2129_r0 : BitVec 32 := Scalar.addi c0_i32_2298_r0 v2128_r0
  v2129_r0.toNat
def k0_dev84 (d0 : Dev nD) : Nat :=
  let c0_i32_2304_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2299_r0 : BitVec 32 := 9#32
  let v2130_r0 : BitVec 32 := Scalar.addi v2 c9_i32_2299_r0
  let c16_i32_2300_r0 : BitVec 32 := 16#32
  let v2131_r0 : BitVec 32 := Scalar.addi v2130_r0 c16_i32_2300_r0
  let c16_i32_2301_r0 : BitVec 32 := 16#32
  let v2132_r0 : BitVec 32 := Scalar.remsi v2131_r0 c16_i32_2301_r0
  let c1_i32_2303_r0 : BitVec 32 := 1#32
  let v2133_r0 : BitVec 32 := Scalar.muli v2132_r0 c1_i32_2303_r0
  let v2134_r0 : BitVec 32 := Scalar.addi c0_i32_2304_r0 v2133_r0
  v2134_r0.toNat
def k0_dev85 (d0 : Dev nD) : Nat :=
  let c0_i32_2310_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2305_r0 : BitVec 32 := 10#32
  let v2135_r0 : BitVec 32 := Scalar.addi v2 c10_i32_2305_r0
  let c16_i32_2306_r0 : BitVec 32 := 16#32
  let v2136_r0 : BitVec 32 := Scalar.addi v2135_r0 c16_i32_2306_r0
  let c16_i32_2307_r0 : BitVec 32 := 16#32
  let v2137_r0 : BitVec 32 := Scalar.remsi v2136_r0 c16_i32_2307_r0
  let c1_i32_2309_r0 : BitVec 32 := 1#32
  let v2138_r0 : BitVec 32 := Scalar.muli v2137_r0 c1_i32_2309_r0
  let v2139_r0 : BitVec 32 := Scalar.addi c0_i32_2310_r0 v2138_r0
  v2139_r0.toNat
def k0_dev86 (d0 : Dev nD) : Nat :=
  let c0_i32_2316_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2311_r0 : BitVec 32 := 11#32
  let v2140_r0 : BitVec 32 := Scalar.addi v2 c11_i32_2311_r0
  let c16_i32_2312_r0 : BitVec 32 := 16#32
  let v2141_r0 : BitVec 32 := Scalar.addi v2140_r0 c16_i32_2312_r0
  let c16_i32_2313_r0 : BitVec 32 := 16#32
  let v2142_r0 : BitVec 32 := Scalar.remsi v2141_r0 c16_i32_2313_r0
  let c1_i32_2315_r0 : BitVec 32 := 1#32
  let v2143_r0 : BitVec 32 := Scalar.muli v2142_r0 c1_i32_2315_r0
  let v2144_r0 : BitVec 32 := Scalar.addi c0_i32_2316_r0 v2143_r0
  v2144_r0.toNat
def k0_dev87 (d0 : Dev nD) : Nat :=
  let c0_i32_2322_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2317_r0 : BitVec 32 := 12#32
  let v2145_r0 : BitVec 32 := Scalar.addi v2 c12_i32_2317_r0
  let c16_i32_2318_r0 : BitVec 32 := 16#32
  let v2146_r0 : BitVec 32 := Scalar.addi v2145_r0 c16_i32_2318_r0
  let c16_i32_2319_r0 : BitVec 32 := 16#32
  let v2147_r0 : BitVec 32 := Scalar.remsi v2146_r0 c16_i32_2319_r0
  let c1_i32_2321_r0 : BitVec 32 := 1#32
  let v2148_r0 : BitVec 32 := Scalar.muli v2147_r0 c1_i32_2321_r0
  let v2149_r0 : BitVec 32 := Scalar.addi c0_i32_2322_r0 v2148_r0
  v2149_r0.toNat
def k0_dev88 (d0 : Dev nD) : Nat :=
  let c0_i32_2328_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2323_r0 : BitVec 32 := 13#32
  let v2150_r0 : BitVec 32 := Scalar.addi v2 c13_i32_2323_r0
  let c16_i32_2324_r0 : BitVec 32 := 16#32
  let v2151_r0 : BitVec 32 := Scalar.addi v2150_r0 c16_i32_2324_r0
  let c16_i32_2325_r0 : BitVec 32 := 16#32
  let v2152_r0 : BitVec 32 := Scalar.remsi v2151_r0 c16_i32_2325_r0
  let c1_i32_2327_r0 : BitVec 32 := 1#32
  let v2153_r0 : BitVec 32 := Scalar.muli v2152_r0 c1_i32_2327_r0
  let v2154_r0 : BitVec 32 := Scalar.addi c0_i32_2328_r0 v2153_r0
  v2154_r0.toNat
def k0_dev89 (d0 : Dev nD) : Nat :=
  let c0_i32_2334_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2329_r0 : BitVec 32 := 14#32
  let v2155_r0 : BitVec 32 := Scalar.addi v2 c14_i32_2329_r0
  let c16_i32_2330_r0 : BitVec 32 := 16#32
  let v2156_r0 : BitVec 32 := Scalar.addi v2155_r0 c16_i32_2330_r0
  let c16_i32_2331_r0 : BitVec 32 := 16#32
  let v2157_r0 : BitVec 32 := Scalar.remsi v2156_r0 c16_i32_2331_r0
  let c1_i32_2333_r0 : BitVec 32 := 1#32
  let v2158_r0 : BitVec 32 := Scalar.muli v2157_r0 c1_i32_2333_r0
  let v2159_r0 : BitVec 32 := Scalar.addi c0_i32_2334_r0 v2158_r0
  v2159_r0.toNat
def k0_dev90 (d0 : Dev nD) : Nat :=
  let c0_i32_2340_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2335_r0 : BitVec 32 := 15#32
  let v2160_r0 : BitVec 32 := Scalar.addi v2 c15_i32_2335_r0
  let c16_i32_2336_r0 : BitVec 32 := 16#32
  let v2161_r0 : BitVec 32 := Scalar.addi v2160_r0 c16_i32_2336_r0
  let c16_i32_2337_r0 : BitVec 32 := 16#32
  let v2162_r0 : BitVec 32 := Scalar.remsi v2161_r0 c16_i32_2337_r0
  let c1_i32_2339_r0 : BitVec 32 := 1#32
  let v2163_r0 : BitVec 32 := Scalar.muli v2162_r0 c1_i32_2339_r0
  let v2164_r0 : BitVec 32 := Scalar.addi c0_i32_2340_r0 v2163_r0
  v2164_r0.toNat
abbrev stage0_0 : Fin 1 → Memref sig .tc .vmem S4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x4096 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Facts.lean ====
/-
  The side conditions the two printed programs state, each decided.
-/
module

public import proofs.«01_k».proof.Kernel
public import proofs.«01_k».proof.KernelIdeal
public import Idealize.ShloMosaic.Lib.Decide

@[expose] public section

namespace Cert.Proof

open Idealize.ShloMosaic

instance factsK₀ : Cert.Kernel.Facts₀ := by
  constructor
  all_goals try decide +kernel
  all_goals try decide +kernel
  all_goals try exact fun | 0 => Memref.isWhole_whole _ | ⟨_ + 1, h⟩ => absurd h (Nat.not_lt.2 (Nat.le_add_left _ _))
  all_goals decide

instance factsK : Cert.Kernel.Facts where

instance factsI₀ : Cert.KernelIdeal.Facts₀ := by
  constructor
  all_goals try decide +kernel
  all_goals try decide +kernel
  all_goals try exact fun | 0 => Memref.isWhole_whole _ | ⟨_ + 1, h⟩ => absurd h (Nat.not_lt.2 (Nat.le_add_left _ _))
  all_goals decide

instance factsI : Cert.KernelIdeal.Facts where

end Cert.Proof
-- ==== Proof.Table.lean ====
/-
  Who talks to whom, as plain functions on the sixteen devices.

  `sh c k` is the device k places after c.  Each of the two rings of the gather has a next
  device `nx` and a previous one `pv`; `org r h c` is the device whose weights device c holds
  on ring r after h hops (`org r 0 c = c`).

  A device makes ninety payments to others, numbered in program order: 0–14 its signals on
  the barrier, 15–44 its tiles of x (two to each other device), 45–74 its weight blocks (two
  of its own, then two forwarded per hop), 75–89 its signals on the closing semaphore.  It
  takes sixty arrivals, numbered in the order it waits for them: four per hop, the weights of
  ring 0, of ring 1, the x tile of ring 0, of ring 1.
-/
module

public import proofs.«01_k».proof.Proof.Facts

@[expose] public section

namespace Cert.Proof

open Idealize.ShloMosaic
open Cert.KernelIdeal

/-- The device k places after c. -/
def sh (c : Dev nD) (k : ℕ) : Dev nD := ⟨(c.val + k) % 16, Nat.mod_lt _ (by decide)⟩

/-- The device that ring r sends to from c. -/
def nx (r : Fin 2) (c : Dev nD) : Dev nD :=
  if r = 0 then sh c 1 else if c.val % 2 = 1 then sh c 15 else sh c 3

/-- The device that sends to c on ring r. -/
def pv (r : Fin 2) (c : Dev nD) : Dev nD :=
  if r = 0 then sh c 15 else if c.val % 2 = 0 then sh c 1 else sh c 13

/-- The device h places before c on ring r. -/
def org (r : Fin 2) : ℕ → Dev nD → Dev nD
  | 0, c => c
  | h + 1, c => pv r (org r h c)

/-- The ring of a numbered transfer (15–74) of the list above. -/
def rg (i : ℕ) : Fin 2 := ⟨(i + 1) % 2, Nat.mod_lt _ (by decide)⟩

/-- The ring of a numbered arrival. -/
def rr (a : ℕ) : Fin 2 := ⟨a % 2, Nat.mod_lt _ (by decide)⟩

/-- The device payment i of c goes to. -/
def pdev (c : Dev nD) (i : ℕ) : Dev nD :=
  if i < 15 then sh c (i + 1) else if i < 45 then sh c ((i - 15) / 2 + 1)
  else if i < 75 then nx (rg i) c else sh c (i - 75 + 1)

/-- The device whose weights transfer i (45–74) of c carries. -/
def porg (c : Dev nD) (i : ℕ) : Dev nD := org (rg i) ((i - 45) / 2) c

/-- The device whose data arrival a of c carries. -/
def rorg (c : Dev nD) (a : ℕ) : Dev nD := org (rr a) (a / 4 + 1) c

theorem pv_nx : ∀ (r : Fin 2) (c : Dev nD), pv r (nx r c) = c := by decide +kernel
theorem nx_pv : ∀ (r : Fin 2) (c : Dev nD), nx r (pv r c) = c := by decide +kernel

theorem org_nx : ∀ (r : Fin 2) (c : Dev nD) (h : Fin 16), org r (h.val + 1) (nx r c) = org r h.val c := by
  decide +kernel

theorem org_last : ∀ (r : Fin 2) (c : Dev nD), org r 15 c = nx r c := by decide +kernel

/-- Sixteen hops meet every device once. -/
theorem org_inj : ∀ (r : Fin 2) (c : Dev nD) (h h' : Fin 16), org r h.val c = org r h'.val c → h = h' := by
  decide +kernel

theorem org_ne : ∀ (r : Fin 2) (c : Dev nD) (h : Fin 15), org r (h.val + 1) c ≠ c := by decide +kernel

theorem sh_ne : ∀ (c : Dev nD) (k : Fin 15), sh c (k.val + 1) ≠ c := by decide +kernel

theorem sh_inj : ∀ (c : Dev nD) (k k' : Fin 16), sh c k.val = sh c k'.val → k = k' := by decide +kernel

/-- The hop after which device c holds on ring r what came from o. -/
def dist (r : Fin 2) (o c : Dev nD) : ℕ := (List.range 16).findIdx fun h => decide (org r h c = o)

theorem dist_org : ∀ (r : Fin 2) (c : Dev nD) (h : Fin 16), dist r (org r h.val c) c = h.val := by decide +kernel

end Cert.Proof
-- ==== Proof.Proto.lean ====
/-
  The protocol of the gather: the semaphore cells, the pieces of the buffers that travel, what
  each cell promises, what each device owes, and in which order the cells may be waited for.
-/
module

public import proofs.«01_k».proof.Proof.Table
public import Idealize.ShloMosaic.Lib.Pipeline.Regions
public import Idealize.ShloMosaic.Lib.Pipeline.Kit
public import Idealize.ShloMosaic.Lib.Pipeline.RegionTalk
public import Idealize.ShloMosaic.Lib.Pipeline.Value
public import Idealize.ShloMosaic.Lib.Rounds
public import Idealize.ShloMosaic.Lib.StableHlo
public import Idealize.ShloMosaic.Lib.Tactic
public import Idealize.ShloMosaic.Lib.ValueLayout
public import Idealize.ShloMosaic.PureOps

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Facts₀

variable {F : FTy → Type}

/-! ## Ghost state: the pipeline's cells beside this protocol's, whose duties are named by devices -/

abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ## Cells -/

/-- Semaphore (o, r) of the a-th of the four arrays: weights out, weights in, x out, x in. -/
def dsem (a : Fin 4) (o : Dev nD) (r : Fin 2) : DmaSem sig :=
  ⟨5 + 32 * a.val + 2 * o.val + r.val, by
    have h1 := a.isLt; have h2 : o.val < 16 := o.isLt; have h3 := r.isLt
    show _ < 133; omega⟩

abbrev barS : Sem sig := ⟨0, by decide⟩
abbrev endS : Sem sig := ⟨1, by decide⟩

abbrev barC (c : Dev nD) : GSem nD τ sig := ((c : Thread nD τ), .reg barS)
abbrev endC (c : Dev nD) : GSem nD τ sig := ((c : Thread nD τ), .reg endS)
abbrev dC (c : Dev nD) (a : Fin 4) (o : Dev nD) (r : Fin 2) : GSem nD τ sig := ((c : Thread nD τ), .dma (dsem a o r))

/-- The three coordinates of a semaphore number. -/
def qa (q : DmaSem sig) : ℕ := (q.val - 5) / 32
def qo (q : DmaSem sig) : Dev nD := ⟨(q.val - 5) % 32 / 2, by show _ < 16; omega⟩
def qr (q : DmaSem sig) : Fin 2 := ⟨(q.val - 5) % 2, by omega⟩

theorem qa_dsem (a : Fin 4) (o : Dev nD) (r : Fin 2) : qa (dsem a o r) = a.val := by
  have h2 : o.val < 16 := o.isLt; have h3 := r.isLt
  show (5 + 32 * a.val + 2 * o.val + r.val - 5) / 32 = a.val; omega
theorem qo_dsem (a : Fin 4) (o : Dev nD) (r : Fin 2) : qo (dsem a o r) = o := by
  have h2 : o.val < 16 := o.isLt; have h3 := r.isLt
  apply Fin.ext; show (5 + 32 * a.val + 2 * o.val + r.val - 5) % 32 / 2 = o.val; omega
theorem qr_dsem (a : Fin 4) (o : Dev nD) (r : Fin 2) : qr (dsem a o r) = r := by
  have h2 : o.val < 16 := o.isLt; have h3 := r.isLt
  apply Fin.ext; show (5 + 32 * a.val + 2 * o.val + r.val - 5) % 2 = r.val; omega

/-! ## The numbered cells -/

/-- The cell payment i of c lands on. -/
def pcell (c : Dev nD) (i : ℕ) : GSem nD τ sig :=
  if i < 15 then barC (pdev c i) else if i < 45 then dC (pdev c i) 3 c (rg i)
  else if i < 75 then dC (pdev c i) 1 (porg c i) (rg i) else endC (pdev c i)

/-- The name of the duty it pays. -/
def pduty (c : Dev nD) (i : ℕ) : Dev nD := if 15 ≤ i ∧ i < 75 then 0 else c

/-- The cell of c that transfer i (15–74) of c credits when its source has been read. -/
def scell (c : Dev nD) (i : ℕ) : GSem nD τ sig :=
  if i < 45 then dC c 2 (pdev c i) (rg i) else dC c 0 (porg c i) (rg i)

/-- The cell of arrival a of c. -/
def rcell (c : Dev nD) (a : ℕ) : GSem nD τ sig := dC c (if a % 4 < 2 then 1 else 3) (rorg c a) (rr a)

/-! ## Memory -/

abbrev xM : Memref sig .tc .vmem S4096x256 .fp8e4m3 := Memref.whole cc0_stg0_0
abbrev wM : Memref sig .tc .vmem S2x256x4096 .fp8e5m2 := Memref.whole cc0_stg1_0
abbrev uM : Memref sig .tc .smem S1 .f32 := Memref.whole cc0_stg2_0
abbrev vM : Memref sig .tc .smem S1 .f32 := Memref.whole cc0_stg3_0
abbrev oM : Memref sig .tc .vmem S256x8192 .f32 := Memref.whole cc0_stg4_0
abbrev wbM : Memref sig .tc .vmem S16x2x256x4096 .fp8e5m2 := Memref.whole cc0_scratch0
abbrev xtM : Memref sig .tc .vmem S2x16x256x256 .fp8e4m3 := Memref.whole cc0_scratch1

theorem xt_inb : ∀ (r : Fin 2) (o : Dev nD) (a : Fin 4),
    (![r.val, o.val, 0, 0] : Fin 4 → ℕ) a + S1x1x256x256.size a ≤ S2x16x256x256.size a := by decide
theorem wb_inb : ∀ (o : Dev nD) (r : Fin 2) (a : Fin 4),
    (![o.val, r.val, 0, 0] : Fin 4 → ℕ) a + S1x1x256x4096.size a ≤ S16x2x256x4096.size a := by decide
theorem xb_inb : ∀ (t : Dev nD) (a : Fin 2),
    (![t.val * 256, 0] : Fin 2 → ℕ) a + S256x256.size a ≤ S4096x256.size a := by decide
theorem wr_inb : ∀ (r : Fin 2) (a : Fin 3),
    (![r.val, 0, 0] : Fin 3 → ℕ) a + S1x256x4096.size a ≤ S2x256x4096.size a := by decide

/-- The place for the x tile that device o sends on ring r. -/
abbrev xtSlot (r : Fin 2) (o : Dev nD) : Memref sig .tc .vmem S256x256 .fp8e4m3 :=
  (xtM.slice (Rect.unit (s := S2x16x256x256) ![r.val, o.val, 0, 0] S1x1x256x256.size (xt_inb r o)) (fun _ => rfl)).squeeze
    S256x256 squeezes_S1x1x256x256_S256x256
/-- The place for device o's weights on ring r. -/
abbrev wbSlot (o : Dev nD) (r : Fin 2) : Memref sig .tc .vmem S256x4096 .fp8e5m2 :=
  (wbM.slice (Rect.unit (s := S16x2x256x4096) ![o.val, r.val, 0, 0] S1x1x256x4096.size (wb_inb o r)) (fun _ => rfl)).squeeze
    S256x4096 squeezes_S1x1x256x4096_S256x4096
/-- The rows of x that device t is to have. -/
abbrev xBlk (t : Dev nD) : Memref sig .tc .vmem S256x256 .fp8e4m3 :=
  xM.slice (Rect.unit (s := S4096x256) ![t.val * 256, 0] S256x256.size (xb_inb t)) (fun _ => rfl)
/-- The half of the weights that ring r carries. -/
abbrev wHalf (r : Fin 2) : Memref sig .tc .vmem S256x4096 .fp8e5m2 :=
  (wM.slice (Rect.unit (s := S2x256x4096) ![r.val, 0, 0] S1x256x4096.size (wr_inb r)) (fun _ => rfl)).squeeze
    S256x4096 squeezes_S1x256x4096_S256x4096

/-- The units one tile of x, one block of weights, counts for. -/
def NX : ℕ := (xBlk 0).view.dmaCredit
def NW : ℕ := (wHalf 0).view.dmaCredit
theorem NX_pos : 0 < NX := View.dmaCredit_pos _ (by decide)
theorem NW_pos : 0 < NW := View.dmaCredit_pos _ (by decide)
theorem nx_xt (r : Fin 2) (o : Dev nD) : (xtSlot r o).view.dmaCredit = NX := rfl
theorem nx_xb (t : Dev nD) : (xBlk t).view.dmaCredit = NX := rfl
theorem nw_wb (o : Dev nD) (r : Fin 2) : (wbSlot o r).view.dmaCredit = NW := rfl
theorem nw_wr (r : Fin 2) : (wHalf r).view.dmaCredit = NW := rfl

variable (xs : Dev nD → Vec F S4096x256 .fp8e4m3) (ws : Dev nD → Vec F S2x256x4096 .fp8e5m2)

/-- What device c's tile buffer holds once every device has sent c its rows. -/
def XT (c : Dev nD) : Vec F S2x16x256x256 .fp8e4m3 := fun i =>
  xs (i 1) (ix2 (⟨c.val * 256 + (i 2).val, by
    have h1 : c.val < 16 := c.isLt; have h2 : (i 2).val < 256 := (i 2).isLt; omega⟩ : Fin 4096) (i 3))

/-- What every device's weight buffer holds once every device's weights have been round. -/
def WB : Vec F S16x2x256x4096 .fp8e5m2 := fun i => ws (i 0) (ix3 (i 1) (i 2) (i 3))

/-- The tile of x that device o sends to c. -/
def xTile (c o : Dev nD) : Vec F S256x256 .fp8e4m3 := fun y =>
  xs o (ix2 (⟨c.val * 256 + (y 0).val, by
    have h1 : c.val < 16 := c.isLt; have h2 : (y 0).val < 256 := (y 0).isLt; omega⟩ : Fin 4096) (y 1))

/-- Device o's weights on ring r. -/
def wTile (o : Dev nD) (r : Fin 2) : Vec F S256x4096 .fp8e5m2 := fun y => ws o (ix3 r (y 0) (y 1))

theorem ix2_eta {a b : ℕ} (y : (⟨2, ![a, b]⟩ : Shape).Idx) : ix2 (y 0) (y 1) = y := by
  funext i; fin_cases i <;> rfl

theorem read_xBlk (c o : Dev nD) : (xBlk c).view.read (Elt F) (xs o) = xTile xs c o := by
  funext y
  refine congrArg (xs o) (funext fun i => ?_)
  match i with
  | 0 => exact Fin.ext (show c.val * 256 + 1 * (y 0).val = c.val * 256 + (y 0).val by omega)
  | 1 => exact Fin.ext (show 0 + 1 * (y 1).val = (y 1).val by omega)

theorem read_xtSlot (c : Dev nD) (r : Fin 2) (o : Dev nD) :
    (xtSlot r o).view.read (Elt F) (XT xs c) = xTile xs c o := by
  funext y
  obtain ⟨y0, y1, rfl⟩ : ∃ (a : Fin 256) (b : Fin 256), y = ix2 a b := ⟨y 0, y 1, (ix2_eta y).symm⟩
  show XT xs c ((Rect.unit (s := S2x16x256x256) ![r.val, o.val, 0, 0] S1x1x256x256.size (xt_inb r o)).emb
    (Shape.reshapeEquiv _ (ix2 y0 y1))) = _
  rw [reshapeEquiv_ix2_11ab]
  refine congr (congrArg xs (Fin.ext (show o.val + 1 * 0 = o.val by omega))) (congr (congrArg ix2 (Fin.ext ?_)) (Fin.ext ?_))
  · show c.val * 256 + (0 + 1 * y0.val) = c.val * 256 + y0.val; omega
  · show 0 + 1 * y1.val = y1.val; omega

theorem read_wHalf (o : Dev nD) (r : Fin 2) : (wHalf r).view.read (Elt F) (ws o) = wTile ws o r := by
  funext y
  obtain ⟨y0, y1, rfl⟩ : ∃ (a : Fin 256) (b : Fin 4096), y = ix2 a b := ⟨y 0, y 1, (ix2_eta y).symm⟩
  show ws o ((Rect.unit (s := S2x256x4096) ![r.val, 0, 0] S1x256x4096.size (wr_inb r)).emb
    (Shape.reshapeEquiv _ (ix2 y0 y1))) = _
  rw [reshapeEquiv_ix2_1ab]
  refine congrArg (ws o) (funext fun i => ?_)
  match i with
  | 0 => exact Fin.ext (show r.val + 1 * 0 = r.val by omega)
  | 1 => exact Fin.ext (show 0 + 1 * y0.val = y0.val by omega)
  | 2 => exact Fin.ext (show 0 + 1 * y1.val = y1.val by omega)

theorem read_wbSlot (o : Dev nD) (r : Fin 2) : (wbSlot o r).view.read (Elt F) (WB ws) = wTile ws o r := by
  funext y
  obtain ⟨y0, y1, rfl⟩ : ∃ (a : Fin 256) (b : Fin 4096), y = ix2 a b := ⟨y 0, y 1, (ix2_eta y).symm⟩
  show WB ws ((Rect.unit (s := S16x2x256x4096) ![o.val, r.val, 0, 0] S1x1x256x4096.size (wb_inb o r)).emb
    (Shape.reshapeEquiv _ (ix2 y0 y1))) = _
  rw [reshapeEquiv_ix2_11ab]
  refine congr (congrArg ws (Fin.ext (show o.val + 1 * 0 = o.val by omega)))
    (congr (congr (congrArg ix3 (Fin.ext ?_)) (Fin.ext ?_)) (Fin.ext ?_))
  · show r.val + 1 * 0 = r.val; omega
  · show 0 + 1 * y0.val = y0.val; omega
  · show 0 + 1 * y1.val = y1.val; omega

/-- Elements a view names, written whole with what another contents reads there, hold that contents. -/
theorem write_read_on {κ : Kind} {sp : Space} {s : Shape} {e : EltTy} (v : View sig κ sp s e)
    (f g : v.ty.Contents (Elt F)) (w : s.Idx → Elt F e) (h : v.read (Elt F) g = w) :
    ∀ i ∈ v.set, v.write (Elt F) f w Finset.univ i = g i := by
  intro i hi
  obtain ⟨x, -, rfl⟩ := Finset.mem_map.mp hi
  rw [View.write_emb_of_mem _ _ (Finset.mem_univ x), ← h, View.read_apply, cast_cast, cast_eq]

/-! ## Pieces held -/

/-- A place of device d for a tile of x (kind true) or for weights (kind false), from o on ring r, at any contents. -/
def place (d : Dev nD) (x : Bool) (o : Dev nD) (r : Fin 2) : sProp 𝕄 :=
  if x then iprop(∃ f, (xtSlot r o).view.loc (d : Thread nD τ) ↦[(xtSlot r o).view.set]{fullShare} f)
  else iprop(∃ f, (wbSlot o r).view.loc (d : Thread nD τ) ↦[(wbSlot o r).view.set]{fullShare} f)

/-- A tile of x in its place at d. -/
def xtHeld (d o : Dev nD) (r : Fin 2) (q : PosShare TreeShare) : sProp 𝕄 :=
  iprop((xtSlot r o).view.loc (d : Thread nD τ) ↦[(xtSlot r o).view.set]{q} (XT xs d))
/-- Weights in their place at d. -/
def wbHeld (d o : Dev nD) (r : Fin 2) (q : PosShare TreeShare) : sProp 𝕄 :=
  iprop((wbSlot o r).view.loc (d : Thread nD τ) ↦[(wbSlot o r).view.set]{q} (WB ws))
/-- The rows of x at d that t is to have. -/
def xbHeld (d t : Dev nD) (q : PosShare TreeShare) : sProp 𝕄 :=
  iprop((xBlk t).view.loc (d : Thread nD τ) ↦[(xBlk t).view.set]{q} (xs d))
/-- A half of d's own weights. -/
def whHeld (d : Dev nD) (r : Fin 2) (q : PosShare TreeShare) : sProp 𝕄 :=
  iprop((wHalf r).view.loc (d : Thread nD τ) ↦[(wHalf r).view.set]{q} (ws d))

/-- The share of x that ring r's transfers read. -/
def xq (r : Fin 2) : PosShare TreeShare := if r = 0 then fullShare.left else fullShare.right

/-! ## What payments need and bring -/

/-- Where payment i of c lands, with the fact that the cell it credits is open. -/
def dstFree (c : Dev nD) (i : ℕ) : sProp 𝕄 :=
  if i < 75 then iprop(place (pdev c i) (i < 45) (if i < 45 then c else porg c i) (rg i) ∗ reached ER (pcell c i) 0)
  else iprop(reached ER (pcell c i) 0)

/-- What d hands to t with its signal on the barrier. -/
def give (d t : Dev nD) : sProp 𝕄 :=
  bigSep ((Finset.Ico 15 90).filter fun i => pdev t i = d) fun i => dstFree t i

/-- What semaphore (o, r) of array a of device c promises. -/
def pay (c : Dev nD) (a : ℕ) (o : Dev nD) (r : Fin 2) : sProp 𝕄 :=
  if a = 0 then (if o = c then whHeld ws c r fullShare.left else wbHeld ws c o r fullShare.left)
  else if a = 1 then wbHeld ws c o r fullShare
  else if a = 2 then xbHeld xs c o (xq r)
  else xtHeld xs c o r fullShare

/-- The semaphores that are used at all. -/
def used (c : Dev nD) (q : DmaSem sig) : Prop := 5 ≤ q.val ∧ (if qa q = 0 then qo q ≠ nx (qr q) c else qo q ≠ c)

instance (c : Dev nD) (q : DmaSem sig) : Decidable (used c q) := by unfold used; infer_instance

/-- The schedule: one round on every cell; on the two counting cells one duty for every other device. -/
def rd : Schedule (GSem nD τ sig) (Dev nD) 𝕄 where
  duties g r := if r = 0 ∧ g.1.2 = .tc then
      (match g.2 with
        | .reg _ => Finset.univ.erase g.1.1
        | .dma q => if used g.1.1 q then {0} else ∅) else ∅
  amount g _ _ := match g.2 with
    | .reg _ => 1
    | .dma q => if q.val < 69 then NW else NX
  payload g _ d := match g.2 with
    | .reg s => if s = barS then give d g.1.1 else iprop(emp)
    | .dma q => pay xs ws g.1.1 (qa q) (qo q) (qr q)
  amount_pos g _ _ _ := by
    rcases g.2 with s | q
    · exact Nat.one_pos
    · show 0 < (if q.val < 69 then NW else NX)
      split
      · exact NW_pos
      · exact NX_pos

instance place_storable (d : Dev nD) (x : Bool) (o : Dev nD) (r : Fin 2) :
    BI.Storable (upEmb : UEmb _ 𝕄) (place (F := F) d x o r) := by
  unfold place; split <;> infer_instance
instance dstFree_storable (c : Dev nD) (i : ℕ) : BI.Storable (upEmb : UEmb _ 𝕄) (dstFree (F := F) c i) := by
  unfold dstFree; split <;> infer_instance
instance give_storable (d t : Dev nD) : BI.Storable (upEmb : UEmb _ 𝕄) (give (F := F) d t) := by
  unfold give; infer_instance

instance rd_storable (g : GSem nD τ sig) (r : ℕ) (d : Dev nD) :
    BI.Storable (upEmb : UEmb _ 𝕄) ((rd (F := F) xs ws).payload g r d) := by
  rcases g with ⟨t, s | q⟩
  · show BI.Storable upEmb (if s = barS then give d t.1 else iprop(emp))
    split <;> infer_instance
  · show BI.Storable upEmb (pay xs ws t.1 (qa q) (qo q) (qr q))
    unfold pay whHeld wbHeld xbHeld xtHeld
    (repeat' split) <;> infer_instance

/-! ## Payments -/

/-- The units payment i brings. -/
def pamt (i : ℕ) : ℕ := if i < 15 then 1 else if i < 45 then NX else if i < 75 then NW else 1

/-- What c still owes when it has made n payments. -/
def owed (c : Dev nD) (n : ℕ) : CellTallies nD τ sig Unit :=
  ∑ i ∈ Finset.Ico n 90, tallyAt (pcell c i) () (pamt i)

theorem ico_cons {n m : ℕ} (h : n < m) : Finset.Ico n m = insert n (Finset.Ico (n + 1) m) := by
  ext i; simp only [Finset.mem_insert, Finset.mem_Ico]; omega
theorem ico_snoc {n m : ℕ} (h : n ≤ m) : Finset.Ico n (m + 1) = insert m (Finset.Ico n m) := by
  ext i; simp only [Finset.mem_insert, Finset.mem_Ico]; omega

theorem owed_step (c : Dev nD) (n : ℕ) (h : n < 90) :
    owed c n = owed c (n + 1) + tallyAt (pcell c n) () (pamt n) := by
  unfold owed
  rw [ico_cons h, Finset.sum_insert (by simp), add_comm]

/-- What transfer i reads at c. -/
def srcHeld (c : Dev nD) (i : ℕ) : sProp 𝕄 :=
  if i < 45 then xbHeld xs c (pdev c i) (xq (rg i))
  else if i < 47 then whHeld ws c (rg i) fullShare.left
  else wbHeld ws c (porg c i) (rg i) fullShare.left

/-- What arrival a brings. -/
def got (c : Dev nD) (a : ℕ) : sProp 𝕄 :=
  if a % 4 < 2 then wbHeld ws c (rorg c a) (rr a) fullShare else xtHeld xs c (rorg c a) (rr a) fullShare

/-! ## The order of the cells -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barrier first, then x tiles and weights by the distance they travel, the closing semaphore last; the rest at the bottom. -/
def lv (g : GSem nD τ sig) (_ : Unit) : ℕ := match g.2 with
  | .reg s => if s = barS then 1 else 100
  | .dma q => if q.val < 5 then 0 else if qa q = 3 then 2 else if qa q = 1 then 2 + dist (qr q) (qo q) g.1.1 else 0

end Cert.Proof
-- ==== Proof.Steps.lean ====
/-
  One lemma for each kind of step a device takes.
-/
module

public import proofs.«01_k».proof.Proof.Proto

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Facts₀

variable {F : FTy → Type} [FloatOps F]

local notation "𝕄" => MT nD τ sig Unit (Elt F) ℕ UU ℕ

variable (xs : Dev nD → Vec F S4096x256 .fp8e4m3) (ws : Dev nD → Vec F S2x256x4096 .fp8e5m2)

/-! ## Pools, one piece at a time -/

theorem pool_head {n m : ℕ} (h : n < m) (Φ : ℕ → sProp 𝕄) :
    bigSep (Finset.Ico n m) Φ = iprop(Φ n ∗ bigSep (Finset.Ico (n + 1) m) Φ) := by
  rw [ico_cons h]; exact bigSep_insert (by simp)
theorem pool_last {n m : ℕ} (h : n ≤ m) (Φ : ℕ → sProp 𝕄) :
    bigSep (Finset.Ico n (m + 1)) Φ = iprop(Φ m ∗ bigSep (Finset.Ico n m) Φ) := by
  rw [ico_snoc h]; exact bigSep_insert (by simp)

/-! ## Facts about the numbered payments and arrivals, checked device by device -/

theorem pdev_ne : ∀ (c : Dev nD) (i : Fin 90), c ≠ pdev c i.val := by decide +kernel
theorem porg_ne : ∀ (c : Dev nD) (i : Fin 75), 45 ≤ i.val → porg c i.val ≠ pdev c i.val := by decide +kernel
theorem porg_nx : ∀ (c : Dev nD) (i : Fin 75), 45 ≤ i.val → porg c i.val ≠ nx (rg i.val) c := by decide +kernel
theorem rorg_ne : ∀ (c : Dev nD) (a : Fin 60), rorg c a.val ≠ c := by decide +kernel
theorem porg_self : ∀ (c : Dev nD) (i : Fin 75), 45 ≤ i.val → (porg c i.val = c ↔ i.val < 47) := by decide +kernel

/-! ## The schedule at a cell -/

theorem duties_reg (c : Dev nD) (s : Sem sig) :
    (rd xs ws).duties ((c : Thread nD τ), .reg s) 0 = Finset.univ.erase c := by
  show (if ((0 : ℕ) = 0 ∧ (Proc.tc : Proc τ) = .tc) then Finset.univ.erase c else ∅) = _
  rw [if_pos ⟨rfl, rfl⟩]

theorem duties_later (g : GSem nD τ sig) : ∀ r, 0 + 1 ≤ r → (rd xs ws).duties g r = ∅ := fun r h =>
  if_neg fun h' => by rw [h'.1] at h; exact absurd h (by decide)

theorem used_dsem (c : Dev nD) (a : Fin 4) (o : Dev nD) (r : Fin 2) (h : o ≠ if a = 0 then nx r c else c) :
    used c (dsem a o r) := by
  refine ⟨by show 5 ≤ 5 + 32 * a.val + 2 * o.val + r.val; omega, ?_⟩
  rw [qa_dsem, qo_dsem, qr_dsem]
  by_cases ha : a = 0
  · subst ha; exact h
  · rw [if_neg ha] at h
    rw [if_neg (fun h' => ha (Fin.ext h') : ¬ a.val = 0)]; exact h

theorem duties_dma (c : Dev nD) (q : DmaSem sig) (h : used c q) :
    (rd xs ws).duties ((c : Thread nD τ), .dma q) 0 = {0} := by
  show (if ((0 : ℕ) = 0 ∧ (Proc.tc : Proc τ) = .tc) then (if used c q then ({0} : Finset (Dev nD)) else ∅) else ∅) = _
  rw [if_pos ⟨rfl, rfl⟩, if_pos h]

theorem payload_dC (c : Dev nD) (a : Fin 4) (o : Dev nD) (r : Fin 2) (d : Dev nD) :
    (rd xs ws).payload (dC c a o r) 0 d = pay xs ws c a.val o r := by
  show pay xs ws c (qa (dsem a o r)) (qo (dsem a o r)) (qr (dsem a o r)) = _
  rw [qa_dsem, qo_dsem, qr_dsem]

theorem amount_dC (c : Dev nD) (a : Fin 4) (o : Dev nD) (r : Fin 2) (d : Dev nD) :
    (rd xs ws).amount (dC c a o r) 0 d = if a.val < 2 then NW else NX := by
  show (if 5 + 32 * a.val + 2 * o.val + r.val < 69 then NW else NX) = _
  have h2 : o.val < 16 := o.isLt
  have h3 := r.isLt
  exact if_congr (by omega) rfl rfl

theorem duty_p (c : Dev nD) (i : ℕ) (h : i < 90) : pduty c i ∈ (rd xs ws).duties (pcell c i) 0 := by
  have hne := pdev_ne c ⟨i, h⟩
  unfold pcell pduty
  split
  · rw [if_neg (by omega), duties_reg]; exact Finset.mem_erase.2 ⟨hne, Finset.mem_univ _⟩
  split
  · rw [if_pos (by omega), duties_dma _ _ _ _ (used_dsem _ _ _ _ hne)]; exact Finset.mem_singleton_self _
  split
  · rename_i h1 h2 h3
    rw [if_pos (by omega), duties_dma _ _ _ _ (used_dsem _ _ _ _ (porg_ne c ⟨i, h3⟩ (by show 45 ≤ i; omega)))]; exact Finset.mem_singleton_self _
  · rw [if_neg (by omega), duties_reg]; exact Finset.mem_erase.2 ⟨hne, Finset.mem_univ _⟩

theorem amt_p (c : Dev nD) (i : ℕ) (d : Dev nD) : (rd xs ws).amount (pcell c i) 0 d = pamt i := by
  unfold pcell pamt
  split
  · rfl
  split
  · rw [amount_dC]; rfl
  split
  · rw [amount_dC]; rfl
  · rfl

theorem used_s (c : Dev nD) (i : ℕ) (h : i < 75) : (rd xs ws).duties (scell c i) 0 = {0} := by
  unfold scell
  split
  · exact duties_dma _ _ _ _ (used_dsem _ _ _ _ (pdev_ne c ⟨i, by omega⟩).symm)
  · exact duties_dma _ _ _ _ (used_dsem _ _ _ _ (porg_nx c ⟨i, h⟩ (by show 45 ≤ i; omega)))

theorem amt_s (c : Dev nD) (i : ℕ) (d : Dev nD) (h : 15 ≤ i) (h' : i < 75) : (rd xs ws).amount (scell c i) 0 d = pamt i := by
  unfold scell pamt
  rw [if_neg (by omega : ¬ i < 15)]
  by_cases h1 : i < 45
  · rw [if_pos h1, if_pos h1, amount_dC]; rfl
  · rw [if_neg h1, if_neg h1, if_pos h', amount_dC]; rfl

theorem pay_s (c : Dev nD) (i : ℕ) (d : Dev nD) (h : i < 75) : (rd xs ws).payload (scell c i) 0 d = srcHeld xs ws c i := by
  unfold scell srcHeld
  split
  · rw [payload_dC]; rfl
  · rename_i h1
    rw [payload_dC]
    have := porg_self c ⟨i, h⟩ (by show 45 ≤ i; omega)
    show (if porg c i = c then _ else _) = _
    by_cases h2 : i < 47
    · rw [if_pos (this.2 h2), if_pos h2]
    · rw [if_neg (fun h' => h2 (this.1 h')), if_neg h2]

theorem duties_r (c : Dev nD) (a : ℕ) (h : a < 60) : (rd xs ws).duties (rcell c a) 0 = {0} := by
  unfold rcell
  refine duties_dma _ _ _ _ (used_dsem _ _ _ _ ?_)
  split <;> exact rorg_ne c ⟨a, h⟩

/-- The units of arrival a. -/
def ramt (a : ℕ) : ℕ := if a % 4 < 2 then NW else NX

theorem amt_r (c : Dev nD) (a : ℕ) (d : Dev nD) : (rd xs ws).amount (rcell c a) 0 d = ramt a := by
  unfold rcell ramt
  rw [amount_dC]
  split <;> rfl

theorem pay_r (c : Dev nD) (a : ℕ) (d : Dev nD) : (rd xs ws).payload (rcell c a) 0 d = got xs ws c a := by
  unfold rcell got
  rw [payload_dC]
  split <;> rfl

/-- What transfer i brings to the device it goes to. -/
def landed (c : Dev nD) (i : ℕ) : sProp 𝕄 :=
  if i < 45 then xtHeld xs (pdev c i) c (rg i) fullShare else wbHeld ws (pdev c i) (porg c i) (rg i) fullShare

theorem pay_p (c : Dev nD) (i : ℕ) (d : Dev nD) (h : 15 ≤ i) (h' : i < 75) :
    (rd xs ws).payload (pcell c i) 0 d = landed xs ws c i := by
  unfold pcell landed
  rw [if_neg (by omega : ¬ i < 15)]
  by_cases h1 : i < 45
  · rw [if_pos h1, if_pos h1, payload_dC]; rfl
  · rw [if_neg h1, if_neg h1, if_pos h', payload_dC]; rfl

/-! ## Levels -/

def plev (i : ℕ) : ℕ := if i < 15 then 1 else if i < 45 then 2 else if i < 75 then 3 + (i - 45) / 2 else 100
def rlev (a : ℕ) : ℕ := if a % 4 < 2 then 3 + a / 4 else 2

theorem lv_p : ∀ (c : Dev nD) (i : Fin 90), lv (pcell c i.val) () = plev i.val := by decide +kernel
theorem lv_r : ∀ (c : Dev nD) (a : Fin 60), lv (rcell c a.val) () = rlev a.val := by decide +kernel
theorem lv_s : ∀ (c : Dev nD) (i : Fin 75), lv (scell c i.val) () = 0 := by decide +kernel
theorem pcell_tc : ∀ (c : Dev nD) (i : Fin 90), (pcell c i.val).1.2 = .tc := by decide +kernel

theorem owed_pos (c : Dev nD) (n : ℕ) (g : GSem nD τ sig) (u : Unit) (h : 0 < owed c n g u) :
    ∃ i, n ≤ i ∧ i < 90 ∧ g = pcell c i := by
  unfold owed at h
  rw [Finset.sum_apply, Finsupp.finset_sum_apply] at h
  obtain ⟨i, hi, hne⟩ := Finset.exists_ne_zero_of_sum_ne_zero h.ne'
  refine ⟨i, (Finset.mem_Ico.1 hi).1, (Finset.mem_Ico.1 hi).2, ?_⟩
  rw [tallyAt_apply] at hne
  by_contra hg
  exact hne (if_neg fun h' => hg h'.1)

/-- The levels, as a piece of knowledge. -/
@[irreducible] def levs : sProp 𝕄 := levAts L lv
instance levs_persistent : Persistent (levs (F := F)) := by unfold levs; infer_instance

/-- A device may wait for a cell below everything it still owes. -/
theorem mayWait (c : Dev nD) (n : ℕ) (sm : SemLoc sig) (h : ∀ i : ℕ, n ≤ i → i < 90 → lv ((c : Thread nD τ), sm) () < plev i) :
    (levs : sProp 𝕄) ⊢ MayWait (c : Thread nD τ) sm () (owed c n) := by
  unfold levs
  exact MayOwe.of_cut (L := L) (lev := lv) (lv ((c : Thread nD τ), sm) ())
    (fun p hp => by rw [Finset.mem_singleton.mp hp, L_tc]; exact Finset.mem_singleton_self _)
    (fun g u hg => by
      obtain ⟨i, -, h2, rfl⟩ := owed_pos c n g u hg
      unfold L; rw [if_pos (pcell_tc c ⟨i, h2⟩)]; exact Finset.mem_singleton_self _)
    (fun p hp => by rw [Finset.mem_singleton.mp hp])
    (fun g u hg => by
      obtain ⟨i, h1, h2, rfl⟩ := owed_pos c n g u hg
      rw [lv_p c ⟨i, h2⟩]; exact h i h1 h2)

end Cert.Proof
-- ==== Proof.State.lean ====
/-
  The state of a device between two steps, and one lemma for each kind of step that moves it.
-/
module

public import proofs.«01_k».proof.Proof.Steps

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Facts₀

variable {F : FTy → Type} [FloatOps F]

local notation "𝕄" => MT nD τ sig Unit (Elt F) ℕ UU ℕ

abbrev 𝒱₀ : Variants := Variants.none

variable (xs : Dev nD → Vec F S4096x256 .fp8e4m3) (ws : Dev nD → Vec F S2x256x4096 .fp8e5m2)
variable (K : GSem nD τ sig → ℕ) (c : Dev nD)

/-! ## What every device knows -/

/-- The cells of the protocol. -/
def mine (g : GSem nD τ sig) : Prop := g.1.2 = .tc ∧ (match g.2 with | .reg _ => True | .dma q => 5 ≤ q.val)
open Classical in
@[irreducible] def cells : Finset (GSem nD τ sig) := Finset.univ.filter mine

theorem mem_filt {α : Type} [Fintype α] (p : α → Prop) [DecidablePred p] (a : α) : a ∈ Finset.univ.filter p ↔ p a := by
  rw [Finset.mem_filter]; exact ⟨fun h => h.2, fun h => ⟨Finset.mem_univ a, h⟩⟩
open Classical in
theorem mem_cells (g : GSem nD τ sig) : g ∈ cells ↔ mine g := by
  unfold cells; exact mem_filt mine g
theorem reg_mem (d : Dev nD) (s : Sem sig) : (((d : Thread nD τ), .reg s) : GSem nD τ sig) ∈ cells := by
  rw [mem_cells]; exact ⟨rfl, trivial⟩
theorem dC_mem (d : Dev nD) (a : Fin 4) (o : Dev nD) (r : Fin 2) : dC d a o r ∈ cells := by
  rw [mem_cells]; exact ⟨rfl, show 5 ≤ 5 + 32 * a.val + 2 * o.val + r.val by omega⟩
theorem pcell_mem (i : ℕ) : pcell c i ∈ cells := by
  unfold pcell
  split; · exact reg_mem _ _
  split; · exact dC_mem _ _ _ _
  split; · exact dC_mem _ _ _ _
  exact reg_mem _ _
theorem scell_mem (i : ℕ) : scell c i ∈ cells := by
  unfold scell; split <;> exact dC_mem _ _ _ _
theorem rcell_mem (a : ℕ) : rcell c a ∈ cells := dC_mem _ _ _ _

/-- The invariants of all cells, the levels, and that the barrier cells are open. -/
def ctx : sProp 𝕄 :=
  iprop(bigSep cells (fun g => cellInv ER (rd xs ws) (K g) g) ∗ levs ∗ bigSep Finset.univ fun d => reached ER (barC d) 0)

instance ctx_persistent : Persistent (ctx (F := F) xs ws K) := by unfold ctx; infer_instance

theorem ctx_inv (g : GSem nD τ sig) (h : g ∈ cells) : ctx xs ws K ⊢ cellInv ER (rd xs ws) (K g) g := by
  classical
  have hg : bigSep cells (fun g => cellInv ER (rd xs ws) (K g) g) ⊢ cellInv ER (rd xs ws) (K g) g := bigSep_elim h
  unfold ctx; iintro ⟨H, -, -⟩; iapply hg $$ H
theorem ctx_lev : ctx xs ws K ⊢ (levs : sProp 𝕄) := by
  unfold ctx; iintro ⟨-, H, -⟩; iexact H
theorem ctx_bar (d : Dev nD) : ctx xs ws K ⊢ (reached ER (barC d) 0 : sProp 𝕄) := by
  classical
  have hg : (bigSep Finset.univ fun d => reached ER (barC d) 0 : sProp 𝕄) ⊢ reached ER (barC d) 0 := bigSep_elim (Finset.mem_univ d)
  unfold ctx; iintro ⟨-, -, H⟩; iapply hg $$ H

/-! ## The pools -/

/-- What c owes after n payments, with the tokens of those to come. -/
def ow (n : ℕ) : sProp 𝕄 :=
  iprop((∃ W, owes (c : Thread nD τ) (owed c n) W) ∗ bigSep (Finset.Ico n 90) fun i => dutyTok ER (pcell c i) 0 (pduty c i))
/-- What c is still to hand out before the barrier. -/
def gv (n : ℕ) : sProp 𝕄 := bigSep (Finset.Ico n 15) fun i => give c (pdev c i)
/-- The places that c's transfers will fill. -/
def ds (n : ℕ) : sProp 𝕄 := bigSep (Finset.Ico n 90) fun i => dstFree c i
/-- What they will read, forwarded weights apart. -/
def sr (n : ℕ) : sProp 𝕄 := bigSep (Finset.Ico n 47) fun i => srcHeld xs ws c i
/-- The tokens of their own read-out. -/
def tk (n : ℕ) : sProp 𝕄 := bigSep (Finset.Ico n 75) fun i => iprop(dutyTok ER (scell c i) 0 0 ∗ reached ER (scell c i) 0)
/-- The credit of those on the way. -/
def cs (j n : ℕ) : sProp 𝕄 := bigSep (Finset.Ico j n) fun i => cred (tallyAt (scell c i) () (pamt i))
/-- The positions at their cells. -/
def sp (j : ℕ) : sProp 𝕄 := bigSep (Finset.Ico j 75) fun i => atPos ER (scell c i) 0 ∅ 0
/-- What has come back. -/
def bk (j : ℕ) : sProp 𝕄 := bigSep (Finset.Ico 15 j) fun i => iprop(srcHeld xs ws c i ∗ semVal (scell c i) 0)
/-- The arrivals to come. -/
def rp (a : ℕ) : sProp 𝕄 := bigSep (Finset.Ico a 60) fun i => iprop(cred (tallyAt (rcell c i) () (ramt i)) ∗ atPos ER (rcell c i) 0 ∅ 0)
/-- What is left of an arrival once its weights are on the way again. -/
def kept (a : ℕ) : sProp 𝕄 := if a % 4 < 2 ∧ a < 56 then wbHeld ws c (rorg c a) (rr a) fullShare.right else got xs ws c a
/-- The arrivals taken. -/
def gt (a : ℕ) : sProp 𝕄 := bigSep (Finset.Ico 0 a) fun i => iprop(kept xs ws c i ∗ semVal (rcell c i) 0)

/-! ## The moves -/

local notation "WP" => wp frame (wpE (defs₀ (F := F)) 𝒱₀ (c : Thread nD τ) none) Set.univ

/-- Asking for the own number. -/
theorem step_dev {k : Dev nD → Prog (TpuEff nD τ sig (Elt F) Λ₀ .tc) PUnit} {Q : PUnit → sProp 𝕄} {P : sProp 𝕄}
    (h : P ⊢ WP (k c) Q) : P ⊢ WP (.op .deviceId k) Q := by
  rw [wp_deviceId]; exact h

/-- A signal on the barrier. -/
theorem step_sig (n : ℕ) (hn : n < 15) {t : Dev nD} {sem : Sem sig} {k' : ℤ} (ht : t = pdev c n) (hs : sem = barS)
    (hk : k' = ((1 : ℕ) : ℤ)) {k : PUnit → Prog (TpuEff nD τ sig (Elt F) Λ₀ .tc) PUnit} {Q : PUnit → sProp 𝕄} {R : sProp 𝕄}
    (h : iprop(ctx xs ws K ∗ ow c (n + 1) ∗ gv c (n + 1) ∗ R) ⊢ WP (k ⟨⟩) Q) :
    iprop(ctx xs ws K ∗ ow c n ∗ gv c n ∗ R) ⊢ WP (.op (.semSignal (t, Proc.tc) sem k') k) Q := by
  subst ht hs hk
  have hc : pcell c n = ((pdev c n : Thread nD τ), .reg barS) := if_pos hn
  unfold ow gv
  rw [pool_head (n := n) (m := 90) (by omega), pool_head hn]
  iintro ⟨#Hc, ⟨⟨%W, HO⟩, Htok, Hts⟩, ⟨Hg, Hgs⟩, HR⟩
  iapply (Rounds.wp_signal 𝒱₀ ER (rd xs ws) (c : Thread nD τ) none (dst := (pdev c n : Thread nD τ)) (sem := barS) (r := 0)
      (d := c) (κ := K (pcell c n)) (k' := 1)
      (by have := duty_p xs ws c n (by omega); rw [hc] at this; unfold pduty at this; rwa [if_neg (by omega)] at this) rfl ()
      (O₀ := owed c n) (owed c (n + 1)) (by rw [owed_step c n (by omega), hc]; unfold pamt; rw [if_pos hn])) $$ [HO Htok Hg]
  · isplitr; · rw [← hc]; iapply (ctx_inv xs ws K _ (pcell_mem c n)); iexact Hc
    isplitl [HO]; · iexact HO
    isplitl [Htok]; · rw [← hc]; unfold pduty; rw [if_neg (by omega)]; iexact Htok
    isplitl [Hg]
    · rw [show (rd xs ws).payload ((pdev c n : Thread nD τ), .reg barS) 0 c = give c (pdev c n) from rfl]; iexact Hg
    iapply (ctx_bar xs ws K); iexact Hc
  iintro HO
  iapply h
  unfold ow gv
  isplitr; · iexact Hc
  isplitl [HO Hts]
  · isplitl [HO]; · iexists W; iexact HO
    iexact Hts
  isplitl [Hgs]; · iexact Hgs
  iexact HR

theorem give_all : (bigSep (Finset.univ.erase c) fun d => give d c : sProp 𝕄) ⊢ ds c 15 := by
  unfold give ds
  refine (bigSep_biUnion _ _).trans (bigSep_subset ?_)
  intro i hi
  have h := Finset.mem_Ico.1 hi
  exact Finset.mem_biUnion.2 ⟨pdev c i, Finset.mem_erase.2 ⟨(pdev_ne c ⟨i, h.2⟩).symm, Finset.mem_univ _⟩, Finset.mem_filter.2 ⟨hi, rfl⟩⟩

theorem expect_reg (s : Sem sig) : (rd xs ws).expect ((c : Thread nD τ), .reg s) 0 = 15 := by
  show ∑ d ∈ (rd xs ws).duties ((c : Thread nD τ), .reg s) 0, 1 = 15
  rw [duties_reg, Finset.sum_const, Finset.card_erase_of_mem (Finset.mem_univ _), Finset.card_univ]; rfl

/-- Waiting for fifteen units on a counting cell, and closing it. -/
theorem wait_reg (n : ℕ) (s : Sem sig) (hl : ∀ i, n ≤ i → i < 90 → lv ((c : Thread nD τ), .reg s) () < plev i)
    {k' : ℤ} (hk : k' = ((15 : ℕ) : ℤ)) {k : PUnit → Prog (TpuEff nD τ sig (Elt F) Λ₀ .tc) PUnit} {Q : PUnit → sProp 𝕄} :
    iprop(ctx xs ws K ∗ ow c n ∗ cred (tallyAt ((c : Thread nD τ), .reg s) () 15) ∗ atPos ER ((c : Thread nD τ), .reg s) 0 ∅ 0)
      ⊢ iprop(((ow c n ∗ semVal ((c : Thread nD τ), .reg s) 0
            ∗ bigSep (Finset.univ.erase c) fun d => (rd xs ws).payload ((c : Thread nD τ), .reg s) 0 d) -∗ WP (k ⟨⟩) Q)
          -∗ WP (.op (.semWait s k') k) Q) := by
  subst hk
  unfold ow
  iintro ⟨#Hc, ⟨⟨%W, HO⟩, Hts⟩, Hcr, Hat⟩ Hk
  ihave #Hinv := (ctx_inv xs ws K _ (reg_mem c s)) $$ Hc
  ihave #Hlev := (ctx_lev xs ws K) $$ Hc
  iapply (Rounds.wp_wait_rest_token 𝒱₀ ER (rd xs ws) (c : Thread nD τ) none (κ := K ((c : Thread nD τ), .reg s))
      (wpE_semWait_eq 𝒱₀ (c : Thread nD τ) none Set.univ) (Set.mem_univ _) () (O := owed c n) (W := W) (R := 0) (m := 0) (T := ∅)
      ((Nat.zero_add 15).trans (expect_reg xs ws c s).symm)) $$ [Hcr HO Hat]
  · isplitr; · iexact Hinv
    isplitl [Hcr]; · iexact Hcr
    isplitl [HO]; · iexact HO
    isplitr; · iapply (mayWait c n _ hl); iexact Hlev
    iexact Hat
  iintro ⟨HO, Hat, -, Hpay⟩
  imod (Rounds.cell_close ER (rd xs ws) (Set.mem_univ _) id (duties_later xs ws _)) $$ [Hat] with Hz
  · isplitr; · iexact Hinv
    iexact Hat
  iapply Hk
  isplitl [HO Hts]
  · isplitl [HO]; · iexists _; iexact HO
    iexact Hts
  isplitl [Hz]; · iexact Hz
  rw [duties_reg, Finset.sdiff_empty]; iexact Hpay

/-- The barrier: every other device has handed over. -/
theorem step_bar {s : Sem sig} {k' : ℤ} (hs : s = barS) (hk : k' = ((15 : ℕ) : ℤ))
    {k : PUnit → Prog (TpuEff nD τ sig (Elt F) Λ₀ .tc) PUnit} {Q : PUnit → sProp 𝕄} {R : sProp 𝕄}
    (h : iprop(ctx xs ws K ∗ ow c 15 ∗ ds c 15 ∗ R ∗ semVal (barC c) 0) ⊢ WP (k ⟨⟩) Q) :
    iprop(ctx xs ws K ∗ ow c 15 ∗ gv c 15 ∗ R ∗ cred (tallyAt (barC c) () 15) ∗ atPos ER (barC c) 0 ∅ 0) ⊢ WP (.op (.semWait s k') k) Q := by
  subst hs
  iintro ⟨#Hc, HO, -, HR, Hcr, Hat⟩
  iapply (wait_reg xs ws K c 15 barS (by
    intro i h1 h2
    show 1 < plev i
    unfold plev; split_ifs <;> omega) hk) $$ [HO Hcr Hat]
  · isplitr; · iexact Hc
    isplitl [HO]; · iexact HO
    isplitl [Hcr] <;> iassumption
  iintro ⟨HO, Hz, Hp⟩
  iapply h
  isplitr; · iexact Hc
  isplitl [HO]; · iexact HO
  isplitl [Hp]
  · rw [show (fun d => (rd xs ws).payload ((c : Thread nD τ), .reg barS) 0 d) = fun d => give d c from rfl]
    iapply (give_all c); iexact Hp
  isplitl [HR] <;> iassumption

/-- Waiting for the one transfer a cell is there for, and closing it. -/
theorem wait_dma (n : ℕ) (g : GSem nD τ sig) (q : DmaSem sig) (hg : g = ((c : Thread nD τ), .dma q)) (N : ℕ)
    (hm : g ∈ cells) (hd : (rd xs ws).duties g 0 = {0}) (hN : (rd xs ws).amount g 0 0 = N)
    (hl : ∀ i, n ≤ i → i < 90 → lv g () < plev i) {sp sp' : Space} {s s' : Shape} {e e' : EltTy}
    {src : Memref sig .tc sp' s' e'} {dst : Memref sig .tc sp s e} {hsrc : src.view.WordExact} {hdst : dst.view.WordExact}
    (hc : dst.view.dmaCredit = N)
    {k : PUnit → Prog (TpuEff nD τ sig (Elt F) Λ₀ .tc) PUnit} {Q : PUnit → sProp 𝕄} :
    iprop(ctx xs ws K ∗ ow c n ∗ cred (tallyAt g () N) ∗ atPos ER g 0 ∅ 0)
      ⊢ iprop(((ow c n ∗ semVal g 0 ∗ (rd xs ws).payload g 0 0) -∗ WP (k ⟨⟩) Q)
          -∗ WP (.op (.waitDma2 q src dst hsrc hdst) k) Q) := by
  subst hg hc
  have hx : (rd xs ws).expect ((c : Thread nD τ), .dma q) 0 = dst.view.dmaCredit := by
    rw [← hN]; unfold Schedule.expect; rw [hd]; exact Finset.sum_singleton _ _
  have hpay : bigSep ((rd xs ws).duties ((c : Thread nD τ), .dma q) 0 \ ∅) (fun d => (rd xs ws).payload ((c : Thread nD τ), .dma q) 0 d)
      ⊢ (rd xs ws).payload ((c : Thread nD τ), .dma q) 0 0 := by
    rw [hd, Finset.sdiff_empty, bigSep_singleton]
  unfold ow
  iintro ⟨#Hc, ⟨⟨%W, HO⟩, Hts⟩, Hcr, Hat⟩ Hk
  ihave #Hinv := (ctx_inv xs ws K _ hm) $$ Hc
  ihave #Hlev := (ctx_lev xs ws K) $$ Hc
  iapply (Rounds.wp_wait_rest_token 𝒱₀ ER (rd xs ws) (c : Thread nD τ) none (κ := K ((c : Thread nD τ), .dma q))
      (wpE_waitDma2_eq 𝒱₀ (c : Thread nD τ) none Set.univ) (Set.mem_univ _) () (O := owed c n) (W := W) (R := 0) (m := 0) (T := ∅)
      ((Nat.zero_add _).trans hx.symm)) $$ [Hcr HO Hat]
  · isplitr; · iexact Hinv
    isplitl [Hcr]; · iexact Hcr
    isplitl [HO]; · iexact HO
    isplitr; · iapply (mayWait c n _ hl); iexact Hlev
    iexact Hat
  iintro ⟨HO, Hat, -, Hpay⟩
  imod (Rounds.cell_close ER (rd xs ws) (Set.mem_univ _) id (duties_later xs ws _)) $$ [Hat] with Hz
  · isplitr; · iexact Hinv
    iexact Hat
  iapply Hk
  isplitl [HO Hts]
  · isplitl [HO]; · iexists _; iexact HO
    iexact Hts
  isplitl [Hz]; · iexact Hz
  iapply hpay $$ Hpay

/-- A transfer: what it lands in and what it reads go in, its credit comes out. -/
theorem send (n : ℕ) (h1 : 15 ≤ n) (h2 : n < 75) {s : Shape} {e : EltTy} {src dst : Memref sig .tc .vmem s e} {sS sR : DmaSem sig}
    {t : Dev nD} (ht : t = pdev c n)
    (hS : scell c n = ((c : Thread nD τ), .dma sS)) (hR : pcell c n = ((pdev c n : Thread nD τ), .dma sR))
    (hN : dst.view.dmaCredit = pamt n) {q : PosShare TreeShare} {fs : Buf (Elt F) (src.view.loc (c : Thread nD τ))}
    {fd : Buf (Elt F) (dst.view.loc (pdev c n : Thread nD τ))}
    (hp1 : (src.view.loc (c : Thread nD τ) ↦[src.view.set]{q} fs) ⊢ srcHeld xs ws c n)
    (hp2 : (dst.view.loc (pdev c n : Thread nD τ) ↦[dst.view.set]{fullShare}
        (dst.view.write (Elt F) fd (src.view.read (Elt F) fs) Finset.univ)) ⊢ landed xs ws c n)
    {hsc : dst.view.ref.isScScratch = false} {hsrc : src.view.WordExact} {hdst : dst.view.WordExact}
    {hsem : DmaTarget.Typed .vmem (.dma sR) (.remote (t : Thread nD τ) dst (.dma sS) hsc)}
    {k : PUnit → Prog (TpuEff nD τ sig (Elt F) Λ₀ .tc) PUnit} {Q : PUnit → sProp 𝕄} :
    iprop(ctx xs ws K ∗ ow c n ∗ (dst.view.loc (pdev c n : Thread nD τ) ↦[dst.view.set]{fullShare} fd) ∗ reached ER (pcell c n) 0
        ∗ (src.view.loc (c : Thread nD τ) ↦[src.view.set]{q} fs) ∗ dutyTok ER (scell c n) 0 0 ∗ reached ER (scell c n) 0)
      ⊢ iprop(((ow c (n + 1) ∗ cred (tallyAt (scell c n) () (pamt n))) -∗ WP (k ⟨⟩) Q)
          -∗ WP (.op (.enqueueDma src (.remote (t : Thread nD τ) dst (.dma sS) hsc) (.dma sR) hsrc hdst hsem) k) Q) := by
  subst ht
  unfold ow
  rw [pool_head (n := n) (m := 90) (by omega)]
  iintro ⟨#Hc, ⟨⟨%W, HO⟩, Htok, Hts⟩, Hd, Hr, Hs, Ht, Hrs⟩ Hk
  ihave #HIs := (ctx_inv xs ws K _ (scell_mem c n)) $$ Hc
  ihave #HIr := (ctx_inv xs ws K _ (pcell_mem c n)) $$ Hc
  have hduty := duty_p xs ws c n (by omega)
  have hda := amt_p xs ws c n 0
  have hpp := pay_p xs ws c n 0 h1 h2
  have hduS := used_s xs ws c n h2
  have haS := amt_s xs ws c n 0 h1 h2
  have hpS := pay_s xs ws c n 0 h2
  have hzero : pduty c n = 0 := if_pos ⟨h1, h2⟩
  have hO := owed_step c n (by omega)
  rw [hzero] at hduty
  rw [hzero]
  rw [hR] at hduty hda hpp hO ⊢
  rw [hS] at hduS haS hpS ⊢
  iapply (Rounds.wp_send_pointsTo 𝒱₀ ER (rd xs ws) (c : Thread nD τ) none (c' := (pdev c n : Thread nD τ)) (src := src) (dst := dst)
      (sS := .dma sS) (sem := .dma sR) (q := q) (fs := fs) (κ₁ := K ((c : Thread nD τ), .dma sS)) (κ₂ := K ((pdev c n : Thread nD τ), .dma sR))
      (r₁ := 0) (r₂ := 0) (d₁ := 0) (d₂ := 0) (fd := fd)
      (by rw [hduS]; exact Finset.mem_singleton_self _) hduty () () (pamt n) hN haS hda (O₀ := owed c n) (owed c (n + 1)) hO (W := W)
      (by rw [hpS]; exact hp1) (by rw [hpp]; exact hp2)) $$ [HO Htok Hd Hr Hs Ht Hrs]
  · isplitr; · iexact HIs
    isplitr; · iexact HIr
    isplitl [Hs]; · iexact Hs
    isplitl [Hd]; · iexact Hd
    isplitl [HO]; · iexact HO
    isplitl [Ht]; · iexact Ht
    isplitl [Hrs]; · iexact Hrs
    isplitl [Htok] <;> iassumption
  iintro ⟨Hcr, HO⟩
  iapply Hk
  isplitl [HO Hts]
  · isplitl [HO]; · iexists W; iexact HO
    iexact Hts
  iexact Hcr

end Cert.Proof
-- ==== Proof.Cells.lean ====
/-
  The cells of one device in the order the protocol uses them, the tokens and the credit of its
  payments, and the places it hands to each of the others.
-/
module

public import proofs.«01_k».proof.Proof.State
public import Idealize.ShloMosaic.Lib.Ring.FamCut

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Facts₀

variable {F : FTy → Type} [FloatOps F]

local notation "𝕄" => MT nD τ sig Unit (Elt F) ℕ UU ℕ

/-! ## Conjunctions over runs of numbers -/

section Runs

theorem ico_fin (n : ℕ) (Φ : ℕ → sProp 𝕄) : bigSep Finset.univ (fun k : Fin n => Φ k.val) = bigSep (Finset.Ico 0 n) Φ := by
  rw [show Finset.Ico 0 n = Finset.univ.map (Fin.valEmbedding (n := n)) from by
    ext i; simp only [Finset.mem_Ico, Finset.mem_map, Finset.mem_univ, true_and, Fin.valEmbedding_apply]
    exact ⟨fun h => ⟨⟨i, h.2⟩, rfl⟩, fun ⟨a, h⟩ => h ▸ ⟨Nat.zero_le _, a.isLt⟩⟩, bigSep_map]
  rfl

theorem ico_add {a b d : ℕ} (h1 : a ≤ b) (h2 : b ≤ d) (Φ : ℕ → sProp 𝕄) :
    bigSep (Finset.Ico a d) Φ = iprop(bigSep (Finset.Ico a b) Φ ∗ bigSep (Finset.Ico b d) Φ) := by
  rw [← Finset.Ico_union_Ico_eq_Ico h1 h2, bigSep_union (Finset.Ico_disjoint_Ico_consecutive a b d)]
  rfl

theorem ico_shift (a n : ℕ) (Φ : ℕ → sProp 𝕄) :
    bigSep (Finset.Ico a (a + n)) Φ = bigSep (Finset.Ico 0 n) fun i => Φ (a + i) := by
  rw [← bigSep_image_of_injOn (f := fun i => a + i) (fun x _ y _ h => Nat.add_left_cancel h) Φ]
  congr 1
  ext i; simp only [Finset.mem_Ico, Finset.mem_image]
  exact ⟨fun h => ⟨i - a, by omega, by omega⟩, fun ⟨x, h, e⟩ => by omega⟩

theorem ico_pair (a n : ℕ) (Φ : ℕ → sProp 𝕄) :
    bigSep (Finset.Ico a (a + 2 * n)) Φ = bigSep (Finset.Ico 0 n) fun k => iprop(Φ (a + 2 * k) ∗ Φ (a + 2 * k + 1)) := by
  induction n with
  | zero => rw [show a + 2 * 0 = a from rfl, Finset.Ico_self, Finset.Ico_self, bigSep_empty, bigSep_empty]
  | succ n ih =>
    rw [ico_add (b := a + 2 * n) (by omega) (by omega), ih, ico_add (a := 0) (b := n) (d := n + 1) (by omega) (by omega)]
    congr 1
    rw [show Finset.Ico n (n + 1) = {n} from Nat.Ico_succ_singleton n, bigSep_singleton,
      show a + 2 * (n + 1) = a + 2 * n + 1 + 1 by omega, pool_head (by omega), show Finset.Ico (a + 2 * n + 1) (a + 2 * n + 1 + 1) = {a + 2 * n + 1} from Nat.Ico_succ_singleton _, bigSep_singleton]

theorem ico_quad (n : ℕ) (Φ : ℕ → sProp 𝕄) :
    bigSep (Finset.Ico 0 (4 * n)) Φ
      = bigSep (Finset.Ico 0 n) fun k => iprop((Φ (4 * k) ∗ Φ (4 * k + 1)) ∗ (Φ (4 * k + 2) ∗ Φ (4 * k + 3))) := by
  have h1 := ico_pair 0 (2 * n) Φ
  have h2 := ico_pair 0 n fun k => iprop(Φ (0 + 2 * k) ∗ Φ (0 + 2 * k + 1))
  rw [show 0 + 2 * (2 * n) = 4 * n by omega] at h1
  rw [show 0 + 2 * n = 2 * n by omega] at h2
  rw [h1, h2]
  refine bigSep_congr fun k _ => ?_
  rw [show 0 + 2 * (0 + 2 * k) = 4 * k by omega, show 0 + 2 * (0 + 2 * k + 1) = 4 * k + 2 by omega]

/-- All devices but one, in the order of a table that meets each once. -/
theorem ico_erase {c : Dev nD} {f : ℕ → Dev nD} (hi : ∀ k k' : Fin 15, f k.val = f k'.val → k = k')
    (hf : (Finset.Ico 0 15).image f = Finset.univ.erase c) (Φ : Dev nD → sProp 𝕄) :
    bigSep (Finset.univ.erase c) Φ = bigSep (Finset.Ico 0 15) fun k => Φ (f k) := by
  rw [← hf, bigSep_image_of_injOn]
  intro x hx y hy h
  have hx' := (Finset.mem_Ico.1 hx).2; have hy' := (Finset.mem_Ico.1 hy).2
  exact congrArg Fin.val (hi ⟨x, hx'⟩ ⟨y, hy'⟩ h)

end Runs

theorem sh_all : ∀ c : Dev nD, (Finset.Ico 0 15).image (fun k => sh c (k + 1)) = Finset.univ.erase c := by decide +kernel
theorem org_all : ∀ (r : Fin 2) (c : Dev nD), (Finset.Ico 0 15).image (fun h => org r (h + 1) c) = Finset.univ.erase c := by
  decide +kernel

theorem by_sh (c : Dev nD) (Φ : Dev nD → sProp 𝕄) :
    bigSep (Finset.univ.erase c) Φ = bigSep (Finset.Ico 0 15) fun k => Φ (sh c (k + 1)) :=
  ico_erase (fun k k' h => Fin.ext (by
    have := congrArg Fin.val (sh_inj c ⟨k.val + 1, by omega⟩ ⟨k'.val + 1, by omega⟩ h)
    exact Nat.succ_injective this)) (sh_all c) Φ
theorem by_org (r : Fin 2) (c : Dev nD) (Φ : Dev nD → sProp 𝕄) :
    bigSep (Finset.univ.erase c) Φ = bigSep (Finset.Ico 0 15) fun h => Φ (org r (h + 1) c) :=
  ico_erase (fun k k' h => Fin.ext (by
    have := congrArg Fin.val (org_inj r c ⟨k.val + 1, by omega⟩ ⟨k'.val + 1, by omega⟩ h)
    exact Nat.succ_injective this)) (org_all r c) Φ

/-! ## A device's own cells -/

/-- The four pairs of cells that are never used. -/
def ucell (c : Dev nD) (k : ℕ) : GSem nD τ sig :=
  dC c ⟨k / 2 % 4, Nat.mod_lt _ (by decide)⟩ (if k < 2 then nx ⟨k % 2, Nat.mod_lt _ (by decide)⟩ c else c) ⟨k % 2, Nat.mod_lt _ (by decide)⟩

/-- The semaphores of the call. -/
def osem (k : Fin 129) : SemLoc sig :=
  if k.val = 0 then .reg endS else .dma ⟨k.val + 4, by have := k.isLt; show _ < 133; omega⟩

/-- Arrivals, then transfers, then the unused, then the closing semaphore. -/
def ocell (c : Dev nD) (k : ℕ) : GSem nD τ sig :=
  if k < 60 then rcell c k else if k < 120 then scell c (15 + (k - 60)) else if k < 128 then ucell c (k - 120) else endC c

/-- The number of a semaphore in the call's own order. -/
def snum : SemLoc sig → ℕ
  | .reg _ => 0
  | .dma q => q.val - 4

/-- Its number in the protocol's order at c. -/
def sdec (c : Dev nD) : SemLoc sig → ℕ
  | .reg _ => 128
  | .dma q =>
    if qo q = (if qa q = 0 then nx (qr q) c else c) then 120 + 2 * qa q + (qr q).val
    else if qa q = 1 then 4 * (dist (qr q) (qo q) c - 1) + (qr q).val
    else if qa q = 3 then 4 * (dist (qr q) (qo q) c - 1) + 2 + (qr q).val
    else if qa q = 2 then 60 + 2 * (((qo q).val + 15 - c.val) % 16) + (qr q).val
    else 90 + 2 * dist (qr q) (qo q) c + (qr q).val

theorem snum_lt : ∀ (c : Dev nD) (k : Fin 129), snum (ocell c k.val).2 < 129 := by decide +kernel
theorem sdec_ocell : ∀ (c : Dev nD) (k : Fin 129), sdec c (ocell c k.val).2 = k.val := by decide +kernel
theorem osem_snum : ∀ (c : Dev nD) (k : Fin 129), ((c : Thread nD τ), osem ⟨snum (ocell c k.val).2, snum_lt c k⟩) = ocell c k.val := by
  decide +kernel

def ord (c : Dev nD) : Fin 129 ≃ Fin 129 :=
  Equiv.ofBijective (fun k => ⟨snum (ocell c k.val).2, snum_lt c k⟩) ((Fintype.bijective_iff_injective_and_card _).2
    ⟨fun k k' h => by
      have h1 := osem_snum c k; have h2 := osem_snum c k'
      have h' : (⟨snum (ocell c k.val).2, snum_lt c k⟩ : Fin 129) = ⟨snum (ocell c k'.val).2, snum_lt c k'⟩ := h
      rw [h'] at h1
      have := h1.symm.trans h2
      rw [Fin.ext_iff, ← sdec_ocell c k, ← sdec_ocell c k', this], rfl⟩)

/-- Something said of each of the call's semaphores, said in the protocol's order. -/
theorem own_all (c : Dev nD) (Φ : GSem nD τ sig → sProp 𝕄) :
    bigSep Finset.univ (fun k : Fin 129 => Φ ((c : Thread nD τ), osem k))
      = iprop(bigSep (Finset.Ico 0 60) (fun a => Φ (rcell c a)) ∗ bigSep (Finset.Ico 15 75) (fun i => Φ (scell c i))
          ∗ bigSep (Finset.Ico 0 8) (fun k => Φ (ucell c k)) ∗ Φ (endC c)) := by
  rw [(bigSep_univ_equiv (ord c) fun k : Fin 129 => Φ ((c : Thread nD τ), osem k)).trans
      (bigSep_congr (Ψ := fun k : Fin 129 => Φ (ocell c k.val)) (fun k _ => congrArg Φ (osem_snum c k))),
    ico_fin 129 fun k => Φ (ocell c k), ico_add (a := 0) (b := 60) (d := 129) (by omega) (by omega),
    ico_add (a := 60) (b := 120) (d := 129) (by omega) (by omega), ico_add (a := 120) (b := 128) (d := 129) (by omega) (by omega),
    show (129 : ℕ) = 128 + 1 from rfl, show Finset.Ico 128 (128 + 1) = {128} from Nat.Ico_succ_singleton 128, bigSep_singleton,
    show (120 : ℕ) = 60 + 60 from rfl, ico_shift 60 60, show (75 : ℕ) = 15 + 60 from rfl, ico_shift 15 60,
    show (128 : ℕ) = 60 + 60 + 8 from rfl, ico_shift (60 + 60) 8]
  refine congr (congrArg BI.sep ?_) ?_
  · exact bigSep_congr fun a ha => by
      have := (Finset.mem_Ico.1 ha).2
      unfold ocell; rw [if_pos (by omega)]
  refine congr (congrArg BI.sep ?_) ?_
  · exact bigSep_congr fun a ha => by
      have := (Finset.mem_Ico.1 ha).2
      unfold ocell; rw [if_neg (by omega), if_pos (by omega), show 60 + a - 60 = a by omega]
  refine congr (congrArg BI.sep ?_) ?_
  · exact bigSep_congr fun a ha => by
      have := (Finset.mem_Ico.1 ha).2
      unfold ocell; rw [if_neg (by omega), if_neg (by omega), if_pos (by omega), show 60 + 60 + a - 120 = a by omega]
  · rfl

def idle (c : Dev nD) : SemLoc sig → Bool
  | .reg _ => false
  | .dma q => !decide (used c q)
theorem idle_u : ∀ (c : Dev nD) (k : Fin 8), idle c (ucell c k.val).2 = true := by decide +kernel

theorem osem_ok : Pipeline.OwnSemFacts cfg0.spec osem := by decide +kernel

/-! ## Which payment fills which place -/

/-- The device that brings arrival a to c, and the number of its payment. -/
def from_ (c : Dev nD) (a : ℕ) : Dev nD := if a % 4 < 2 then pv (rr a) c else rorg c a
def pnum (c : Dev nD) (a : ℕ) : ℕ :=
  if a % 4 < 2 then 45 + 2 * (a / 4) + a % 2 else 15 + 2 * ((c.val + 15 - (rorg c a).val) % 16) + a % 2
/-- The number of the arrival that payment i of t brings. -/
def anum (t : Dev nD) (i : ℕ) : ℕ :=
  if i < 45 then 4 * (dist (rg i) t (pdev t i) - 1) + 2 + (rg i).val else 4 * ((i - 45) / 2) + (rg i).val

/-- Payment and arrival agree. -/
def match_ (t : Dev nD) (i : ℕ) : Prop :=
  anum t i < 60 ∧ from_ (pdev t i) (anum t i) = t ∧ pnum (pdev t i) (anum t i) = i
    ∧ rorg (pdev t i) (anum t i) = (if i < 45 then t else porg t i) ∧ rr (anum t i) = rg i
    ∧ (anum t i % 4 < 2 ↔ 45 ≤ i) ∧ pcell t i = rcell (pdev t i) (anum t i)
instance (t : Dev nD) (i : ℕ) : Decidable (match_ t i) := by unfold match_; infer_instance

theorem match_all : ∀ (t : Dev nD) (i : Fin 75), 15 ≤ i.val → match_ t i.val := by decide +kernel

theorem from_all : ∀ (c : Dev nD) (a : Fin 60), from_ c a.val ≠ c ∧ 15 ≤ pnum c a.val ∧ pnum c a.val < 75
    ∧ pcell (from_ c a.val) (pnum c a.val) = rcell c a.val ∧ (a.val % 4 < 2 ↔ 45 ≤ pnum c a.val) := by decide +kernel

theorem from_image : ∀ c : Dev nD, (Finset.Ico 0 60).image (from_ c) = Finset.univ.erase c := by decide +kernel

end Cert.Proof
-- ==== Proof.Moves.lean ====
/-
  The moves of a device as its program spells them: offsets, semaphores and buffers at the
  places the tables give.
-/
module

public import proofs.«01_k».proof.Proof.State

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Facts₀

variable {F : FTy → Type} [FloatOps F]

local notation "𝕄" => MT nD τ sig Unit (Elt F) ℕ UU ℕ

variable (xs : Dev nD → Vec F S4096x256 .fp8e4m3) (ws : Dev nD → Vec F S2x256x4096 .fp8e5m2)
variable (K : GSem nD τ sig → ℕ) (c : Dev nD)

local notation "WP" => wp frame (wpE (defs₀ (F := F)) 𝒱₀ (c : Thread nD τ) none) Set.univ

theorem ent {P Q : sProp 𝕄} (h : P = Q) : P ⊢ Q := by rw [h]

/-! ## Semaphores and pieces at given offsets -/

abbrev semAt (A : DmaSems sig S16x2) (o : Fin 2 → ℕ) (h : ∀ a, o a + S1x1.size a ≤ S16x2.size a) : DmaSem sig :=
  ((A.slice (Rect.unit (s := S16x2) o S1x1.size h)).squeeze S_ squeezes_S1x1_S_).sem
abbrev xbAt (o : Fin 2 → ℕ) (h : ∀ a, o a + S256x256.size a ≤ S4096x256.size a) : Memref sig .tc .vmem S256x256 .fp8e4m3 :=
  xM.slice (Rect.unit (s := S4096x256) o S256x256.size h) (fun _ => rfl)
abbrev xtAt (o : Fin 4 → ℕ) (h : ∀ a, o a + S1x1x256x256.size a ≤ S2x16x256x256.size a) : Memref sig .tc .vmem S256x256 .fp8e4m3 :=
  (xtM.slice (Rect.unit (s := S2x16x256x256) o S1x1x256x256.size h) (fun _ => rfl)).squeeze S256x256 squeezes_S1x1x256x256_S256x256
abbrev wbAt (o : Fin 4 → ℕ) (h : ∀ a, o a + S1x1x256x4096.size a ≤ S16x2x256x4096.size a) : Memref sig .tc .vmem S256x4096 .fp8e5m2 :=
  (wbM.slice (Rect.unit (s := S16x2x256x4096) o S1x1x256x4096.size h) (fun _ => rfl)).squeeze S256x4096 squeezes_S1x1x256x4096_S256x4096
abbrev whAt (o : Fin 3 → ℕ) (h : ∀ a, o a + S1x256x4096.size a ≤ S2x256x4096.size a) : Memref sig .tc .vmem S256x4096 .fp8e5m2 :=
  (wM.slice (Rect.unit (s := S2x256x4096) o S1x256x4096.size h) (fun _ => rfl)).squeeze S256x4096 squeezes_S1x256x4096_S256x4096

theorem semAt_inb : ∀ (o : Dev nD) (r : Fin 2) (a : Fin 2), (![o.val, r.val] : Fin 2 → ℕ) a + S1x1.size a ≤ S16x2.size a := by decide

theorem semAt0 : ∀ (o : Dev nD) (r : Fin 2), semAt cc0_scratch2 ![o.val, r.val] (semAt_inb o r) = dsem 0 o r := by decide +kernel
theorem semAt1 : ∀ (o : Dev nD) (r : Fin 2), semAt cc0_scratch3 ![o.val, r.val] (semAt_inb o r) = dsem 1 o r := by decide +kernel
theorem semAt2 : ∀ (o : Dev nD) (r : Fin 2), semAt cc0_scratch4 ![o.val, r.val] (semAt_inb o r) = dsem 2 o r := by decide +kernel
theorem semAt3 : ∀ (o : Dev nD) (r : Fin 2), semAt cc0_scratch5 ![o.val, r.val] (semAt_inb o r) = dsem 3 o r := by decide +kernel

/-! ## Transfers -/

/-- A tile of x goes out. -/
theorem step_x (n : ℕ) (h1 : 15 ≤ n) (h2 : n < 45) {t : Dev nD} (ht : t = pdev c n)
    {ox oS oR : Fin 2 → ℕ} {od : Fin 4 → ℕ} (hox : ox = ![(pdev c n).val * 256, 0]) (hoS : oS = ![(pdev c n).val, (rg n).val])
    (hoR : oR = ![c.val, (rg n).val]) (hod : od = ![(rg n).val, c.val, 0, 0]) {bx bS bR bd}
    {hsc : (xtAt od bd).view.ref.isScScratch = false} {hsrc : (xbAt ox bx).view.WordExact} {hdst : (xtAt od bd).view.WordExact}
    {hsem : DmaTarget.Typed .vmem (.dma (semAt cc0_scratch5 oR bR)) (.remote (t : Thread nD τ) (xtAt od bd) (.dma (semAt cc0_scratch4 oS bS)) hsc)}
    {k : PUnit → Prog (TpuEff nD τ sig (Elt F) Λ₀ .tc) PUnit} {Q : PUnit → sProp 𝕄} {R : sProp 𝕄}
    (h : iprop(ctx xs ws K ∗ ow c (n + 1) ∗ ds c (n + 1) ∗ tk c (n + 1) ∗ cs c 15 (n + 1) ∗ sr xs ws c (n + 1) ∗ R) ⊢ WP (k ⟨⟩) Q) :
    iprop(ctx xs ws K ∗ ow c n ∗ ds c n ∗ tk c n ∗ cs c 15 n ∗ sr xs ws c n ∗ R)
      ⊢ WP (.op (.enqueueDma (xbAt ox bx) (.remote (t : Thread nD τ) (xtAt od bd) (.dma (semAt cc0_scratch4 oS bS)) hsc)
          (.dma (semAt cc0_scratch5 oR bR)) hsrc hdst hsem) k) Q := by
  subst hox hoS hoR hod
  unfold ds tk cs sr
  rw [pool_head (n := n) (m := 90) (by omega), pool_head (n := n) (m := 75) (by omega), pool_head (n := n) (m := 47) (by omega)]
  rw [show dstFree (F := F) c n = iprop(place (pdev c n) true c (rg n) ∗ reached ER (pcell c n) 0) by
    unfold dstFree; rw [if_pos (by omega), if_pos h2, decide_eq_true h2]]
  rw [show srcHeld xs ws c n = xbHeld xs c (pdev c n) (xq (rg n)) from if_pos h2]
  unfold place xbHeld
  rw [if_pos rfl]
  iintro ⟨#Hc, HO, ⟨⟨⟨%fd, Hd⟩, Hr⟩, Hds⟩, ⟨⟨Ht, Hrs⟩, Htk⟩, Hcs, ⟨Hs, Hsr⟩, HR⟩
  iapply (send xs ws K c n h1 (by omega) (src := xBlk (pdev c n)) (dst := xtSlot (rg n) c) ht
    (sS := semAt cc0_scratch4 ![(pdev c n).val, (rg n).val] bS) (sR := semAt cc0_scratch5 ![c.val, (rg n).val] bR)
    (by rw [semAt2]; exact if_pos h2)
    (by rw [semAt3]; unfold pcell; rw [if_neg (by omega), if_pos h2])
    (by rw [nx_xt]; unfold pamt; rw [if_neg (by omega), if_pos h2])
    (q := xq (rg n)) (fs := xs c) (fd := fd)
    (by rw [show srcHeld xs ws c n = xbHeld xs c (pdev c n) (xq (rg n)) from if_pos h2]; exact ent rfl)
    (by
      rw [show landed xs ws c n = xtHeld xs (pdev c n) c (rg n) fullShare from if_pos h2]
      exact ent (pointsTo_congr (write_read_on (xtSlot (rg n) c).view fd (XT xs (pdev c n)) _ ((read_xtSlot xs _ _ _).trans (read_xBlk xs _ _).symm)))))
    $$ [HO Hd Hr Hs Ht Hrs]
  · isplitr; · iexact Hc
    isplitl [HO]; · iexact HO
    isplitl [Hd]; · iexact Hd
    isplitl [Hr]; · iexact Hr
    isplitl [Hs]; · iexact Hs
    isplitl [Ht] <;> iassumption
  iintro ⟨HO, Hcr⟩
  iapply h
  unfold ds tk cs sr
  rw [pool_last h1]
  isplitr; · iexact Hc
  isplitl [HO]; · iexact HO
  isplitl [Hds]; · iexact Hds
  isplitl [Htk]; · iexact Htk
  isplitl [Hcs Hcr]; · isplitl [Hcr] <;> iassumption
  isplitl [Hsr] <;> iassumption

/-- A half of the own weights goes out. -/
theorem step_w (n : ℕ) (h1 : 45 ≤ n) (h2 : n < 47) {t : Dev nD} (ht : t = pdev c n)
    {oS oR : Fin 2 → ℕ} {os : Fin 3 → ℕ} {od : Fin 4 → ℕ} (hos : os = ![(rg n).val, 0, 0]) (hoS : oS = ![c.val, (rg n).val])
    (hoR : oR = ![c.val, (rg n).val]) (hod : od = ![c.val, (rg n).val, 0, 0]) {bs bS bR bd}
    {hsc : (wbAt od bd).view.ref.isScScratch = false} {hsrc : (whAt os bs).view.WordExact} {hdst : (wbAt od bd).view.WordExact}
    {hsem : DmaTarget.Typed .vmem (.dma (semAt cc0_scratch3 oR bR)) (.remote (t : Thread nD τ) (wbAt od bd) (.dma (semAt cc0_scratch2 oS bS)) hsc)}
    {k : PUnit → Prog (TpuEff nD τ sig (Elt F) Λ₀ .tc) PUnit} {Q : PUnit → sProp 𝕄} {R : sProp 𝕄}
    (h : iprop(ctx xs ws K ∗ ow c (n + 1) ∗ ds c (n + 1) ∗ tk c (n + 1) ∗ cs c 15 (n + 1) ∗ sr xs ws c (n + 1) ∗ R) ⊢ WP (k ⟨⟩) Q) :
    iprop(ctx xs ws K ∗ ow c n ∗ ds c n ∗ tk c n ∗ cs c 15 n ∗ sr xs ws c n ∗ R)
      ⊢ WP (.op (.enqueueDma (whAt os bs) (.remote (t : Thread nD τ) (wbAt od bd) (.dma (semAt cc0_scratch2 oS bS)) hsc)
          (.dma (semAt cc0_scratch3 oR bR)) hsrc hdst hsem) k) Q := by
  subst hos hoS hoR hod
  have hp : porg c n = c := (porg_self c ⟨n, by omega⟩ h1).2 h2
  unfold ds tk cs sr
  rw [pool_head (n := n) (m := 90) (by omega), pool_head (n := n) (m := 75) (by omega), pool_head (n := n) (m := 47) (by omega)]
  rw [show dstFree (F := F) c n = iprop(place (pdev c n) false c (rg n) ∗ reached ER (pcell c n) 0) by
    unfold dstFree; rw [if_pos (by omega), if_neg (by omega : ¬ n < 45), decide_eq_false (by omega : ¬ n < 45), hp]]
  have hsh : srcHeld xs ws c n = whHeld ws c (rg n) fullShare.left := by
    unfold srcHeld; rw [if_neg (by omega : ¬ n < 45), if_pos h2]
  rw [hsh]
  unfold place whHeld
  rw [if_neg (by decide)]
  iintro ⟨#Hc, HO, ⟨⟨⟨%fd, Hd⟩, Hr⟩, Hds⟩, ⟨⟨Ht, Hrs⟩, Htk⟩, Hcs, ⟨Hs, Hsr⟩, HR⟩
  iapply (send xs ws K c n (by omega) (by omega) (src := wHalf (rg n)) (dst := wbSlot c (rg n)) ht
    (sS := semAt cc0_scratch2 ![c.val, (rg n).val] bS) (sR := semAt cc0_scratch3 ![c.val, (rg n).val] bR)
    (by rw [semAt0]; unfold scell; rw [if_neg (by omega), hp])
    (by rw [semAt1]; unfold pcell; rw [if_neg (by omega), if_neg (by omega), if_pos (by omega), hp])
    (by rw [nw_wb]; unfold pamt; rw [if_neg (by omega), if_neg (by omega), if_pos (by omega)])
    (q := fullShare.left) (fs := ws c) (fd := fd)
    (by rw [hsh]; exact ent rfl)
    (by
      rw [show landed xs ws c n = wbHeld ws (pdev c n) c (rg n) fullShare by unfold landed; rw [if_neg (by omega), hp]]
      exact ent (pointsTo_congr (write_read_on (wbSlot c (rg n)).view fd (WB ws) _ ((read_wbSlot ws _ _).trans (read_wHalf ws _ _).symm)))))
    $$ [HO Hd Hr Hs Ht Hrs]
  · isplitr; · iexact Hc
    isplitl [HO]; · iexact HO
    isplitl [Hd]; · iexact Hd
    isplitl [Hr]; · iexact Hr
    isplitl [Hs]; · iexact Hs
    isplitl [Ht] <;> iassumption
  iintro ⟨HO, Hcr⟩
  iapply h
  unfold ds tk cs sr
  rw [pool_last (n := 15) (m := n) (by omega)]
  isplitr; · iexact Hc
  isplitl [HO]; · iexact HO
  isplitl [Hds]; · iexact Hds
  isplitl [Htk]; · iexact Htk
  isplitl [Hcs Hcr]; · isplitl [Hcr] <;> iassumption
  isplitl [Hsr] <;> iassumption

/-! ## Arrivals -/

theorem rlev_lt (n a : ℕ) (hn : n = 47 + 2 * (a / 4) + min (a % 4) 2 ∨ n = 75) (ha : a < 60) :
    ∀ i, n ≤ i → i < 90 → lv (rcell c a) () < plev i := by
  intro i h1 h2
  rw [lv_r c ⟨a, ha⟩]
  show rlev a < plev i
  unfold rlev plev
  split_ifs <;> omega

/-- Weights that go no further have arrived. -/
theorem step_last (a : ℕ) (h1 : 56 ≤ a) (h2 : a < 58) {os : Fin 2 → ℕ} {od : Fin 4 → ℕ}
    (hos : os = ![(rorg c a).val, (rr a).val]) {bS bd} {sp' : Space} {s' : Shape} {e' : EltTy} {src : Memref sig .tc sp' s' e'}
    {hsrc : src.view.WordExact} {hdst : (wbAt od bd).view.WordExact}
    {k : PUnit → Prog (TpuEff nD τ sig (Elt F) Λ₀ .tc) PUnit} {Q : PUnit → sProp 𝕄} {R : sProp 𝕄}
    (h : iprop(ctx xs ws K ∗ ow c 75 ∗ rp c (a + 1) ∗ gt xs ws c (a + 1) ∗ R) ⊢ WP (k ⟨⟩) Q) :
    iprop(ctx xs ws K ∗ ow c 75 ∗ rp c a ∗ gt xs ws c a ∗ R)
      ⊢ WP (.op (.waitDma2 (semAt cc0_scratch3 os bS) src (wbAt od bd) hsrc hdst) k) Q := by
  subst hos
  have hk : kept xs ws c a = got xs ws c a := by unfold kept; rw [if_neg (by omega)]
  unfold rp gt
  rw [pool_head (n := a) (m := 60) (by omega)]
  iintro ⟨#Hc, HO, ⟨⟨Hcr, Hat⟩, Hrp⟩, Hgt, HR⟩
  iapply (wait_dma xs ws K c 75 (rcell c a) (semAt cc0_scratch3 ![(rorg c a).val, (rr a).val] bS)
    (by rw [semAt1]; unfold rcell; rw [if_pos (by omega)]) (ramt a) (rcell_mem c a) (duties_r xs ws c a (by omega)) (amt_r xs ws c a 0)
    (rlev_lt c 75 a (.inr rfl) (by omega)) (by unfold ramt; rw [if_pos (by omega)]; rfl)) $$ [HO Hcr Hat]
  · isplitr; · iexact Hc
    isplitl [HO]; · iexact HO
    isplitl [Hcr] <;> iassumption
  iintro ⟨HO, Hz, Hp⟩
  ihave Hp := (ent (pay_r xs ws c a 0)) $$ Hp
  iapply h
  unfold rp gt
  rw [pool_last (Nat.zero_le a), hk]
  isplitr; · iexact Hc
  isplitl [HO]; · iexact HO
  isplitl [Hrp]; · iexact Hrp
  isplitl [Hgt Hp Hz]
  · isplitl [Hp Hz]; · isplitl [Hp] <;> iassumption
    iexact Hgt
  iexact HR

/-- A tile of x has arrived. -/
theorem step_tile (n a : ℕ) (h1 : 2 ≤ a % 4) (h2 : a < 60) (hn : n = min (49 + 2 * (a / 4)) 75) {os : Fin 2 → ℕ} {od : Fin 4 → ℕ}
    (hos : os = ![(rorg c a).val, (rr a).val]) {bS bd} {sp' : Space} {s' : Shape} {e' : EltTy} {src : Memref sig .tc sp' s' e'}
    {hsrc : src.view.WordExact} {hdst : (xtAt od bd).view.WordExact}
    {k : PUnit → Prog (TpuEff nD τ sig (Elt F) Λ₀ .tc) PUnit} {Q : PUnit → sProp 𝕄} {R : sProp 𝕄}
    (h : iprop(ctx xs ws K ∗ ow c n ∗ rp c (a + 1) ∗ gt xs ws c (a + 1) ∗ R) ⊢ WP (k ⟨⟩) Q) :
    iprop(ctx xs ws K ∗ ow c n ∗ rp c a ∗ gt xs ws c a ∗ R)
      ⊢ WP (.op (.waitDma2 (semAt cc0_scratch5 os bS) src (xtAt od bd) hsrc hdst) k) Q := by
  subst hos
  have hk : kept xs ws c a = got xs ws c a := by unfold kept; rw [if_neg (by omega)]
  unfold rp gt
  rw [pool_head (n := a) (m := 60) (by omega)]
  iintro ⟨#Hc, HO, ⟨⟨Hcr, Hat⟩, Hrp⟩, Hgt, HR⟩
  iapply (wait_dma xs ws K c n (rcell c a) (semAt cc0_scratch5 ![(rorg c a).val, (rr a).val] bS)
    (by rw [semAt3]; unfold rcell; rw [if_neg (by omega)]) (ramt a) (rcell_mem c a) (duties_r xs ws c a (by omega)) (amt_r xs ws c a 0)
    (rlev_lt c n a (by omega) (by omega)) (by unfold ramt; rw [if_neg (by omega)]; rfl)) $$ [HO Hcr Hat]
  · isplitr; · iexact Hc
    isplitl [HO]; · iexact HO
    isplitl [Hcr] <;> iassumption
  iintro ⟨HO, Hz, Hp⟩
  ihave Hp := (ent (pay_r xs ws c a 0)) $$ Hp
  iapply h
  unfold rp gt
  rw [pool_last (Nat.zero_le a), hk]
  isplitr; · iexact Hc
  isplitl [HO]; · iexact HO
  isplitl [Hrp]; · iexact Hrp
  isplitl [Hgt Hp Hz]
  · isplitl [Hp Hz]; · isplitl [Hp] <;> iassumption
    iexact Hgt
  iexact HR

theorem porg_rorg : ∀ (c : Dev nD) (a : Fin 60), a.val % 4 < 2 → porg c (47 + 2 * (a.val / 4) + a.val % 4) = rorg c a.val := by
  decide +kernel

/-- Weights have arrived, and are sent on at once. -/
theorem step_relay (n a : ℕ) (h1 : a % 4 < 2) (h2 : a < 56) (hn : n = 47 + 2 * (a / 4) + a % 4) {t : Dev nD} (ht : t = pdev c n)
    {os oS oR : Fin 2 → ℕ} {od of of' : Fin 4 → ℕ}
    (hos : os = ![(rorg c a).val, (rr a).val]) (hoS : oS = ![(rorg c a).val, (rr a).val]) (hoR : oR = ![(rorg c a).val, (rr a).val])
    (hof : of = ![(rorg c a).val, (rr a).val, 0, 0]) (hof' : of' = ![(rorg c a).val, (rr a).val, 0, 0])
    {bs bd bS bR bf bf'} {sp' : Space} {s' : Shape} {e' : EltTy} {src : Memref sig .tc sp' s' e'}
    {hsrc : src.view.WordExact} {hdst : (wbAt od bd).view.WordExact}
    {hsc : (wbAt of' bf').view.ref.isScScratch = false} {hsrc' : (wbAt of bf).view.WordExact} {hdst' : (wbAt of' bf').view.WordExact}
    {hsem : DmaTarget.Typed .vmem (.dma (semAt cc0_scratch3 oR bR)) (.remote (t : Thread nD τ) (wbAt of' bf') (.dma (semAt cc0_scratch2 oS bS)) hsc)}
    {k : PUnit → Prog (TpuEff nD τ sig (Elt F) Λ₀ .tc) PUnit} {Q : PUnit → sProp 𝕄} {R : sProp 𝕄}
    (h : iprop(ctx xs ws K ∗ ow c (n + 1) ∗ rp c (a + 1) ∗ gt xs ws c (a + 1) ∗ ds c (n + 1) ∗ tk c (n + 1) ∗ cs c 15 (n + 1) ∗ R) ⊢ WP (k ⟨⟩) Q) :
    iprop(ctx xs ws K ∗ ow c n ∗ rp c a ∗ gt xs ws c a ∗ ds c n ∗ tk c n ∗ cs c 15 n ∗ R)
      ⊢ WP (.op (.waitDma2 (semAt cc0_scratch3 os bs) src (wbAt od bd) hsrc hdst) fun _ =>
          .op (.enqueueDma (wbAt of bf) (.remote (t : Thread nD τ) (wbAt of' bf') (.dma (semAt cc0_scratch2 oS bS)) hsc)
          (.dma (semAt cc0_scratch3 oR bR)) hsrc' hdst' hsem) k) Q := by
  subst hos hoS hoR hof hof'
  have hp : porg c n = rorg c a := by rw [hn]; exact porg_rorg c ⟨a, by omega⟩ h1
  have hr : rg n = rr a := Fin.ext (show (n + 1) % 2 = a % 2 by omega)
  have hk : kept xs ws c a = wbHeld ws c (rorg c a) (rr a) fullShare.right := by unfold kept; rw [if_pos ⟨h1, h2⟩]
  have hg : got xs ws c a = wbHeld ws c (rorg c a) (rr a) fullShare := by unfold got; rw [if_pos h1]
  have hsh : srcHeld xs ws c n = wbHeld ws c (rorg c a) (rr a) fullShare.left := by
    unfold srcHeld; rw [if_neg (by omega : ¬ n < 45), if_neg (by omega : ¬ n < 47), hp, hr]
  have hcut : wbHeld ws c (rorg c a) (rr a) fullShare
      ⊢ iprop(wbHeld ws c (rorg c a) (rr a) fullShare.left ∗ wbHeld ws c (rorg c a) (rr a) fullShare.right) := by
    unfold wbHeld; exact (pointsTo_share (PosShare.mem_left_op_right _)).1
  unfold rp gt ds tk cs
  rw [pool_head (n := a) (m := 60) (by omega), pool_head (n := n) (m := 90) (by omega), pool_head (n := n) (m := 75) (by omega)]
  rw [show dstFree (F := F) c n = iprop(place (pdev c n) false (rorg c a) (rr a) ∗ reached ER (pcell c n) 0) by
    unfold dstFree; rw [if_pos (by omega), if_neg (by omega : ¬ n < 45), decide_eq_false (by omega : ¬ n < 45), hp, hr]]
  unfold place
  rw [if_neg (by decide)]
  iintro ⟨#Hc, HO, ⟨⟨Hcr, Hat⟩, Hrp⟩, Hgt, ⟨⟨⟨%fd, Hd⟩, Hr⟩, Hds⟩, ⟨⟨Ht, Hrs⟩, Htk⟩, Hcs, HR⟩
  iapply (wait_dma xs ws K c n (rcell c a) (semAt cc0_scratch3 ![(rorg c a).val, (rr a).val] bs)
    (by rw [semAt1]; unfold rcell; rw [if_pos (by omega)]) (ramt a) (rcell_mem c a) (duties_r xs ws c a (by omega)) (amt_r xs ws c a 0)
    (rlev_lt c n a (by omega) (by omega)) (by unfold ramt; rw [if_pos (by omega)]; rfl)) $$ [HO Hcr Hat]
  · isplitr; · iexact Hc
    isplitl [HO]; · iexact HO
    isplitl [Hcr] <;> iassumption
  iintro ⟨HO, Hz, Hp⟩
  ihave Hp := (ent ((pay_r xs ws c a 0).trans hg)) $$ Hp
  ihave Hp := hcut $$ Hp
  icases Hp with ⟨Hl, Hkr⟩
  iapply (send xs ws K c n (by omega) (by omega) (src := wbSlot (rorg c a) (rr a)) (dst := wbSlot (rorg c a) (rr a)) ht
    (sS := semAt cc0_scratch2 ![(rorg c a).val, (rr a).val] bS) (sR := semAt cc0_scratch3 ![(rorg c a).val, (rr a).val] bR)
    (by rw [semAt0]; unfold scell; rw [if_neg (by omega), hp, hr])
    (by rw [semAt1]; unfold pcell; rw [if_neg (by omega), if_neg (by omega), if_pos (by omega), hp, hr])
    (by rw [nw_wb]; unfold pamt; rw [if_neg (by omega), if_neg (by omega), if_pos (by omega)])
    (q := fullShare.left) (fs := WB ws) (fd := fd)
    (by rw [hsh]; exact ent rfl)
    (by
      rw [show landed xs ws c n = wbHeld ws (pdev c n) (rorg c a) (rr a) fullShare by unfold landed; rw [if_neg (by omega), hp, hr]]
      exact ent (pointsTo_congr (write_read_on (wbSlot (rorg c a) (rr a)).view fd (WB ws) _ rfl))))
    $$ [HO Hd Hr Hl Ht Hrs]
  · isplitr; · iexact Hc
    isplitl [HO]; · iexact HO
    isplitl [Hd]; · iexact Hd
    isplitl [Hr]; · iexact Hr
    isplitl [Hl]; · unfold wbHeld; iexact Hl
    isplitl [Ht] <;> iassumption
  iintro ⟨HO, Hcr⟩
  iapply h
  unfold rp gt ds tk cs
  rw [pool_last (Nat.zero_le a), pool_last (n := 15) (m := n) (by omega), hk]
  isplitr; · iexact Hc
  isplitl [HO]; · iexact HO
  isplitl [Hrp]; · iexact Hrp
  isplitl [Hgt Hkr Hz]
  · isplitl [Hkr Hz]; · isplitl [Hkr] <;> iassumption
    iexact Hgt
  isplitl [Hds]; · iexact Hds
  isplitl [Htk]; · iexact Htk
  isplitl [Hcs Hcr]; · isplitl [Hcr] <;> iassumption
  iexact HR

/-! ## Waiting for the own transfers to have been read out -/

theorem sent (j : ℕ) (h1 : 15 ≤ j) (h2 : j < 75) {q : DmaSem sig} (hq : scell c j = ((c : Thread nD τ), .dma q))
    {sp' sp₂ : Space} {s' s₂ : Shape} {e' e₂ : EltTy} {src : Memref sig .tc sp' s' e'} {dst : Memref sig .tc sp₂ s₂ e₂}
    {hsrc : src.view.WordExact} {hdst : dst.view.WordExact} (hc : dst.view.dmaCredit = pamt j)
    {k : PUnit → Prog (TpuEff nD τ sig (Elt F) Λ₀ .tc) PUnit} {Q : PUnit → sProp 𝕄} {R : sProp 𝕄}
    (h : iprop(ctx xs ws K ∗ ow c 75 ∗ cs c (j + 1) 75 ∗ sp c (j + 1) ∗ bk xs ws c (j + 1) ∗ R) ⊢ WP (k ⟨⟩) Q) :
    iprop(ctx xs ws K ∗ ow c 75 ∗ cs c j 75 ∗ sp c j ∗ bk xs ws c j ∗ R) ⊢ WP (.op (.waitDma2 q src dst hsrc hdst) k) Q := by
  have hcs : (cs c j 75 : sProp 𝕄) = iprop(cred (tallyAt (scell c j) () (pamt j)) ∗ cs c (j + 1) 75) := pool_head h2 _
  have hsp : (sp c j : sProp 𝕄) = iprop(atPos ER (scell c j) 0 ∅ 0 ∗ sp c (j + 1)) := pool_head h2 _
  have hbk : bk xs ws c (j + 1) = iprop((srcHeld xs ws c j ∗ semVal (scell c j) 0) ∗ bk xs ws c j) := pool_last h1 _
  rw [hcs, hsp]
  rw [hbk] at h
  iintro ⟨#Hc, HO, ⟨Hcr, Hcs⟩, ⟨Hat, Hsp⟩, Hbk, HR⟩
  iapply (wait_dma xs ws K c 75 (scell c j) q hq (pamt j) (scell_mem c j) (used_s xs ws c j h2) (amt_s xs ws c j 0 h1 h2)
    (fun i h3 h4 => by
      rw [lv_s c ⟨j, h2⟩]; unfold plev
      rw [if_neg (by omega), if_neg (by omega), if_neg (by omega)]; exact (by decide : (0 : ℕ) < 100)) hc) $$ [HO Hcr Hat]
  · isplitr; · iexact Hc
    isplitl [HO]; · iexact HO
    isplitl [Hcr] <;> iassumption
  iintro ⟨HO, Hz, Hp⟩
  ihave Hp := (ent (pay_s xs ws c j 0 h2)) $$ Hp
  iapply h
  isplitr; · iexact Hc
  isplitl [HO]; · iexact HO
  isplitl [Hcs]; · iexact Hcs
  isplitl [Hsp]; · iexact Hsp
  isplitl [Hbk Hp Hz]
  · isplitl [Hp Hz]; · isplitl [Hp] <;> iassumption
    iexact Hbk
  iexact HR

/-- A tile of x. -/
theorem step_sx (j : ℕ) (h1 : 15 ≤ j) (h2 : j < 45) {oS : Fin 2 → ℕ} (hoS : oS = ![(pdev c j).val, (rg j).val]) {bS od bd}
    {sp' : Space} {s' : Shape} {e' : EltTy} {src : Memref sig .tc sp' s' e'}
    {hsrc : src.view.WordExact} {hdst : (xbAt od bd).view.WordExact}
    {k : PUnit → Prog (TpuEff nD τ sig (Elt F) Λ₀ .tc) PUnit} {Q : PUnit → sProp 𝕄} {R : sProp 𝕄}
    (h : iprop(ctx xs ws K ∗ ow c 75 ∗ cs c (j + 1) 75 ∗ sp c (j + 1) ∗ bk xs ws c (j + 1) ∗ R) ⊢ WP (k ⟨⟩) Q) :
    iprop(ctx xs ws K ∗ ow c 75 ∗ cs c j 75 ∗ sp c j ∗ bk xs ws c j ∗ R)
      ⊢ WP (.op (.waitDma2 (semAt cc0_scratch4 oS bS) src (xbAt od bd) hsrc hdst) k) Q := by
  subst hoS
  refine sent xs ws K c j h1 (by omega) (by rw [semAt2]; exact if_pos h2) ?_ h
  unfold pamt; rw [if_neg (by omega), if_pos h2]; rfl

/-- A half of the own weights. -/
theorem step_sw (j : ℕ) (h1 : 45 ≤ j) (h2 : j < 47) {oS : Fin 2 → ℕ} (hoS : oS = ![(porg c j).val, (rg j).val]) {bS od bd}
    {sp' : Space} {s' : Shape} {e' : EltTy} {src : Memref sig .tc sp' s' e'}
    {hsrc : src.view.WordExact} {hdst : (whAt od bd).view.WordExact}
    {k : PUnit → Prog (TpuEff nD τ sig (Elt F) Λ₀ .tc) PUnit} {Q : PUnit → sProp 𝕄} {R : sProp 𝕄}
    (h : iprop(ctx xs ws K ∗ ow c 75 ∗ cs c (j + 1) 75 ∗ sp c (j + 1) ∗ bk xs ws c (j + 1) ∗ R) ⊢ WP (k ⟨⟩) Q) :
    iprop(ctx xs ws K ∗ ow c 75 ∗ cs c j 75 ∗ sp c j ∗ bk xs ws c j ∗ R)
      ⊢ WP (.op (.waitDma2 (semAt cc0_scratch2 oS bS) src (whAt od bd) hsrc hdst) k) Q := by
  subst hoS
  refine sent xs ws K c j (by omega) (by omega) (by rw [semAt0]; exact if_neg (by omega)) ?_ h
  unfold pamt; rw [if_neg (by omega), if_neg (by omega), if_pos (by omega)]; rfl

/-- Weights sent on. -/
theorem step_sf (j : ℕ) (h1 : 47 ≤ j) (h2 : j < 75) {oS : Fin 2 → ℕ} (hoS : oS = ![(porg c j).val, (rg j).val]) {bS od bd}
    {sp' : Space} {s' : Shape} {e' : EltTy} {src : Memref sig .tc sp' s' e'}
    {hsrc : src.view.WordExact} {hdst : (wbAt od bd).view.WordExact}
    {k : PUnit → Prog (TpuEff nD τ sig (Elt F) Λ₀ .tc) PUnit} {Q : PUnit → sProp 𝕄} {R : sProp 𝕄}
    (h : iprop(ctx xs ws K ∗ ow c 75 ∗ cs c (j + 1) 75 ∗ sp c (j + 1) ∗ bk xs ws c (j + 1) ∗ R) ⊢ WP (k ⟨⟩) Q) :
    iprop(ctx xs ws K ∗ ow c 75 ∗ cs c j 75 ∗ sp c j ∗ bk xs ws c j ∗ R)
      ⊢ WP (.op (.waitDma2 (semAt cc0_scratch2 oS bS) src (wbAt od bd) hsrc hdst) k) Q := by
  subst hoS
  refine sent xs ws K c j (by omega) (by omega) (by rw [semAt0]; exact if_neg (by omega)) ?_ h
  unfold pamt; rw [if_neg (by omega), if_neg (by omega), if_pos (by omega)]; rfl

/-! ## The end -/

/-- A closing signal. -/
theorem step_bye (n : ℕ) (h1 : 75 ≤ n) (hn : n < 90) {t : Dev nD} {sem : Sem sig} {k' : ℤ} (ht : t = pdev c n) (hs : sem = endS)
    (hk : k' = ((1 : ℕ) : ℤ)) {k : PUnit → Prog (TpuEff nD τ sig (Elt F) Λ₀ .tc) PUnit} {Q : PUnit → sProp 𝕄} {R : sProp 𝕄}
    (h : iprop(ctx xs ws K ∗ ow c (n + 1) ∗ ds c (n + 1) ∗ R) ⊢ WP (k ⟨⟩) Q) :
    iprop(ctx xs ws K ∗ ow c n ∗ ds c n ∗ R) ⊢ WP (.op (.semSignal (t, Proc.tc) sem k') k) Q := by
  subst ht hs hk
  have hc : pcell c n = ((pdev c n : Thread nD τ), .reg endS) := by
    unfold pcell; rw [if_neg (by omega), if_neg (by omega), if_neg (by omega)]
  have hpd : pduty c n = c := if_neg (by omega)
  unfold ow ds
  rw [pool_head (n := n) (m := 90) (by omega), pool_head (n := n) (m := 90) (by omega)]
  rw [show dstFree (F := F) c n = reached ER (pcell c n) 0 from if_neg (by omega), hpd]
  iintro ⟨#Hc, ⟨⟨%W, HO⟩, Htok, Hts⟩, ⟨Hg, Hgs⟩, HR⟩
  iapply (Rounds.wp_signal 𝒱₀ ER (rd xs ws) (c : Thread nD τ) none (dst := (pdev c n : Thread nD τ)) (sem := endS) (r := 0)
      (d := c) (κ := K (pcell c n)) (k' := 1)
      (by have := duty_p xs ws c n (by omega); rwa [hc, hpd] at this) rfl ()
      (O₀ := owed c n) (owed c (n + 1)) (by
        rw [owed_step c n (by omega), hc]; unfold pamt; rw [if_neg (by omega), if_neg (by omega), if_neg (by omega)])) $$ [HO Htok Hg]
  · isplitr; · rw [← hc]; iapply (ctx_inv xs ws K _ (pcell_mem c n)); iexact Hc
    isplitl [HO]; · iexact HO
    isplitl [Htok]; · rw [← hc]; iexact Htok
    isplitr
    · rw [show (rd xs ws).payload ((pdev c n : Thread nD τ), .reg endS) 0 c = iprop(emp) from rfl]; iempintro
    rw [← hc]; iexact Hg
  iintro HO
  iapply h
  unfold ow ds
  isplitr; · iexact Hc
  isplitl [HO Hts]
  · isplitl [HO]; · iexists W; iexact HO
    iexact Hts
  isplitl [Hgs]; · iexact Hgs
  iexact HR

/-- All the others are done as well. -/
theorem step_end {s : Sem sig} {k' : ℤ} (hs : s = endS) (hk : k' = ((15 : ℕ) : ℤ))
    {k : PUnit → Prog (TpuEff nD τ sig (Elt F) Λ₀ .tc) PUnit} {Q : PUnit → sProp 𝕄} {A R : sProp 𝕄}
    (h : iprop(ctx xs ws K ∗ ow c 90 ∗ R ∗ semVal (endC c) 0) ⊢ WP (k ⟨⟩) Q) :
    iprop(ctx xs ws K ∗ ow c 90 ∗ A ∗ R ∗ cred (tallyAt (endC c) () 15) ∗ atPos ER (endC c) 0 ∅ 0) ⊢ WP (.op (.semWait s k') k) Q := by
  subst hs
  iintro ⟨#Hc, HO, -, HR, Hcr, Hat⟩
  iapply (wait_reg xs ws K c 90 endS (by intro i h1 h2; omega) hk) $$ [HO Hcr Hat]
  · isplitr; · iexact Hc
    isplitl [HO]; · iexact HO
    isplitl [Hcr] <;> iassumption
  iintro ⟨HO, Hz, -⟩
  iapply h
  isplitr; · iexact Hc
  isplitl [HO]; · iexact HO
  isplitl [HR] <;> iassumption

end Cert.Proof
-- ==== Proof.Prod.lean ====
/-
  The arithmetic of a device: its products, gathered in the two halves of its result, and the
  closing scaling.
-/
module

public import proofs.«01_k».proof.Proof.Moves

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Facts₀

variable {F : FTy → Type} [FloatOps F]

local notation "𝕄" => MT nD τ sig Unit (Elt F) ℕ UU ℕ

variable (xs : Dev nD → Vec F S4096x256 .fp8e4m3) (ws : Dev nD → Vec F S2x256x4096 .fp8e5m2)
variable (c : Dev nD)

/-! ## The values -/

/-- What device o's data contributes to c's half r. -/
def part (r : Fin 2) (o : Dev nD) : FVec F S256x4096 .f32 :=
  matmul dot_S256x256_S256x4096_S256x4096_1_0_0_1_n_n none (extf .bf16 (xTile xs c o) bitsLt_fp8e4m3_bf16)
    (extf .bf16 (wTile ws o r) bitsLt_fp8e5m2_bf16) (constant S256x4096 .f32 0x00000000#32)

/-- Half r after h hops. -/
def acc (r : Fin 2) : ℕ → FVec F S256x4096 .f32
  | 0 => part xs ws c r c
  | h + 1 => addf (acc r h) (part xs ws c r (org r (h + 1) c))

/-- Both halves after m products of the hops. -/
def accs (m : ℕ) (r : Fin 2) : FVec F S256x4096 .f32 := acc xs ws c r ((m + 1 - r.val) / 2)

/-- The closing scaling of the sums. -/
def fin (u v : F .f32) (o : FVec F S256x8192 .f32) : FVec F S256x8192 .f32 :=
  divf (mulf o (broadcast S256x8192 (Scalar.mulf u v)))
    (addf (broadcast S256x8192 (Scalar.ofBits .f32 0x3F800000#32))
      (exp (subf (broadcast S256x8192 (Scalar.ofBits .f32 0x00000000#32))
        (minimumf (broadcast S256x8192 (Scalar.ofBits .f32 0x42700000#32))
          (maximumf (broadcast S256x8192 (Scalar.ofBits .f32 0xC2700000#32)) (mulf o (broadcast S256x8192 (Scalar.mulf u v))))))))

/-! ## Two halves side by side -/

/-- Two halves side by side. -/
def join (p : Fin 2 → Vec F S256x4096 .f32) : Vec F S256x8192 .f32 := fun i =>
  p ⟨(i 1).val / 4096, by have h : (i 1).val < 8192 := (i 1).isLt; omega⟩ (ix2 (i 0) ⟨(i 1).val % 4096, Nat.mod_lt _ (by decide)⟩)

theorem half_inb : ∀ (r : Fin 2) (a : Fin 2), (![0, 4096 * r.val] : Fin 2 → ℕ) a + S256x4096.size a ≤ S256x8192.size a := by decide

abbrev halfV (r : Fin 2) : View sig .tc .vmem S256x4096 .f32 :=
  oM.access (Rect.unit (s := S256x8192) ![0, 4096 * r.val] S256x4096.size (half_inb r))

theorem half_emb (r : Fin 2) (a : Fin 256) (b : Fin 4096) :
    (Rect.unit (s := S256x8192) ![0, 4096 * r.val] S256x4096.size (half_inb r)).emb (ix2 a b)
      = ix2 a (⟨4096 * r.val + b.val, by have := b.isLt; have := r.isLt; omega⟩ : Fin 8192) := by
  funext i
  match i with
  | 0 => exact Fin.ext (show 0 + 1 * a.val = a.val by omega)
  | 1 => exact Fin.ext (show 4096 * r.val + 1 * b.val = 4096 * r.val + b.val by omega)

theorem join_ix2 (p : Fin 2 → Vec F S256x4096 .f32) (r : Fin 2) (a : Fin 256) (b : Fin 4096) :
    join p (ix2 a (⟨4096 * r.val + b.val, by have := b.isLt; have := r.isLt; omega⟩ : Fin 8192)) = p r (ix2 a b) := by
  have hb := b.isLt
  refine congr (congrArg p (Fin.ext ?_)) (congrArg (ix2 a) (Fin.ext ?_))
  · show (4096 * r.val + b.val) / 4096 = r.val; omega
  · show (4096 * r.val + b.val) % 4096 = b.val; omega

theorem read_half (p : Fin 2 → Vec F S256x4096 .f32) (r : Fin 2) : (halfV r).read (Elt F) (join p) = p r := by
  funext y
  obtain ⟨a, b, rfl⟩ : ∃ (a : Fin 256) (b : Fin 4096), y = ix2 a b := ⟨y 0, y 1, (ix2_eta y).symm⟩
  show join p ((Rect.unit (s := S256x8192) ![0, 4096 * r.val] S256x4096.size (half_inb r)).emb (ix2 a b)) = _
  rw [half_emb]; exact join_ix2 p r a b

theorem join_halves (f : Vec F S256x8192 .f32) : f = join fun r => (halfV r).read (Elt F) f := by
  funext i
  obtain ⟨a, b, rfl⟩ : ∃ (a : Fin 256) (b : Fin 8192), i = ix2 a b := ⟨i 0, i 1, (ix2_eta i).symm⟩
  have hb := b.isLt
  show f (ix2 a b) = f ((Rect.unit (s := S256x8192) ![0, 4096 * (b.val / 4096)] S256x4096.size _).emb
    (ix2 a (⟨b.val % 4096, _⟩ : Fin 4096)))
  refine (congrArg f ?_).trans (congrArg f (half_emb ⟨b.val / 4096, by omega⟩ a ⟨b.val % 4096, _⟩).symm)
  refine congrArg (ix2 a) (Fin.ext ?_)
  show b.val = 4096 * (b.val / 4096) + b.val % 4096; omega

theorem write_half (p : Fin 2 → Vec F S256x4096 .f32) (r : Fin 2) (w : Vec F S256x4096 .f32) :
    (halfV r).write (Elt F) (join p) w Finset.univ = join (Function.update p r w) := by
  funext i
  obtain ⟨a, b, rfl⟩ : ∃ (a : Fin 256) (b : Fin 8192), i = ix2 a b := ⟨i 0, i 1, (ix2_eta i).symm⟩
  have hb := b.isLt
  by_cases h : b.val / 4096 = r.val
  · have he : ix2 a b = (halfV r).emb (ix2 a (⟨b.val % 4096, Nat.mod_lt _ (by decide)⟩ : Fin 4096)) := by
      refine Eq.trans (congrArg (ix2 a) (Fin.ext ?_)) (half_emb r a ⟨b.val % 4096, Nat.mod_lt _ (by decide)⟩).symm
      show b.val = 4096 * r.val + b.val % 4096; omega
    have hj : join (Function.update p r w) (ix2 a b) = w (ix2 a (⟨b.val % 4096, Nat.mod_lt _ (by decide)⟩ : Fin 4096)) := by
      show Function.update p r w ⟨b.val / 4096, _⟩ (ix2 a _) = _
      rw [show (⟨b.val / 4096, by omega⟩ : Fin 2) = r from Fin.ext h, Function.update_self]
    rw [hj, he, View.write_emb_of_mem _ _ (Finset.mem_univ _)]; rfl
  · have hj : join (Function.update p r w) (ix2 a b) = join p (ix2 a b) := by
      show Function.update p r w ⟨b.val / 4096, _⟩ (ix2 a _) = p ⟨b.val / 4096, _⟩ (ix2 a _)
      rw [Function.update_of_ne (fun h' => h (congrArg Fin.val h'))]
    rw [hj]
    refine View.write_of_not_mem _ _ _ fun hm => h ?_
    obtain ⟨x, -, hx⟩ := Finset.mem_map.mp hm
    obtain ⟨x0, x1, rfl⟩ : ∃ (a : Fin 256) (b : Fin 4096), x = ix2 a b := ⟨x 0, x 1, (ix2_eta x).symm⟩
    have h1 := (half_emb r x0 x1).symm.trans hx
    have h2 : 4096 * r.val + x1.val = b.val := congrArg (fun j : S256x8192.Idx => (j 1).val) h1
    have := x1.isLt
    omega

/-! ## What the loads bring -/

theorem load_tile (r : Fin 2) (o : Dev nD) :
    shapeCast S256x256 ((xtM.access (Rect.unit (s := S2x16x256x256) ![r.val, o.val, 0, 0] S1x1x256x256.size (xt_inb r o))).read (Elt F) (XT xs c))
      shapeCasts_S1x1x256x256_S256x256 = xTile xs c o := read_xtSlot xs c r o
theorem load_block (o : Dev nD) (r : Fin 2) :
    shapeCast S256x4096 ((wbM.access (Rect.unit (s := S16x2x256x4096) ![o.val, r.val, 0, 0] S1x1x256x4096.size (wb_inb o r))).read (Elt F) (WB ws))
      shapeCasts_S1x1x256x4096_S256x4096 = wTile ws o r := read_wbSlot ws o r
theorem load_own_half (o : Dev nD) (r : Fin 2) :
    shapeCast S256x4096 ((wM.access (Rect.unit (s := S2x256x4096) ![r.val, 0, 0] S1x256x4096.size (wr_inb r))).read (Elt F) (ws o))
      shapeCasts_S1x256x4096_S256x4096 = wTile ws o r := read_wHalf ws o r

local notation "WP" => wp frame (wpE (defs₀ (F := F)) 𝒱₀ (c : Thread nD τ) none) Set.univ

/-- The result buffer, whole. -/
def oH (f : Vec F S256x8192 .f32) : sProp 𝕄 := iprop(oM.view.loc (c : Thread nD τ) ↦[Finset.univ]{fullShare} f)

/-- A load that is not used. -/
theorem step_peek {ro : LoadRect S256x8192} {hl : oM.view.LoadsAt ro} {f : Vec F S256x8192 .f32}
    {k : (ro.shape.Idx → Elt F .f32) → Prog (TpuEff nD τ sig (Elt F) Λ₀ .tc) PUnit} {Q : PUnit → sProp 𝕄} {R : sProp 𝕄}
    (h : ∀ x, iprop(oH c f ∗ R) ⊢ WP (k x) Q) : iprop(oH c f ∗ R) ⊢ WP (.op (.load oM ro hl) k) Q := by
  unfold oH at h ⊢
  iintro ⟨Ho, HR⟩
  iapply (wp_load 𝒱₀ (c : Thread nD τ) none Set.univ (m := oM) (S := Finset.univ) (Finset.subset_univ _)) $$ Ho
  iintro Ho
  iapply (h _)
  isplitl [Ho] <;> iassumption

/-- A half is read. -/
theorem step_half (r : Fin 2) {oo : Fin 2 → ℕ} {bo} (ho : oo = ![0, 4096 * r.val]) {hl} {p : Fin 2 → Vec F S256x4096 .f32}
    {k : (S256x4096.Idx → Elt F .f32) → Prog (TpuEff nD τ sig (Elt F) Λ₀ .tc) PUnit} {Q : PUnit → sProp 𝕄} {R : sProp 𝕄}
    (h : iprop(oH c (join p) ∗ R) ⊢ WP (k (p r)) Q) :
    iprop(oH c (join p) ∗ R) ⊢ WP (.op (.load oM (Rect.unit (s := S256x8192) oo S256x4096.size bo).toLoadRect hl) k) Q := by
  subst ho
  rw [← read_half p r] at h
  unfold oH at h ⊢
  iintro ⟨Ho, HR⟩
  iapply (wp_load_rect 𝒱₀ (c : Thread nD τ) none Set.univ (m := oM) (r := Rect.unit (s := S256x8192) ![0, 4096 * r.val] S256x4096.size bo)
    (S := Finset.univ) (q := fullShare) (f := join p) (Finset.subset_univ _)) $$ Ho
  iintro Ho
  iapply h
  isplitl [Ho] <;> iassumption

/-- A half is written. -/
theorem step_put (r : Fin 2) {oo : Fin 2 → ℕ} {bo} (ho : oo = ![0, 4096 * r.val]) {hx hm} {p : Fin 2 → Vec F S256x4096 .f32}
    {w : S256x4096.Idx → Elt F .f32}
    {k : PUnit → Prog (TpuEff nD τ sig (Elt F) Λ₀ .tc) PUnit} {Q : PUnit → sProp 𝕄} {R : sProp 𝕄}
    (h : iprop(oH c (join (Function.update p r w)) ∗ R) ⊢ WP (k ⟨⟩) Q) :
    iprop(oH c (join p) ∗ R) ⊢ WP (.op (.store oM (Rect.unit (s := S256x8192) oo S256x4096.size bo) w Finset.univ hx hm) k) Q := by
  subst ho
  rw [← write_half p r] at h
  unfold oH at h ⊢
  iintro ⟨Ho, HR⟩
  iapply (wp_store 𝒱₀ (c : Thread nD τ) none Set.univ (m := oM) (r := Rect.unit (s := S256x8192) ![0, 4096 * r.val] S256x4096.size bo)
    (S := Finset.univ) (f := join p) (Finset.subset_univ _)) $$ Ho
  iintro Ho
  iapply h
  isplitl [Ho] <;> iassumption

/-- An arrival already taken, apart from the others. -/
theorem gt_take {a i : ℕ} (h : i < a) :
    gt xs ws c a = iprop((kept xs ws c i ∗ semVal (rcell c i) 0) ∗ bigSep ((Finset.Ico 0 a).erase i) fun i => iprop(kept xs ws c i ∗ semVal (rcell c i) 0)) :=
  bigSep_erase (Finset.mem_Ico.2 ⟨Nat.zero_le i, h⟩)

/-- A tile taken is read. -/
theorem step_ldx {a i : ℕ} (h1 : i < a) (h2 : 2 ≤ i % 4) {od : Fin 4 → ℕ} (hod : od = ![(rr i).val, (rorg c i).val, 0, 0]) {bd hl}
    {k : (S1x1x256x256.Idx → Elt F .fp8e4m3) → Prog (TpuEff nD τ sig (Elt F) Λ₀ .tc) PUnit} {Q : PUnit → sProp 𝕄} {A B C R : sProp 𝕄}
    (h : iprop(A ∗ B ∗ C ∗ gt xs ws c a ∗ R) ⊢ WP (k ((xtM.access (Rect.unit (s := S2x16x256x256) ![(rr i).val, (rorg c i).val, 0, 0]
      S1x1x256x256.size (xt_inb (rr i) (rorg c i)))).read (Elt F) (XT xs c))) Q) :
    iprop(A ∗ B ∗ C ∗ gt xs ws c a ∗ R)
      ⊢ WP (.op (.load xtM (Rect.unit (s := S2x16x256x256) od S1x1x256x256.size bd).toLoadRect hl) k) Q := by
  subst hod
  have hk : kept xs ws c i = xtHeld xs c (rorg c i) (rr i) fullShare := by
    unfold kept got; rw [if_neg (by omega), if_neg (by omega)]
  rw [gt_take xs ws c h1, hk] at h ⊢
  unfold xtHeld at h ⊢
  iintro ⟨HA, HB, HC, ⟨⟨Hx, Hz⟩, Hg⟩, HR⟩
  iapply (wp_load_rect 𝒱₀ (c : Thread nD τ) none Set.univ (m := xtM)
    (r := Rect.unit (s := S2x16x256x256) ![(rr i).val, (rorg c i).val, 0, 0] S1x1x256x256.size bd)
    (S := (xtSlot (rr i) (rorg c i)).view.set) (q := fullShare) (f := XT xs c) (by rw [View.set_reshape])) $$ Hx
  iintro Hx
  iapply h
  isplitl [HA]; · iexact HA
  isplitl [HB]; · iexact HB
  isplitl [HC]; · iexact HC
  isplitl [Hx Hz Hg]
  · isplitl [Hx Hz]; · isplitl [Hx] <;> iassumption
    iexact Hg
  iexact HR

/-- Weights taken are read. -/
theorem step_ldw {a i : ℕ} (h1 : i < a) (h2 : i % 4 < 2) {od : Fin 4 → ℕ} (hod : od = ![(rorg c i).val, (rr i).val, 0, 0]) {bd hl}
    {k : (S1x1x256x4096.Idx → Elt F .fp8e5m2) → Prog (TpuEff nD τ sig (Elt F) Λ₀ .tc) PUnit} {Q : PUnit → sProp 𝕄} {A B C R : sProp 𝕄}
    (h : iprop(A ∗ B ∗ C ∗ gt xs ws c a ∗ R) ⊢ WP (k ((wbM.access (Rect.unit (s := S16x2x256x4096) ![(rorg c i).val, (rr i).val, 0, 0]
      S1x1x256x4096.size (wb_inb (rorg c i) (rr i)))).read (Elt F) (WB ws))) Q) :
    iprop(A ∗ B ∗ C ∗ gt xs ws c a ∗ R)
      ⊢ WP (.op (.load wbM (Rect.unit (s := S16x2x256x4096) od S1x1x256x4096.size bd).toLoadRect hl) k) Q := by
  subst hod
  obtain ⟨q, hk⟩ : ∃ q, kept xs ws c i = wbHeld ws c (rorg c i) (rr i) q := by
    by_cases h' : i < 56
    · exact ⟨_, if_pos ⟨h2, h'⟩⟩
    · exact ⟨fullShare, by unfold kept got; rw [if_neg (by omega), if_pos h2]⟩
  rw [gt_take xs ws c h1, hk] at h ⊢
  unfold wbHeld at h ⊢
  iintro ⟨HA, HB, HC, ⟨⟨Hx, Hz⟩, Hg⟩, HR⟩
  iapply (wp_load_rect 𝒱₀ (c : Thread nD τ) none Set.univ (m := wbM)
    (r := Rect.unit (s := S16x2x256x4096) ![(rorg c i).val, (rr i).val, 0, 0] S1x1x256x4096.size bd)
    (S := (wbSlot (rorg c i) (rr i)).view.set) (q := q) (f := WB ws) (by rw [View.set_reshape])) $$ Hx
  iintro Hx
  iapply h
  isplitl [HA]; · iexact HA
  isplitl [HB]; · iexact HB
  isplitl [HC]; · iexact HC
  isplitl [Hx Hz Hg]
  · isplitl [Hx Hz]; · isplitl [Hx] <;> iassumption
    iexact Hg
  iexact HR

theorem accs_step (m : ℕ) (r : Fin 2) (hr : m % 2 = r.val) :
    Function.update (accs xs ws c m) r (addf (accs xs ws c m r) (part xs ws c r (org r (m / 2 + 1) c))) = accs xs ws c (m + 1) := by
  funext r'
  by_cases h : r' = r
  · subst h
    rw [Function.update_self]
    unfold accs
    rw [show (m + 1 - r'.val) / 2 = m / 2 by omega, show (m + 1 + 1 - r'.val) / 2 = m / 2 + 1 by omega]; rfl
  · rw [Function.update_of_ne h]
    have h' : r'.val ≠ r.val := fun e => h (Fin.ext e)
    unfold accs
    rw [show (m + 1 + 1 - r'.val) / 2 = (m + 1 - r'.val) / 2 by omega]

theorem oh_front (A B C D E G H O R : sProp 𝕄) :
    iprop(A ∗ B ∗ C ∗ D ∗ E ∗ G ∗ H ∗ O ∗ R) ⊣⊢ iprop(O ∗ A ∗ B ∗ C ∗ D ∗ E ∗ G ∗ H ∗ R) := by
  constructor
  · iintro ⟨HA, HB, HC, HD, HE, HG, HH, HO, HR⟩; iframe
  · iintro ⟨HO, HA, HB, HC, HD, HE, HG, HH, HR⟩; iframe

/-- One product of a hop, added to its half of the result. -/
theorem step_prod (m a : ℕ) (r : Fin 2) (hr : m % 2 = r.val) (ha : 4 * (m / 2) + 2 + r.val < a)
    {ox ow' : Fin 4 → ℕ} {oo oo' oo'' : Fin 2 → ℕ} {bx bw bo bo' bo'' hlx hlw hlo hlo' hx hm}
    (hox : ox = ![r.val, (rorg c (4 * (m / 2) + 2 + r.val)).val, 0, 0]) (how : ow' = ![(rorg c (4 * (m / 2) + r.val)).val, r.val, 0, 0])
    (ho : oo = ![0, 4096 * r.val]) (ho'' : oo'' = ![0, 4096 * r.val])
    {k : PUnit → Prog (TpuEff nD τ sig (Elt F) Λ₀ .tc) PUnit} {Q : PUnit → sProp 𝕄} {A B C D E G R : sProp 𝕄}
    (h : iprop(A ∗ B ∗ C ∗ gt xs ws c a ∗ D ∗ E ∗ G ∗ oH c (join (accs xs ws c (m + 1))) ∗ R) ⊢ WP (k ⟨⟩) Q) :
    iprop(A ∗ B ∗ C ∗ gt xs ws c a ∗ D ∗ E ∗ G ∗ oH c (join (accs xs ws c m)) ∗ R)
      ⊢ WP (.op (.load xtM (Rect.unit (s := S2x16x256x256) ox S1x1x256x256.size bx).toLoadRect hlx) fun v1 =>
          .op (.load wbM (Rect.unit (s := S16x2x256x4096) ow' S1x1x256x4096.size bw).toLoadRect hlw) fun v2 =>
          .op (.load oM (Rect.unit (s := S256x8192) oo S256x4096.size bo).toLoadRect hlo) fun v3 =>
          .op (.load oM (Rect.unit (s := S256x8192) oo' S256x4096.size bo').toLoadRect hlo') fun _ =>
          .op (.store oM (Rect.unit (s := S256x8192) oo'' S256x4096.size bo'')
            (addf (shapeCast S256x4096 v3 shapeCasts_S256x4096_S256x4096)
              (matmul dot_S256x256_S256x4096_S256x4096_1_0_0_1_n_n none
                (extf .bf16 (shapeCast S256x256 v1 shapeCasts_S1x1x256x256_S256x256) bitsLt_fp8e4m3_bf16)
                (extf .bf16 (shapeCast S256x4096 v2 shapeCasts_S1x1x256x4096_S256x4096) bitsLt_fp8e5m2_bf16)
                (constant S256x4096 .f32 0x00000000#32))) Finset.univ hx hm) k) Q := by
  have e1 : rr (4 * (m / 2) + 2 + r.val) = r := Fin.ext (show (4 * (m / 2) + 2 + r.val) % 2 = r.val by omega)
  have e2 : rr (4 * (m / 2) + r.val) = r := Fin.ext (show (4 * (m / 2) + r.val) % 2 = r.val by omega)
  have e3 : rorg c (4 * (m / 2) + 2 + r.val) = org r (m / 2 + 1) c := by
    unfold rorg; rw [e1, show (4 * (m / 2) + 2 + r.val) / 4 = m / 2 by omega]
  have e4 : rorg c (4 * (m / 2) + r.val) = org r (m / 2 + 1) c := by
    unfold rorg; rw [e2, show (4 * (m / 2) + r.val) / 4 = m / 2 by omega]
  refine step_ldx xs ws c ha (by omega) (by rw [e1]; exact hox) ?_
  refine step_ldw xs ws c (i := 4 * (m / 2) + r.val) (by omega) (by omega) (by rw [e2]; exact how) ?_
  rw [load_tile, load_block, e2, e3, e4]
  refine (oh_front _ _ _ _ _ _ _ _ _).1.trans ?_
  refine step_half c r ho ?_
  refine step_peek c fun _ => ?_
  refine step_put c r ho'' ?_
  rw [shapeCast_self]
  refine BI.Entails.trans ?_ h
  refine (oh_front _ _ _ _ _ _ _ _ _).2.trans (ent ?_)
  rw [← accs_step xs ws c m r hr]; rfl

/-- A half of the own weights is read. -/
theorem step_ldh (r : Fin 2) {oo : Fin 3 → ℕ} (ho : oo = ![r.val, 0, 0]) {bd hl} {q : PosShare TreeShare}
    {k : (S1x256x4096.Idx → Elt F .fp8e5m2) → Prog (TpuEff nD τ sig (Elt F) Λ₀ .tc) PUnit} {Q : PUnit → sProp 𝕄} {A R : sProp 𝕄}
    (h : iprop(A ∗ whHeld ws c r q ∗ R) ⊢ WP (k ((wM.access (Rect.unit (s := S2x256x4096) ![r.val, 0, 0]
      S1x256x4096.size (wr_inb r))).read (Elt F) (ws c))) Q) :
    iprop(A ∗ whHeld ws c r q ∗ R)
      ⊢ WP (.op (.load wM (Rect.unit (s := S2x256x4096) oo S1x256x4096.size bd).toLoadRect hl) k) Q := by
  subst ho
  unfold whHeld at h ⊢
  iintro ⟨HA, Hx, HR⟩
  iapply (wp_load_rect 𝒱₀ (c : Thread nD τ) none Set.univ (m := wM)
    (r := Rect.unit (s := S2x256x4096) ![r.val, 0, 0] S1x256x4096.size bd)
    (S := (wHalf r).view.set) (q := q) (f := ws c) (by rw [View.set_reshape])) $$ Hx
  iintro Hx
  iapply h
  isplitl [HA]; · iexact HA
  isplitl [Hx] <;> iassumption

/-- The own rows of x are read. -/
theorem step_ldo {oo : Fin 2 → ℕ} (ho : oo = ![c.val * 256, 0]) {bd hl} {q : PosShare TreeShare}
    {k : (S256x256.Idx → Elt F .fp8e4m3) → Prog (TpuEff nD τ sig (Elt F) Λ₀ .tc) PUnit} {Q : PUnit → sProp 𝕄} {A R : sProp 𝕄}
    (h : iprop(A ∗ xbHeld xs c c q ∗ R) ⊢ WP (k (xTile xs c c)) Q) :
    iprop(A ∗ xbHeld xs c c q ∗ R)
      ⊢ WP (.op (.load xM (Rect.unit (s := S4096x256) oo S256x256.size bd).toLoadRect hl) k) Q := by
  subst ho
  rw [← read_xBlk xs c c] at h
  unfold xbHeld at h ⊢
  iintro ⟨HA, Hx, HR⟩
  iapply (wp_load_rect 𝒱₀ (c : Thread nD τ) none Set.univ (m := xM)
    (r := Rect.unit (s := S4096x256) ![c.val * 256, 0] S256x256.size bd)
    (S := (xBlk c).view.set) (q := q) (f := xs c) (Finset.Subset.refl _)) $$ Hx
  iintro Hx
  iapply h
  isplitl [HA]; · iexact HA
  isplitl [Hx] <;> iassumption

theorem accs_zero (p : Fin 2 → Vec F S256x4096 .f32) :
    Function.update (Function.update p 0 (part xs ws c 0 c)) 1 (part xs ws c 1 c) = accs xs ws c 0 := by
  funext r
  match r with
  | 0 => rw [Function.update_of_ne (by decide), Function.update_self]; rfl
  | 1 => rw [Function.update_self]; rfl

/-- The product of the own data. -/
theorem step_own {f : Vec F S256x8192 .f32} {q0 q1 qx : PosShare TreeShare}
    {oxo : Fin 2 → ℕ} {ow0 ow1 : Fin 3 → ℕ} {o0 o0' o1 o1' : Fin 2 → ℕ} {bx b0 b1 b2 b3 b4 b5 hl1 hl2 hl3 hl4 hl5 hx hm hx' hm'}
    (hox : oxo = ![c.val * 256, 0]) (how0 : ow0 = ![0, 0, 0]) (how1 : ow1 = ![1, 0, 0]) (ho0 : o0' = ![0, 0]) (ho1 : o1' = ![0, 4096])
    {k : PUnit → Prog (TpuEff nD τ sig (Elt F) Λ₀ .tc) PUnit} {Q : PUnit → sProp 𝕄} {R : sProp 𝕄}
    (h : iprop(oH c (join (accs xs ws c 0)) ∗ xbHeld xs c c qx ∗ whHeld ws c 0 q0 ∗ whHeld ws c 1 q1 ∗ R) ⊢ WP (k ⟨⟩) Q) :
    iprop(oH c f ∗ xbHeld xs c c qx ∗ whHeld ws c 0 q0 ∗ whHeld ws c 1 q1 ∗ R)
      ⊢ WP (.op (.load xM (Rect.unit (s := S4096x256) oxo S256x256.size bx).toLoadRect hl1) fun v1 =>
          .op (.load wM (Rect.unit (s := S2x256x4096) ow0 S1x256x4096.size b0).toLoadRect hl2) fun v2 =>
          .op (.load oM (Rect.unit (s := S256x8192) o0 S256x4096.size b1).toLoadRect hl3) fun _ =>
          .op (.store oM (Rect.unit (s := S256x8192) o0' S256x4096.size b2)
            (matmul dot_S256x256_S256x4096_S256x4096_1_0_0_1_n_n none
                (extf .bf16 (shapeCast S256x256 v1 shapeCasts_S256x256_S256x256) bitsLt_fp8e4m3_bf16)
                (extf .bf16 (shapeCast S256x4096 v2 shapeCasts_S1x256x4096_S256x4096) bitsLt_fp8e5m2_bf16)
                (constant S256x4096 .f32 0x00000000#32)) Finset.univ hx hm) fun _ =>
          .op (.load wM (Rect.unit (s := S2x256x4096) ow1 S1x256x4096.size b3).toLoadRect hl4) fun v2 =>
          .op (.load oM (Rect.unit (s := S256x8192) o1 S256x4096.size b4).toLoadRect hl5) fun _ =>
          .op (.store oM (Rect.unit (s := S256x8192) o1' S256x4096.size b5)
            (matmul dot_S256x256_S256x4096_S256x4096_1_0_0_1_n_n none
                (extf .bf16 (shapeCast S256x256 v1 shapeCasts_S256x256_S256x256) bitsLt_fp8e4m3_bf16)
                (extf .bf16 (shapeCast S256x4096 v2 shapeCasts_S1x256x4096_S256x4096) bitsLt_fp8e5m2_bf16)
                (constant S256x4096 .f32 0x00000000#32)) Finset.univ hx' hm') k) Q := by
  rw [join_halves f]
  refine step_ldo xs c hox ?_
  rw [shapeCast_self]
  refine (show _ ⊢ iprop(oH c (join fun r => (halfV r).read (Elt F) f) ∗ whHeld ws c 0 q0 ∗ (xbHeld xs c c qx ∗ whHeld ws c 1 q1 ∗ R)) by
    iintro ⟨Ho, Hx, H0, H1, HR⟩; iframe).trans ?_
  refine step_ldh ws c 0 how0 ?_
  rw [load_own_half]
  refine step_peek c fun _ => ?_
  refine step_put c 0 ho0 ?_
  refine (show _ ⊢ iprop(oH c (join (Function.update (fun r => (halfV r).read (Elt F) f) 0 (part xs ws c 0 c)))
      ∗ whHeld ws c 1 q1 ∗ (xbHeld xs c c qx ∗ whHeld ws c 0 q0 ∗ R)) by
    iintro ⟨Ho, H0, Hx, H1, HR⟩
    isplitl [Ho]; · iexact Ho
    iframe).trans ?_
  refine step_ldh ws c 1 how1 ?_
  rw [load_own_half]
  refine step_peek c fun _ => ?_
  refine step_put c 1 ho1 ?_
  rw [← accs_zero xs ws c fun r => (halfV r).read (Elt F) f] at h
  refine (?_ : _ ⊢ _).trans h
  iintro ⟨Ho, H1, Hx, H0, HR⟩
  isplitl [Ho]; · iexact Ho
  iframe

/-! ## The closing scaling -/

/-- The scale factors, each in its place. -/
def uH (su : Dev nD → Vec F S1 .f32) (q : PosShare TreeShare) : sProp 𝕄 := iprop(uM.view.loc (c : Thread nD τ) ↦[Finset.univ]{q} (su c))
def vH (sv : Dev nD → Vec F S1 .f32) (q : PosShare TreeShare) : sProp 𝕄 := iprop(vM.view.loc (c : Thread nD τ) ↦[Finset.univ]{q} (sv c))

theorem one_idx (i j : S1.Idx) : i = j := by
  funext a
  match a with
  | 0 => exact Fin.ext (by
      have h1 : (i 0).val < 1 := (i 0).isLt
      have h2 : (j 0).val < 1 := (j 0).isLt
      omega)

theorem step_ldu {su : Dev nD → Vec F S1 .f32} {q : PosShare TreeShare} {o1 : Fin 1 → ℕ} {b1 hl}
    {k : (S1.Idx → Elt F .f32) → Prog (TpuEff nD τ sig (Elt F) Λ₀ .tc) PUnit} {Q : PUnit → sProp 𝕄} {A R : sProp 𝕄}
    (h : iprop(A ∗ uH c su q ∗ R) ⊢ WP (k fun _ => su c (ix1 0)) Q) :
    iprop(A ∗ uH c su q ∗ R) ⊢ WP (.op (.load uM (Rect.unit (s := S1) o1 S1.size b1).toLoadRect hl) k) Q := by
  have h' : iprop(A ∗ uH c su q ∗ R) ⊢ WP (k ((uM.access (Rect.unit (s := S1) o1 S1.size b1)).read (Elt F) (su c))) Q :=
    (congrArg k (funext fun _ => congrArg (su c) (one_idx _ _))) ▸ h
  unfold uH at h' ⊢
  iintro ⟨HA, Hx, HR⟩
  iapply (wp_load_rect 𝒱₀ (c : Thread nD τ) none Set.univ (m := uM) (r := Rect.unit (s := S1) o1 S1.size b1)
    (S := Finset.univ) (q := q) (f := su c) (Finset.subset_univ _)) $$ Hx
  iintro Hx
  iapply h'
  isplitl [HA]; · iexact HA
  isplitl [Hx] <;> iassumption

theorem step_ldv {sv : Dev nD → Vec F S1 .f32} {q : PosShare TreeShare} {o1 : Fin 1 → ℕ} {b1 hl}
    {k : (S1.Idx → Elt F .f32) → Prog (TpuEff nD τ sig (Elt F) Λ₀ .tc) PUnit} {Q : PUnit → sProp 𝕄} {A R : sProp 𝕄}
    (h : iprop(A ∗ vH c sv q ∗ R) ⊢ WP (k fun _ => sv c (ix1 0)) Q) :
    iprop(A ∗ vH c sv q ∗ R) ⊢ WP (.op (.load vM (Rect.unit (s := S1) o1 S1.size b1).toLoadRect hl) k) Q := by
  have h' : iprop(A ∗ vH c sv q ∗ R) ⊢ WP (k ((vM.access (Rect.unit (s := S1) o1 S1.size b1)).read (Elt F) (sv c))) Q :=
    (congrArg k (funext fun _ => congrArg (sv c) (one_idx _ _))) ▸ h
  unfold vH at h' ⊢
  iintro ⟨HA, Hx, HR⟩
  iapply (wp_load_rect 𝒱₀ (c : Thread nD τ) none Set.univ (m := vM) (r := Rect.unit (s := S1) o1 S1.size b1)
    (S := Finset.univ) (q := q) (f := sv c) (Finset.subset_univ _)) $$ Hx
  iintro Hx
  iapply h'
  isplitl [HA]; · iexact HA
  isplitl [Hx] <;> iassumption

theorem all_emb {bo} (i : S256x8192.Idx) : (Rect.unit (s := S256x8192) ![0, 0] S256x8192.size bo).emb i = i := by
  funext a
  match a with
  | 0 => exact Fin.ext (show 0 + 1 * (i 0).val = (i 0).val by omega)
  | 1 => exact Fin.ext (show 0 + 1 * (i 1).val = (i 1).val by omega)

theorem read_all {bo} (f : Vec F S256x8192 .f32) :
    (oM.access (Rect.unit (s := S256x8192) ![0, 0] S256x8192.size bo)).read (Elt F) f = f := by
  funext i; exact congrArg f (all_emb i)

theorem write_all {bo} (f w : Vec F S256x8192 .f32) :
    (oM.access (Rect.unit (s := S256x8192) ![0, 0] S256x8192.size bo)).write (Elt F) f w Finset.univ = w := by
  funext i
  refine (congrArg ((oM.access (Rect.unit (s := S256x8192) ![0, 0] S256x8192.size bo)).write (Elt F) f w Finset.univ) (all_emb (bo := bo) i).symm).trans ?_
  exact View.write_emb_of_mem (v := oM.access (Rect.unit (s := S256x8192) ![0, 0] S256x8192.size bo)) f w (Finset.mem_univ i)

theorem step_fin {su sv : Dev nD → Vec F S1 .f32} {qu qv : PosShare TreeShare} {f : Vec F S256x8192 .f32}
    {o1 o2 : Fin 1 → ℕ} {o3 o4 o5 : Fin 2 → ℕ} {b1 b2 b3 b4 b5 hl1 hl2 hl3 hl4 hx hm x1 x2} (ho3 : o3 = ![0, 0]) (ho5 : o5 = ![0, 0])
    {k : PUnit → Prog (TpuEff nD τ sig (Elt F) Λ₀ .tc) PUnit} {Q : PUnit → sProp 𝕄} {R : sProp 𝕄}
    (h : iprop(oH c (fin (su c (ix1 0)) (sv c (ix1 0)) f) ∗ uH c su qu ∗ vH c sv qv ∗ R) ⊢ WP (k ⟨⟩) Q) :
    iprop(oH c f ∗ uH c su qu ∗ vH c sv qv ∗ R)
      ⊢ WP (.op (.load uM (Rect.unit (s := S1) o1 S1.size b1).toLoadRect hl1) fun u =>
          .op (.load vM (Rect.unit (s := S1) o2 S1.size b2).toLoadRect hl2) fun v =>
          .op (.load oM (Rect.unit (s := S256x8192) o3 S256x8192.size b3).toLoadRect hl3) fun o =>
          .op (.load oM (Rect.unit (s := S256x8192) o4 S256x8192.size b4).toLoadRect hl4) fun _ =>
          .op (.store oM (Rect.unit (s := S256x8192) o5 S256x8192.size b5)
            (fin (u x1) (v x2) (shapeCast S256x8192 o shapeCasts_S256x8192_S256x8192)) Finset.univ hx hm) k) Q := by
  subst ho3 ho5
  refine step_ldu c ?_
  refine (show _ ⊢ iprop(oH c f ∗ vH c sv qv ∗ (uH c su qu ∗ R)) by iintro ⟨Ho, Hu, Hv, HR⟩; iframe).trans ?_
  refine step_ldv c ?_
  refine (show iprop(oH c f ∗ vH c sv qv ∗ (uH c su qu ∗ R)) ⊢ iprop(oH c f ∗ uH c su qu ∗ vH c sv qv ∗ R) by
    iintro ⟨Ho, Hv, Hu, HR⟩; iframe).trans ?_
  unfold oH at h ⊢
  iintro ⟨Ho, HR⟩
  iapply (wp_load_rect 𝒱₀ (c : Thread nD τ) none Set.univ (m := oM) (r := Rect.unit (s := S256x8192) ![0, 0] S256x8192.size b3)
    (S := Finset.univ) (q := fullShare) (f := f) (Finset.subset_univ _)) $$ Ho
  iintro Ho
  iapply (wp_load 𝒱₀ (c : Thread nD τ) none Set.univ (m := oM) (S := Finset.univ) (Finset.subset_univ _)) $$ Ho
  iintro Ho
  iapply (wp_store 𝒱₀ (c : Thread nD τ) none Set.univ (m := oM) (r := Rect.unit (s := S256x8192) ![0, 0] S256x8192.size b5)
    (S := Finset.univ) (f := f) (Finset.subset_univ _)) $$ Ho
  iintro Ho
  have hw : (oM.access (Rect.unit (s := S256x8192) ![0, 0] S256x8192.size b5)).write (Elt F) f
      (fin (su c (ix1 0)) (sv c (ix1 0)) (shapeCast S256x8192
        ((oM.access (Rect.unit (s := S256x8192) ![0, 0] S256x8192.size b3)).read (Elt F) f) shapeCasts_S256x8192_S256x8192)) Finset.univ
      = fin (su c (ix1 0)) (sv c (ix1 0)) f := by
    rw [write_all, read_all]; exact congrArg (fin _ _) (shapeCast_self f _)
  iapply h
  isplitl [Ho]; · iapply (ent (congrArg (fun g => iprop(oM.view.loc (c : Thread nD τ) ↦[Finset.univ]{fullShare} g)) hw)); iexact Ho
  iexact HR

end Cert.Proof
-- ==== Proof.Body.lean ====
/-
  The whole program of a device, move by move.
-/
module

public import proofs.«01_k».proof.Proof.Prod

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Facts₀

variable {F : FTy → Type} [FloatOps F]

local notation "𝕄" => MT nD τ sig Unit (Elt F) ℕ UU ℕ

variable (xs : Dev nD → Vec F S4096x256 .fp8e4m3) (ws : Dev nD → Vec F S2x256x4096 .fp8e5m2) (su sv : Dev nD → Vec F S1 .f32)
variable (K : GSem nD τ sig → ℕ) (c : Dev nD)

local notation "WP" => wp frame (wpE (defs₀ (F := F)) 𝒱₀ (c : Thread nD τ) none) Set.univ

/-- What a device's own product reads. -/
def own : sProp 𝕄 := iprop(xbHeld xs c c fullShare ∗ whHeld ws c 0 fullShare.right ∗ whHeld ws c 1 fullShare.right)
/-- What waits for the end. -/
def tail : sProp 𝕄 := iprop(cred (tallyAt (endC c) () 15) ∗ atPos ER (endC c) 0 ∅ 0)

/-- What a device starts from. -/
def pre (f : Vec F S256x8192 .f32) : sProp 𝕄 :=
  iprop(ctx xs ws K ∗ ow c 0 ∗ gv c 0
    ∗ (tk c 15 ∗ cs c 15 15 ∗ sr xs ws c 15 ∗ rp c 0 ∗ gt xs ws c 0 ∗ sp c 15 ∗ bk xs ws c 15 ∗ oH c f ∗ uH c su fullShare ∗ vH c sv fullShare
        ∗ own xs ws c ∗ tail c)
    ∗ cred (tallyAt (barC c) () 15) ∗ atPos ER (barC c) 0 ∅ 0)

/-- What a device computes. -/
def result : Vec F S256x8192 .f32 := fin (su c (ix1 0)) (sv c (ix1 0)) (join fun r => acc xs ws c r 15)

/-- What a device ends with. -/
def post : sProp 𝕄 :=
  iprop(ctx xs ws K ∗ ow c 90
    ∗ (bk xs ws c 75 ∗ gt xs ws c 60 ∗ oH c (result xs ws su sv c) ∗ uH c su fullShare ∗ vH c sv fullShare ∗ own xs ws c ∗ semVal (barC c) 0)
    ∗ semVal (endC c) 0)

theorem accs_end : accs xs ws c 30 = fun r => acc xs ws c r 15 := by
  funext r
  unfold accs
  rw [show (30 + 1 - r.val) / 2 = 15 by omega]

theorem body (f : Vec F S256x8192 .f32) :
    pre xs ws su sv K c f ⊢ WP (cc0_body (F := F) xM (Memref.isWhole_whole _) wM (Memref.isWhole_whole _) uM (Memref.isWhole_whole _)
      vM (Memref.isWhole_whole _) oM (Memref.isWhole_whole _) wbM (Memref.isWhole_whole _) xtM (Memref.isWhole_whole _)
      cc0_scratch2 cc0_scratch3 cc0_scratch4 cc0_scratch5 cc0_scoped0) (fun _ => post xs ws su sv K c) := by
  unfold pre own tail
  refine step_dev c ?_
  iterate 15 (refine step_sig xs ws K c _ (by decide) (by revert c; decide +kernel) rfl rfl ?_)
  refine step_bar xs ws K c rfl rfl ?_
  refine (show _ ⊢ iprop(ctx xs ws K ∗ ow c 15 ∗ ds c 15 ∗ tk c 15 ∗ cs c 15 15 ∗ sr xs ws c 15 ∗ (rp c 0 ∗ gt xs ws c 0 ∗ sp c 15 ∗ bk xs ws c 15 ∗ oH c f ∗ uH c su fullShare ∗ vH c sv fullShare
        ∗ own xs ws c ∗ tail c ∗ semVal (barC c) 0)) by
    unfold own tail
    iintro ⟨H1, H2, H3, ⟨H4, H5, H6, H7, H8, H9, H10, H11, H12, H13, H14, H15⟩, H16⟩
    iframe).trans ?_
  iterate 30
    refine step_x xs ws K c _ (by decide) (by decide) (by revert c; decide +kernel) (by revert c; decide +kernel)
      (by revert c; decide +kernel) (by revert c; decide +kernel) (by revert c; decide +kernel) ?_
  iterate 2
    refine step_w xs ws K c _ (by decide) (by decide) (by revert c; decide +kernel) rfl
      (by revert c; decide +kernel) (by revert c; decide +kernel) (by revert c; decide +kernel) ?_
  refine (show _ ⊢ iprop(oH c f ∗ xbHeld xs c c fullShare ∗ whHeld ws c 0 fullShare.right ∗ whHeld ws c 1 fullShare.right
      ∗ (ctx xs ws K ∗ ow c 47 ∗ rp c 0 ∗ gt xs ws c 0 ∗ ds c 47 ∗ tk c 47 ∗ cs c 15 47
        ∗ (sp c 15 ∗ bk xs ws c 15 ∗ uH c su fullShare ∗ vH c sv fullShare ∗ tail c ∗ semVal (barC c) 0))) by
    unfold own tail
    iintro ⟨H1, H2, H3, H4, H5, H6, H7, H8, H9, H10, H11, H12, H13, ⟨H14, H15, H16⟩, H17, H18⟩
    iframe).trans ?_
  refine step_own xs ws c (by revert c; decide +kernel) rfl rfl rfl rfl ?_
  refine (show _ ⊢ iprop(ctx xs ws K ∗ ow c 47 ∗ rp c 0 ∗ gt xs ws c 0 ∗ ds c 47 ∗ tk c 47 ∗ cs c 15 47 ∗ oH c (join (accs xs ws c 0))
        ∗ (own xs ws c ∗ sp c 15 ∗ bk xs ws c 15 ∗ uH c su fullShare ∗ vH c sv fullShare ∗ tail c ∗ semVal (barC c) 0)) by
    unfold own
    iintro ⟨H1, H2, H3, H4, H5, H6, H7, H8, H9, H10, H11, H12⟩
    iframe).trans ?_
  iterate 14
    iterate 2
      refine step_relay xs ws K c _ _ (by decide) (by decide) (by decide) (by revert c; decide +kernel) (by revert c; decide +kernel)
        (by revert c; decide +kernel) (by revert c; decide +kernel) (by revert c; decide +kernel) (by revert c; decide +kernel) ?_
    refine step_tile xs ws K c _ _ (by decide) (by decide) (by decide) (by revert c; decide +kernel) ?_
    refine step_prod xs ws c _ _ 0 (by decide) (by decide) (by revert c; decide +kernel) (by revert c; decide +kernel) rfl rfl ?_
    refine step_tile xs ws K c _ _ (by decide) (by decide) (by decide) (by revert c; decide +kernel) ?_
    refine step_prod xs ws c _ _ 1 (by decide) (by decide) (by revert c; decide +kernel) (by revert c; decide +kernel) rfl rfl ?_
  iterate 2
    refine step_last xs ws K c _ (by decide) (by decide) (by revert c; decide +kernel) ?_
  refine step_tile xs ws K c _ _ (by decide) (by decide) (by decide) (by revert c; decide +kernel) ?_
  refine step_prod xs ws c _ _ 0 (by decide) (by decide) (by revert c; decide +kernel) (by revert c; decide +kernel) rfl rfl ?_
  refine step_tile xs ws K c _ _ (by decide) (by decide) (by decide) (by revert c; decide +kernel) ?_
  refine step_prod xs ws c _ _ 1 (by decide) (by decide) (by revert c; decide +kernel) (by revert c; decide +kernel) rfl rfl ?_
  refine (show _ ⊢ iprop(oH c (join fun r => acc xs ws c r 15) ∗ uH c su fullShare ∗ vH c sv fullShare
        ∗ (ctx xs ws K ∗ ow c 75 ∗ gt xs ws c 60 ∗ ds c 75 ∗ cs c 15 75 ∗ sp c 15 ∗ bk xs ws c 15 ∗ own xs ws c ∗ tail c ∗ semVal (barC c) 0)) by
    rw [accs_end]
    iintro ⟨H1, H2, H3, H4, H5, H6, H7, H8, H9, H10, H11, H12, H13, H14, H15⟩
    iframe).trans ?_
  refine step_fin c rfl rfl ?_
  refine (show _ ⊢ iprop(ctx xs ws K ∗ ow c 75 ∗ cs c 15 75 ∗ sp c 15 ∗ bk xs ws c 15
        ∗ (ds c 75 ∗ gt xs ws c 60 ∗ oH c (result xs ws su sv c) ∗ uH c su fullShare ∗ vH c sv fullShare ∗ own xs ws c ∗ semVal (barC c) 0 ∗ tail c)) by
    unfold result
    iintro ⟨H1, H2, H3, H4, H5, H6, H7, H8, H9, H10, H11, H12, H13⟩
    iframe).trans ?_
  iterate 30
    refine step_sx xs ws K c _ (by decide) (by decide) (by revert c; decide +kernel) ?_
  iterate 2
    refine step_sw xs ws K c _ (by decide) (by decide) (by revert c; decide +kernel) ?_
  iterate 28
    refine step_sf xs ws K c _ (by decide) (by decide) (by revert c; decide +kernel) ?_
  refine (show _ ⊢ iprop(ctx xs ws K ∗ ow c 75 ∗ ds c 75
        ∗ (bk xs ws c 75 ∗ gt xs ws c 60 ∗ oH c (result xs ws su sv c) ∗ uH c su fullShare ∗ vH c sv fullShare ∗ own xs ws c ∗ semVal (barC c) 0)
        ∗ cred (tallyAt (endC c) () 15) ∗ atPos ER (endC c) 0 ∅ 0) by
    unfold tail
    iintro ⟨H1, H2, H3, H4, H5, H6, H7, H8, H9, H10, H11, H12, H13, H14⟩
    iframe).trans ?_
  iterate 15
    refine step_bye xs ws K c _ (by decide) (by decide) (by revert c; decide +kernel) (by decide) rfl ?_
  refine step_end xs ws K c (by decide) rfl ?_
  exact fupd_intro

end Cert.Proof
-- ==== Proof.Cut.lean ====
/-
  A device's buffers, cut into the tiles that its transfers read and fill, and put together again.
-/
module

public import proofs.«01_k».proof.Proof.Cells
public import proofs.«01_k».proof.Proof.Body

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Facts₀

variable {F : FTy → Type} [FloatOps F]

local notation "𝕄" => MT nD τ sig Unit (Elt F) ℕ UU ℕ

/-! ## Equality of assertions -/

theorem eqv {P Q : sProp 𝕄} (h1 : P ⊢ Q) (h2 : Q ⊢ P) : P = Q := BI.equiv_iff.mp ⟨h1, h2⟩
theorem sep2 {I : Type} (s : Finset I) (Φ Ψ : I → sProp 𝕄) : bigSep s (fun i => iprop(Φ i ∗ Ψ i)) = iprop(bigSep s Φ ∗ bigSep s Ψ) :=
  bigSep_sep s Φ Ψ

/-! ## Tiles of one buffer do not meet -/

theorem mem_xt {r : Fin 2} {o : Dev nD} {i : S2x16x256x256.Idx} (h : i ∈ (xtSlot r o).view.set) :
    (i 0).val = r.val ∧ (i 1).val = o.val := by
  have e : (xtSlot r o).view.set = (Rect.unit (s := S2x16x256x256) ![r.val, o.val, 0, 0] S1x1x256x256.size (xt_inb r o)).set :=
    (View.set_reshape _ _).trans (View.set_slice_whole _ _)
  rw [e, Rect.mem_set_unit] at h
  have h0 : r.val ≤ (i 0).val ∧ (i 0).val < r.val + 1 := h 0
  have h1 : o.val ≤ (i 1).val ∧ (i 1).val < o.val + 1 := h 1
  omega
theorem mem_wb {o : Dev nD} {r : Fin 2} {i : S16x2x256x4096.Idx} (h : i ∈ (wbSlot o r).view.set) :
    (i 0).val = o.val ∧ (i 1).val = r.val := by
  have e : (wbSlot o r).view.set = (Rect.unit (s := S16x2x256x4096) ![o.val, r.val, 0, 0] S1x1x256x4096.size (wb_inb o r)).set :=
    (View.set_reshape _ _).trans (View.set_slice_whole _ _)
  rw [e, Rect.mem_set_unit] at h
  have h0 : o.val ≤ (i 0).val ∧ (i 0).val < o.val + 1 := h 0
  have h1 : r.val ≤ (i 1).val ∧ (i 1).val < r.val + 1 := h 1
  omega
theorem mem_xb {t : Dev nD} {i : S4096x256.Idx} (h : i ∈ (xBlk t).view.set) : (i 0).val / 256 = t.val := by
  rw [View.set_slice_whole, Rect.mem_set_unit] at h
  have h0 : t.val * 256 ≤ (i 0).val ∧ (i 0).val < t.val * 256 + 256 := h 0
  omega
theorem mem_wh {r : Fin 2} {i : S2x256x4096.Idx} (h : i ∈ (wHalf r).view.set) : (i 0).val = r.val := by
  have e : (wHalf r).view.set = (Rect.unit (s := S2x256x4096) ![r.val, 0, 0] S1x256x4096.size (wr_inb r)).set :=
    (View.set_reshape _ _).trans (View.set_slice_whole _ _)
  rw [e, Rect.mem_set_unit] at h
  have h0 : r.val ≤ (i 0).val ∧ (i 0).val < r.val + 1 := h 0
  omega

variable (c : Dev nD)

abbrev xtSet (p : Dev nD × Fin 2) : Finset (Idx (xtM.view.loc (c : Thread nD τ))) := (xtSlot p.2 p.1).view.set
abbrev wbSet (p : Dev nD × Fin 2) : Finset (Idx (wbM.view.loc (c : Thread nD τ))) := (wbSlot p.1 p.2).view.set
abbrev xbSet (t : Dev nD) : Finset (Idx (xM.view.loc (c : Thread nD τ))) := (xBlk t).view.set
abbrev whSet (r : Fin 2) : Finset (Idx (wM.view.loc (c : Thread nD τ))) := (wHalf r).view.set

theorem xt_disj (p p' : Dev nD × Fin 2) (h : p ≠ p') : Disjoint (xtSet c p) (xtSet c p') :=
  Finset.disjoint_left.2 fun _ h1 h2 => h (Prod.ext (Fin.ext ((mem_xt h1).2.symm.trans (mem_xt h2).2)) (Fin.ext ((mem_xt h1).1.symm.trans (mem_xt h2).1)))
theorem wb_disj (p p' : Dev nD × Fin 2) (h : p ≠ p') : Disjoint (wbSet c p) (wbSet c p') :=
  Finset.disjoint_left.2 fun _ h1 h2 => h (Prod.ext (Fin.ext ((mem_wb h1).1.symm.trans (mem_wb h2).1)) (Fin.ext ((mem_wb h1).2.symm.trans (mem_wb h2).2)))
theorem xb_disj (t t' : Dev nD) (h : t ≠ t') : Disjoint (xbSet c t) (xbSet c t') :=
  Finset.disjoint_left.2 fun _ h1 h2 => h (Fin.ext ((mem_xb h1).symm.trans (mem_xb h2)))
theorem wh_disj (r r' : Fin 2) (h : r ≠ r') : Disjoint (whSet c r) (whSet c r') :=
  Finset.disjoint_left.2 fun _ h1 h2 => h (Fin.ext ((mem_wh h1).symm.trans (mem_wh h2)))

/-! ## The places -/

theorem shuffle (a b d e a' b' d' e' : sProp 𝕄) :
    iprop(((a ∗ b) ∗ (d ∗ e)) ∗ ((a' ∗ b') ∗ (d' ∗ e'))) = iprop(((b ∗ e) ∗ (b' ∗ e')) ∗ ((a ∗ d) ∗ (a' ∗ d'))) :=
  eqv (by iintro ⟨⟨⟨A, B⟩, ⟨D, E⟩⟩, ⟨⟨A', B'⟩, ⟨D', E'⟩⟩⟩; isplitl [B E B' E']; isplitl [B E]; isplitl [B]; iexact B; iexact E; isplitl [B']; iexact B'; iexact E'; isplitl [A D]; isplitl [A]; iexact A; iexact D; isplitl [A']; iexact A'; iexact D')
    (by iintro ⟨⟨⟨B, E⟩, ⟨B', E'⟩⟩, ⟨⟨A, D⟩, ⟨A', D'⟩⟩⟩; isplitl [A B D E]; isplitl [A B]; isplitl [A]; iexact A; iexact B; isplitl [D]; iexact D; iexact E; isplitl [A' B']; isplitl [A']; iexact A'; iexact B'; isplitl [D']; iexact D'; iexact E')

/-- A family over devices and rings: the device's own members, and the others ring by ring in the order they arrive. -/
theorem by_ring (A : Dev nD → Fin 2 → sProp 𝕄) :
    bigSep Finset.univ (fun p : Dev nD × Fin 2 => A p.1 p.2)
      = iprop((A c 0 ∗ bigSep (Finset.Ico 0 15) fun h => A (org 0 (h + 1) c) 0) ∗ (A c 1 ∗ bigSep (Finset.Ico 0 15) fun h => A (org 1 (h + 1) c) 1)) := by
  rw [bigSep_univ_prod, ← by_org 0 c fun o => A o 0, ← by_org 1 c fun o => A o 1]
  refine (bigSep_congr fun o _ => bigSep_fin_two fun r => A o r).trans ?_
  rw [bigSep_sep, bigSep_univ_at _ c, bigSep_univ_at (fun o => A o 1) c]
  rfl

/-- The places in the order of the arrivals that fill them, and the device's own four. -/
theorem by_arrival (A B : Dev nD → Fin 2 → sProp 𝕄) :
    iprop(bigSep Finset.univ (fun p : Dev nD × Fin 2 => A p.1 p.2) ∗ bigSep Finset.univ (fun p : Dev nD × Fin 2 => B p.1 p.2))
      = iprop(bigSep (Finset.Ico 0 60) (fun a => if a % 4 < 2 then A (rorg c a) (rr a) else B (rorg c a) (rr a))
        ∗ ((A c 0 ∗ A c 1) ∗ (B c 0 ∗ B c 1))) := by
  rw [by_ring c A, by_ring c B, shuffle]
  refine congrArg (fun P => iprop(P ∗ _)) ?_
  rw [show (60 : ℕ) = 4 * 15 from rfl, ico_quad]
  refine Eq.symm ((bigSep_congr (Ψ := fun h => iprop((A (org 0 (h + 1) c) 0 ∗ A (org 1 (h + 1) c) 1) ∗ (B (org 0 (h + 1) c) 0 ∗ B (org 1 (h + 1) c) 1))) fun h _ => ?_).trans ?_)
  · have e0 : rorg c (4 * h) = org 0 (h + 1) c ∧ rr (4 * h) = 0 := by
      unfold rorg; rw [show rr (4 * h) = 0 from Fin.ext (show 4 * h % 2 = 0 by omega), show 4 * h / 4 = h by omega]; exact ⟨rfl, rfl⟩
    have e1 : rorg c (4 * h + 1) = org 1 (h + 1) c ∧ rr (4 * h + 1) = 1 := by
      unfold rorg; rw [show rr (4 * h + 1) = 1 from Fin.ext (show (4 * h + 1) % 2 = 1 by omega), show (4 * h + 1) / 4 = h by omega]; exact ⟨rfl, rfl⟩
    have e2 : rorg c (4 * h + 2) = org 0 (h + 1) c ∧ rr (4 * h + 2) = 0 := by
      unfold rorg; rw [show rr (4 * h + 2) = 0 from Fin.ext (show (4 * h + 2) % 2 = 0 by omega), show (4 * h + 2) / 4 = h by omega]; exact ⟨rfl, rfl⟩
    have e3 : rorg c (4 * h + 3) = org 1 (h + 1) c ∧ rr (4 * h + 3) = 1 := by
      unfold rorg; rw [show rr (4 * h + 3) = 1 from Fin.ext (show (4 * h + 3) % 2 = 1 by omega), show (4 * h + 3) / 4 = h by omega]; exact ⟨rfl, rfl⟩
    rw [if_pos (show 4 * h % 4 < 2 by omega), if_pos (show (4 * h + 1) % 4 < 2 by omega), if_neg (show ¬ (4 * h + 2) % 4 < 2 by omega),
      if_neg (show ¬ (4 * h + 3) % 4 < 2 by omega), e0.1, e0.2, e1.1, e1.2, e2.1, e2.2, e3.1, e3.2]
  · rw [sep2, sep2, sep2]

/-- The device's own places, which nothing comes to, and what no tile covers. -/
def spare : sProp 𝕄 :=
  iprop(((place (F := F) c false c 0 ∗ place c false c 1) ∗ (place (F := F) c true c 0 ∗ place c true c 1))
    ∗ (∃ f, wbM.view.loc (c : Thread nD τ) ↦[Ring.restOf (wbSet c)]{fullShare} f)
    ∗ (∃ f, xtM.view.loc (c : Thread nD τ) ↦[Ring.restOf (xtSet c)]{fullShare} f))

/-- The places of the arrivals. -/
def places : sProp 𝕄 := bigSep (Finset.Ico 0 60) fun a => place (F := F) c (decide (2 ≤ a % 4)) (rorg c a) (rr a)

theorem places_eq : (places c : sProp 𝕄)
    = bigSep (Finset.Ico 0 60) fun a => if a % 4 < 2 then place c false (rorg c a) (rr a) else place c true (rorg c a) (rr a) := by
  unfold places
  refine bigSep_congr fun a _ => ?_
  by_cases h : a % 4 < 2
  · rw [if_pos h, decide_eq_false (by omega)]
  · rw [if_neg h, decide_eq_true (by omega)]

theorem wb_open : iprop(∃ f : Buf (Elt F) (wbM.view.loc (c : Thread nD τ)), wbM.view.loc (c : Thread nD τ) ↦{fullShare} f)
    ⊢ (iprop(bigSep Finset.univ (fun p : Dev nD × Fin 2 => place (F := F) c false p.1 p.2)
        ∗ ∃ f, wbM.view.loc (c : Thread nD τ) ↦[Ring.restOf (wbSet c)]{fullShare} f) : sProp 𝕄) :=
  Ring.fam_split_ex (wbSet c) (wb_disj c)
theorem xt_open : iprop(∃ f : Buf (Elt F) (xtM.view.loc (c : Thread nD τ)), xtM.view.loc (c : Thread nD τ) ↦{fullShare} f)
    ⊢ (iprop(bigSep Finset.univ (fun p : Dev nD × Fin 2 => place (F := F) c true p.1 p.2)
        ∗ ∃ f, xtM.view.loc (c : Thread nD τ) ↦[Ring.restOf (xtSet c)]{fullShare} f) : sProp 𝕄) :=
  Ring.fam_split_ex (xtSet c) (xt_disj c)
theorem wb_close (f₀ : Buf (Elt F) (wbM.view.loc (c : Thread nD τ))) :
    (iprop(bigSep Finset.univ (fun p : Dev nD × Fin 2 => place (F := F) c false p.1 p.2)
        ∗ ∃ f, wbM.view.loc (c : Thread nD τ) ↦[Ring.restOf (wbSet c)]{fullShare} f) : sProp 𝕄)
    ⊢ iprop(∃ f : Buf (Elt F) (wbM.view.loc (c : Thread nD τ)), wbM.view.loc (c : Thread nD τ) ↦{fullShare} f) :=
  Ring.fam_join (wbSet c) (wb_disj c) f₀
theorem xt_close (f₀ : Buf (Elt F) (xtM.view.loc (c : Thread nD τ))) :
    (iprop(bigSep Finset.univ (fun p : Dev nD × Fin 2 => place (F := F) c true p.1 p.2)
        ∗ ∃ f, xtM.view.loc (c : Thread nD τ) ↦[Ring.restOf (xtSet c)]{fullShare} f) : sProp 𝕄)
    ⊢ iprop(∃ f : Buf (Elt F) (xtM.view.loc (c : Thread nD τ)), xtM.view.loc (c : Thread nD τ) ↦{fullShare} f) :=
  Ring.fam_join (xtSet c) (xt_disj c) f₀

/-- The two buffers that are filled, at any contents. -/
def bufs2 : sProp 𝕄 :=
  iprop((∃ f : Buf (Elt F) (wbM.view.loc (c : Thread nD τ)), wbM.view.loc (c : Thread nD τ) ↦{fullShare} f)
    ∗ (∃ f : Buf (Elt F) (xtM.view.loc (c : Thread nD τ)), xtM.view.loc (c : Thread nD τ) ↦{fullShare} f))

theorem places_open : (bufs2 c : sProp 𝕄) ⊢ iprop(places c ∗ spare c) := by
  have h := by_arrival (F := F) c (fun o r => place c false o r) (fun o r => place c true o r)
  rw [places_eq]
  unfold bufs2 spare
  iintro ⟨H1, H2⟩
  ihave H1 := (wb_open (F := F) c) $$ H1
  ihave H2 := (xt_open (F := F) c) $$ H2
  icases H1 with ⟨A, R⟩
  icases H2 with ⟨B, S⟩
  ihave H := (ent h) $$ [A B]
  · isplitl [A]; · iexact A
    iexact B
  icases H with ⟨P, Q⟩
  isplitl [P]; · iexact P
  isplitl [Q]; · iexact Q
  isplitl [R]; · iexact R
  iexact S

variable (xs : Dev nD → Vec F S4096x256 .fp8e4m3) (ws : Dev nD → Vec F S2x256x4096 .fp8e5m2)

include xs ws in
theorem places_close : iprop(places c ∗ spare c) ⊢ (bufs2 c : sProp 𝕄) := by
  have h := by_arrival (F := F) c (fun o r => place c false o r) (fun o r => place c true o r)
  rw [places_eq]
  unfold bufs2 spare
  iintro ⟨P, Q, R, S⟩
  ihave H := (ent h.symm) $$ [P Q]
  · isplitl [P]; · iexact P
    iexact Q
  icases H with ⟨A, B⟩
  isplitl [A R]
  · iapply (wb_close (F := F) c (WB ws)) $$ [A R]
    isplitl [A]; · iexact A
    iexact R
  · iapply (xt_close (F := F) c (XT xs c)) $$ [B S]
    isplitl [B]; · iexact B
    iexact S

/-! ## The inputs -/

theorem fam_eq {ℓ : Loc nD τ sig} {B : Type} [Fintype B] (I : B → Finset (Idx ℓ)) (hd : ∀ b b', b ≠ b' → Disjoint (I b) (I b'))
    (f : Buf (Elt F) ℓ) : (ℓ ↦{fullShare} f : sProp 𝕄)
      = iprop(bigSep Finset.univ (fun b => ℓ ↦[I b]{fullShare} f) ∗ ℓ ↦[Ring.restOf I]{fullShare} f) := by
  rw [← pointsTo_biUnion Finset.univ I (fun b _ b' _ h => hd b b' h)]
  exact eqv (pointsTo_split_subset (Finset.subset_univ _)).1 (pointsTo_split_subset (Finset.subset_univ _)).2

theorem halves {ℓ : Loc nD τ sig} (I : Finset (Idx ℓ)) (f : Buf (Elt F) ℓ) : (ℓ ↦[I]{fullShare} f : sProp 𝕄)
    = iprop((ℓ ↦[I]{fullShare.left} f) ∗ ℓ ↦[I]{fullShare.right} f) :=
  eqv (pointsTo_share (PosShare.mem_left_op_right _)).1 (pointsTo_share (PosShare.mem_left_op_right _)).2

/-- What no tile of the inputs covers. -/
def rest : sProp 𝕄 :=
  iprop((xM.view.loc (c : Thread nD τ) ↦[Ring.restOf (xbSet c)]{fullShare} (xs c))
    ∗ wM.view.loc (c : Thread nD τ) ↦[Ring.restOf (whSet c)]{fullShare} (ws c))

theorem x_cut : (xM.view.loc (c : Thread nD τ) ↦{fullShare} (xs c) : sProp 𝕄)
    = iprop((xbHeld xs c c fullShare ∗ bigSep (Finset.Ico 15 45) (srcHeld xs ws c))
      ∗ xM.view.loc (c : Thread nD τ) ↦[Ring.restOf (xbSet c)]{fullShare} (xs c)) := by
  rw [fam_eq (xbSet c) (xb_disj c)]
  refine congrArg (fun P => iprop(P ∗ _)) ?_
  rw [bigSep_univ_at _ c, by_sh]
  refine congrArg (fun P => iprop(_ ∗ P)) ?_
  rw [show (45 : ℕ) = 15 + 2 * 15 from rfl, ico_pair]
  refine bigSep_congr fun k hk => ?_
  have hk := (Finset.mem_Ico.1 hk).2
  unfold srcHeld
  rw [if_pos (by omega), if_pos (by omega)]
  have e0 : pdev c (15 + 2 * k) = sh c (k + 1) := by
    unfold pdev; rw [if_neg (by omega), if_pos (by omega), show (15 + 2 * k - 15) / 2 + 1 = k + 1 by omega]
  have e1 : pdev c (15 + 2 * k + 1) = sh c (k + 1) := by
    unfold pdev; rw [if_neg (by omega), if_pos (by omega), show (15 + 2 * k + 1 - 15) / 2 + 1 = k + 1 by omega]
  have q0 : xq (rg (15 + 2 * k)) = fullShare.left := if_pos (Fin.ext (show (15 + 2 * k + 1) % 2 = 0 by omega))
  have q1 : xq (rg (15 + 2 * k + 1)) = fullShare.right :=
    if_neg (fun h => absurd (congrArg Fin.val h) (show ¬ (15 + 2 * k + 1 + 1) % 2 = 0 by omega))
  rw [e0, e1, q0, q1]
  exact halves _ _

theorem w_cut : (wM.view.loc (c : Thread nD τ) ↦{fullShare} (ws c) : sProp 𝕄)
    = iprop(((whHeld ws c 0 fullShare.left ∗ whHeld ws c 0 fullShare.right) ∗ (whHeld ws c 1 fullShare.left ∗ whHeld ws c 1 fullShare.right))
      ∗ wM.view.loc (c : Thread nD τ) ↦[Ring.restOf (whSet c)]{fullShare} (ws c)) := by
  rw [fam_eq (whSet c) (wh_disj c)]
  refine congrArg (fun P => iprop(P ∗ _)) ?_
  rw [bigSep_fin_two]
  exact congr (congrArg BI.sep (halves _ _)) (halves _ _)

theorem sr_eq : sr xs ws c 15 = iprop(bigSep (Finset.Ico 15 45) (srcHeld xs ws c) ∗ (whHeld ws c 0 fullShare.left ∗ whHeld ws c 1 fullShare.left)) := by
  unfold sr
  rw [ico_add (a := 15) (b := 45) (d := 47) (by omega) (by omega)]
  refine congrArg (fun P => iprop(_ ∗ P)) ?_
  rw [ico_cons (by omega), bigSep_insert (by simp), ico_cons (by omega), bigSep_insert (by simp), Finset.Ico_self, bigSep_empty]
  refine congr (congrArg BI.sep ?_) ((eqv (Laws.sep_emp).1 (Laws.sep_emp).2).trans ?_)
  · unfold srcHeld; rw [if_neg (by omega), if_pos (by omega)]; rfl
  · unfold srcHeld; rw [if_neg (by omega), if_pos (by omega)]; rfl

/-- The two inputs of the tensor unit, whole. -/
def ins : sProp 𝕄 :=
  iprop((xM.view.loc (c : Thread nD τ) ↦{fullShare} (xs c)) ∗ (wM.view.loc (c : Thread nD τ) ↦{fullShare} (ws c)))

theorem ins_eq : ins c xs ws = iprop(sr xs ws c 15 ∗ own xs ws c ∗ rest c xs ws) := by
  unfold ins own rest
  rw [x_cut c xs ws, w_cut, sr_eq]
  exact eqv (by
      iintro ⟨⟨⟨X, A⟩, R⟩, ⟨⟨⟨P, Q⟩, ⟨S, T⟩⟩, U⟩⟩
      isplitl [A P S]
      · isplitl [A]; · iexact A
        isplitl [P]; · iexact P
        iexact S
      isplitl [X Q T]
      · isplitl [X]; · iexact X
        isplitl [Q]; · iexact Q
        iexact T
      isplitl [R]; · iexact R
      iexact U) (by
      iintro ⟨⟨A, P, S⟩, ⟨X, Q, T⟩, R, U⟩
      isplitl [X A R]
      · isplitl [X A]
        · isplitl [X]; · iexact X
          iexact A
        iexact R
      isplitl [P Q S T]
      · isplitl [P Q]
        · isplitl [P]; · iexact P
          iexact Q
        isplitl [S]; · iexact S
        iexact T
      iexact U)

/-! ## At the end -/

theorem place_got (a : ℕ) : got xs ws c a ⊢ place (F := F) c (decide (2 ≤ a % 4)) (rorg c a) (rr a) := by
  unfold got place
  by_cases h : a % 4 < 2
  · rw [if_pos h, decide_eq_false (by omega)]
    rw [if_neg Bool.false_ne_true]
    unfold wbHeld
    iintro H
    iexists (WB ws)
    iexact H
  · rw [if_neg h, decide_eq_true (by omega)]
    rw [if_pos rfl]
    unfold xtHeld
    iintro H
    iexists (XT xs c)
    iexact H

theorem place_two (a i : ℕ) (ha : a % 4 < 2) (ho : porg c i = rorg c a) (hr : rg i = rr a) (h1 : a < 56) (h2 : 47 ≤ i) :
    iprop(srcHeld xs ws c i ∗ kept xs ws c a) ⊢ place (F := F) c (decide (2 ≤ a % 4)) (rorg c a) (rr a) := by
  refine BIBase.Entails.trans (ent ?_) (place_got c xs ws a)
  unfold srcHeld kept got
  rw [if_neg (by omega), if_neg (by omega), if_pos ⟨ha, h1⟩, if_pos ha, ho, hr]
  exact (halves _ _).symm

theorem place_one (a : ℕ) (h : ¬ (a % 4 < 2 ∧ a < 56)) :
    kept xs ws c a ⊢ place (F := F) c (decide (2 ≤ a % 4)) (rorg c a) (rr a) := by
  unfold kept
  rw [if_neg h]
  exact place_got c xs ws a

theorem places_back : iprop(bigSep (Finset.Ico 47 75) (srcHeld xs ws c) ∗ bigSep (Finset.Ico 0 60) (kept xs ws c)) ⊢ (places c : sProp 𝕄) := by
  unfold places
  rw [show (75 : ℕ) = 47 + 2 * 14 from rfl, ico_pair, show (60 : ℕ) = 4 * 15 from rfl, ico_quad, ico_quad,
    ico_add (a := 0) (b := 14) (d := 15) (by omega) (by omega), ico_add (a := 0) (b := 14) (d := 15) (by omega) (by omega)]
  have hA : iprop(bigSep (Finset.Ico 0 14) (fun k => iprop(srcHeld xs ws c (47 + 2 * k) ∗ srcHeld xs ws c (47 + 2 * k + 1)))
      ∗ bigSep (Finset.Ico 0 14) (fun k => iprop((kept xs ws c (4 * k) ∗ kept xs ws c (4 * k + 1)) ∗ (kept xs ws c (4 * k + 2) ∗ kept xs ws c (4 * k + 3)))))
      ⊢ bigSep (Finset.Ico 0 14) (fun k => iprop(
          (place (F := F) c (decide (2 ≤ 4 * k % 4)) (rorg c (4 * k)) (rr (4 * k)) ∗ place c (decide (2 ≤ (4 * k + 1) % 4)) (rorg c (4 * k + 1)) (rr (4 * k + 1)))
          ∗ (place (F := F) c (decide (2 ≤ (4 * k + 2) % 4)) (rorg c (4 * k + 2)) (rr (4 * k + 2)) ∗ place c (decide (2 ≤ (4 * k + 3) % 4)) (rorg c (4 * k + 3)) (rr (4 * k + 3))))) := by
    refine (ent (sep2 _ _ _).symm).trans (bigSep_mono fun k hk => ?_)
    have hk := (Finset.mem_Ico.1 hk).2
    have r0 : rg (47 + 2 * k) = rr (4 * k) := Fin.ext (show (47 + 2 * k + 1) % 2 = 4 * k % 2 by omega)
    have r1 : rg (47 + 2 * k + 1) = rr (4 * k + 1) := Fin.ext (show (47 + 2 * k + 1 + 1) % 2 = (4 * k + 1) % 2 by omega)
    have o0 : porg c (47 + 2 * k) = rorg c (4 * k) := by
      unfold porg rorg; rw [r0, show (47 + 2 * k - 45) / 2 = 4 * k / 4 + 1 by omega]
    have o1 : porg c (47 + 2 * k + 1) = rorg c (4 * k + 1) := by
      unfold porg rorg; rw [r1, show (47 + 2 * k + 1 - 45) / 2 = (4 * k + 1) / 4 + 1 by omega]
    refine (show iprop((srcHeld xs ws c (47 + 2 * k) ∗ srcHeld xs ws c (47 + 2 * k + 1)) ∗ ((kept xs ws c (4 * k) ∗ kept xs ws c (4 * k + 1)) ∗ (kept xs ws c (4 * k + 2) ∗ kept xs ws c (4 * k + 3)))) ⊢ _ from ?_)
    iintro ⟨⟨A, B⟩, ⟨P, Q⟩, ⟨R, S⟩⟩
    isplitl [A B P Q]
    · isplitl [A P]
      · iapply (place_two c xs ws (4 * k) (47 + 2 * k) (by omega) o0 r0 (by omega) (by omega)) $$ [A P]
        isplitl [A]; · iexact A
        iexact P
      · iapply (place_two c xs ws (4 * k + 1) (47 + 2 * k + 1) (by omega) o1 r1 (by omega) (by omega)) $$ [B Q]
        isplitl [B]; · iexact B
        iexact Q
    · isplitl [R]
      · iapply (place_one c xs ws (4 * k + 2) (by omega)) $$ R
      · iapply (place_one c xs ws (4 * k + 3) (by omega)) $$ S
  have hB : bigSep (Finset.Ico 14 15) (fun k => iprop((kept xs ws c (4 * k) ∗ kept xs ws c (4 * k + 1)) ∗ (kept xs ws c (4 * k + 2) ∗ kept xs ws c (4 * k + 3))))
      ⊢ bigSep (Finset.Ico 14 15) (fun k => iprop(
          (place (F := F) c (decide (2 ≤ 4 * k % 4)) (rorg c (4 * k)) (rr (4 * k)) ∗ place c (decide (2 ≤ (4 * k + 1) % 4)) (rorg c (4 * k + 1)) (rr (4 * k + 1)))
          ∗ (place (F := F) c (decide (2 ≤ (4 * k + 2) % 4)) (rorg c (4 * k + 2)) (rr (4 * k + 2)) ∗ place c (decide (2 ≤ (4 * k + 3) % 4)) (rorg c (4 * k + 3)) (rr (4 * k + 3))))) := by
    refine bigSep_mono fun k hk => ?_
    have hk := (Finset.mem_Ico.1 hk).1
    exact BIClass.sep_mono (BIClass.sep_mono (place_one c xs ws _ (by omega)) (place_one c xs ws _ (by omega)))
      (BIClass.sep_mono (place_one c xs ws _ (by omega)) (place_one c xs ws _ (by omega)))
  iintro ⟨A, P, Q⟩
  isplitl [A P]
  · iapply hA $$ [A P]
    isplitl [A]; · iexact A
    iexact P
  · iapply hB $$ Q

theorem bk_eq : bk xs ws c 75 = iprop((sr xs ws c 15 ∗ bigSep (Finset.Ico 47 75) (srcHeld xs ws c)) ∗ bigSep (Finset.Ico 15 75) fun i => semVal (scell c i) 0) := by
  unfold bk sr
  rw [sep2, ico_add (a := 15) (b := 47) (d := 75) (by omega) (by omega) (srcHeld xs ws c)]
theorem gt_eq : gt xs ws c 60 = iprop(bigSep (Finset.Ico 0 60) (kept xs ws c) ∗ bigSep (Finset.Ico 0 60) fun i => semVal (rcell c i) 0) := by
  unfold gt
  rw [sep2]

/-- At the end the buffers are whole again and the cells of the transfers closed. -/
theorem back : iprop((bk xs ws c 75 ∗ gt xs ws c 60) ∗ own xs ws c ∗ rest c xs ws ∗ spare c)
    ⊢ iprop(ins c xs ws ∗ bufs2 c ∗ (bigSep (Finset.Ico 0 60) fun i => semVal (rcell c i) 0) ∗ bigSep (Finset.Ico 15 75) fun i => semVal (scell c i) 0) := by
  rw [bk_eq, gt_eq, ins_eq]
  iintro ⟨⟨⟨⟨S, W⟩, Z1⟩, ⟨K, Z2⟩⟩, O, R, P⟩
  isplitl [S O R]
  · isplitl [S]; · iexact S
    isplitl [O]; · iexact O
    iexact R
  isplitl [W K P]
  · iapply (places_close c xs ws) $$ [W K P]
    isplitl [W K]
    · iapply (places_back c xs ws) $$ [W K]
      isplitl [W]; · iexact W
      iexact K
    iexact P
  isplitl [Z2]; · iexact Z2
  iexact Z1

end Cert.Proof
-- ==== Proof.Deal.lean ====
/-
  What the launch deals to each device: the tokens of its payments, the credit of what it will be
  paid, and, of its own places, what it gives to each of the others.
-/
module

public import proofs.«01_k».proof.Proof.Cells
public import proofs.«01_k».proof.Proof.Moves

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Facts₀

variable {F : FTy → Type} [FloatOps F]

local notation "𝕄" => MT nD τ sig Unit (Elt F) ℕ UU ℕ

/-! ## Tokens -/

/-- Token j of device c: its ninety payments, then the read-outs of its sixty transfers. -/
def tok (p : Dev nD × Fin 150) : GSem nD τ sig × ℕ × Dev nD :=
  if p.2.val < 90 then (pcell p.1 p.2.val, 0, pduty p.1 p.2.val) else (scell p.1 (p.2.val - 75), 0, 0)

/-- Whose token it is, and which. -/
def tdec (x : GSem nD τ sig × ℕ × Dev nD) : Dev nD × ℕ := match x.1.2 with
  | .reg s => (x.2.2, (if s = barS then 0 else 75) + (x.1.1.1.val + 15 - x.2.2.val) % 16)
  | .dma q =>
    if qa q = 3 then (qo q, 15 + 2 * ((x.1.1.1.val + 15 - (qo q).val) % 16) + (qr q).val)
    else if qa q = 1 then (pv (qr q) x.1.1.1, 45 + 2 * dist (qr q) (qo q) (pv (qr q) x.1.1.1) + (qr q).val)
    else if qa q = 2 then (x.1.1.1, 90 + 2 * (((qo q).val + 15 - x.1.1.1.val) % 16) + (qr q).val)
    else (x.1.1.1, 120 + 2 * dist (qr q) (qo q) x.1.1.1 + (qr q).val)

theorem tdec_tok : ∀ (c : Dev nD) (j : Fin 150), tdec (tok (c, j)) = (c, j.val) := by decide +kernel

theorem tok_inj : Function.Injective tok := by
  rintro ⟨c, j⟩ ⟨c', j'⟩ h
  have e := (tdec_tok c j).symm.trans ((congrArg tdec h).trans (tdec_tok c' j'))
  obtain ⟨rfl, h2⟩ := Prod.mk.inj e
  rw [Fin.ext h2]

@[irreducible] def toks : Finset (GSem nD τ sig × ℕ × Dev nD) := Finset.univ.map ⟨tok, tok_inj⟩

theorem toks_eq : bigSep toks (fun x => (dutyTok ER x.1 x.2.1 x.2.2 : sProp 𝕄))
    = bigSep Finset.univ fun c : Dev nD => iprop(bigSep (Finset.Ico 0 90) (fun i => dutyTok ER (pcell c i) 0 (pduty c i))
        ∗ bigSep (Finset.Ico 15 75) (fun i => dutyTok ER (scell c i) 0 0)) := by
  unfold toks
  rw [bigSep_map, bigSep_univ_prod]
  refine bigSep_congr fun c _ => ?_
  have h := ico_fin (F := F) 150 fun j =>
    if j < 90 then dutyTok ER (pcell c j) 0 (pduty c j) else dutyTok ER (scell c (j - 75)) 0 0
  refine (bigSep_congr fun j _ => ?_).trans (h.trans ?_)
  · show dutyTok ER (tok (c, j)).1 (tok (c, j)).2.1 (tok (c, j)).2.2 = _
    unfold tok
    dsimp only
    split <;> rfl
  · rw [ico_add (a := 0) (b := 90) (d := 150) (by omega) (by omega), show (150 : ℕ) = 90 + 60 from rfl, ico_shift 90 60,
      show (75 : ℕ) = 15 + 60 from rfl, ico_shift 15 60]
    refine congr (congrArg BI.sep (bigSep_congr fun i hi => if_pos (Finset.mem_Ico.1 hi).2)) (bigSep_congr fun i _ => ?_)
    rw [if_neg (by omega), show 90 + i - (15 + 60) = 15 + i by omega]

/-! ## Credit -/

theorem owed_at (d : Dev nD) (g : GSem nD τ sig) :
    owed d 0 g () = ∑ i ∈ Finset.Ico 0 90, if pcell d i = g then pamt i else 0 := by
  unfold owed
  rw [Finset.sum_apply, Finsupp.finset_sum_apply]
  refine Finset.sum_congr rfl fun i _ => ?_
  rw [tallyAt_apply]
  by_cases h : pcell d i = g
  · rw [if_pos h, if_pos ⟨h.symm, rfl⟩]
  · rw [if_neg h, if_neg fun e => h e.1.symm]

theorem launch_at (g : GSem nD τ sig) (n : ℕ) (h : ∑ d : Dev nD, ∑ i ∈ Finset.Ico 0 90, (if pcell d i = g then pamt i else 0) = n)
    (c : Dev nD) (sm : SemLoc sig) (hg : g = ((c : Thread nD τ), sm)) :
    tallyOn g (launchCredit (Pipeline.owing fun d => owed d 0) 0 g) = (tallyAt g () n : CellTallies nD τ sig Unit) := by
  subst hg
  unfold tallyAt
  refine congrArg _ (Finsupp.ext fun u => ?_)
  cases u
  rw [Pipeline.launchCredit_owing, Finsupp.single_eq_same, ← h]
  exact Finset.sum_congr rfl fun d _ => owed_at d _

theorem count_reg : ∀ (c : Dev nD) (s : Sem sig), (∑ d : Dev nD, ∑ i ∈ Finset.Ico 0 90,
    if pcell d i = ((c : Thread nD τ), .reg s) then 1 else 0) = 15 := by decide +kernel

theorem pcell_reg : ∀ (d : Dev nD) (i : Fin 90) (c : Dev nD) (s : Sem sig),
    pcell d i.val = ((c : Thread nD τ), .reg s) → i.val < 15 ∨ 75 ≤ i.val := by
  intro d i c s h
  by_contra hn
  unfold pcell at h
  rw [if_neg (by omega)] at h
  split at h
  · exact absurd (congrArg Prod.snd h) (fun e => by cases e)
  · rw [if_pos (by omega)] at h
    exact absurd (congrArg Prod.snd h) (fun e => by cases e)

theorem sum_reg (c : Dev nD) (s : Sem sig) : (∑ d : Dev nD, ∑ i ∈ Finset.Ico 0 90,
    if pcell d i = ((c : Thread nD τ), .reg s) then pamt i else 0) = 15 := by
  rw [← count_reg c s]
  refine Finset.sum_congr rfl fun d _ => Finset.sum_congr rfl fun i hi => ?_
  by_cases h : pcell d i = ((c : Thread nD τ), .reg s)
  · rw [if_pos h, if_pos h]
    have := pcell_reg d ⟨i, (Finset.mem_Ico.1 hi).2⟩ c s h
    unfold pamt
    rcases this with h1 | h1
    · exact if_pos h1
    · have h1 : 75 ≤ i := h1
      rw [if_neg (by omega), if_neg (by omega), if_neg (by omega)]
  · rw [if_neg h, if_neg h]

theorem pcell_dma (d : Dev nD) (i : ℕ) (c : Dev nD) (a : ℕ) (h : pcell d i = rcell c a) : 15 ≤ i ∧ i < 75 ∧ pdev d i = c := by
  unfold pcell rcell at h
  split at h
  · exact absurd (congrArg Prod.snd h) (fun e => by cases e)
  · split at h
    · exact ⟨by omega, by omega, congrArg (fun g : GSem nD τ sig => g.1.1) h⟩
    · split at h
      · exact ⟨by omega, by omega, congrArg (fun g : GSem nD τ sig => g.1.1) h⟩
      · exact absurd (congrArg Prod.snd h) (fun e => by cases e)

theorem rcell_inj (c : Dev nD) (a b : ℕ) (ha : a < 60) (hb : b < 60) (h : rcell c a = rcell c b) : a = b := by
  have h1 := sdec_ocell c ⟨a, by omega⟩
  have h2 := sdec_ocell c ⟨b, by omega⟩
  unfold ocell at h1 h2
  rw [if_pos ha] at h1; rw [if_pos hb] at h2
  exact h1.symm.trans ((congrArg (fun g : GSem nD τ sig => sdec c g.2) h).trans h2)

theorem dma_ne (c : Dev nD) (a : ℕ) (s : Sem sig) : (rcell c a).2 ≠ SemLoc.reg s := fun h => by cases h

/-- The one payment that an arrival is. -/
theorem pay_of (c : Dev nD) (a : ℕ) (ha : a < 60) (d : Dev nD) (i : ℕ) (h : pcell d i = rcell c a) :
    d = from_ c a ∧ i = pnum c a := by
  obtain ⟨h1, h2, rfl⟩ := pcell_dma d i c a h
  obtain ⟨m1, m2, m3, -, -, -, m7⟩ := match_all d ⟨i, h2⟩ h1
  have e : anum d i = a := rcell_inj _ _ _ m1 ha (m7.symm.trans h)
  subst e
  exact ⟨m2.symm, m3.symm⟩

theorem sum_r (c : Dev nD) (a : ℕ) (ha : a < 60) : (∑ d : Dev nD, ∑ i ∈ Finset.Ico 0 90,
    if pcell d i = rcell c a then pamt i else 0) = ramt a := by
  obtain ⟨-, h1, h2, h3, h4⟩ := from_all c ⟨a, ha⟩
  dsimp only at h1 h2 h3 h4
  rw [Finset.sum_eq_single_of_mem (from_ c a) (Finset.mem_univ _) fun d _ hd => Finset.sum_eq_zero fun i _ =>
      if_neg fun h => hd (pay_of c a ha d i h).1,
    Finset.sum_eq_single_of_mem (pnum c a) (Finset.mem_Ico.2 ⟨by omega, by omega⟩) fun i _ hi =>
      if_neg fun h => hi (pay_of c a ha _ i h).2, if_pos h3]
  unfold pamt ramt
  rw [if_neg (by omega)]
  by_cases h : a % 4 < 2
  · rw [if_pos h, if_neg (by have := h4.1 h; omega), if_pos h2]
  · rw [if_neg h, if_pos (by by_contra hn; exact h (h4.2 (by omega)))]

/-- The credit a device gets at launch: its two counting cells' and that of every arrival. -/
theorem creds (c : Dev nD) : (Pipeline.launchCred (fun d => owed d 0) c : sProp 𝕄)
    ⊢ iprop(cred (tallyAt (barC c) () 15) ∗ cred (tallyAt (endC c) () 15)
        ∗ bigSep (Finset.Ico 0 60) fun a => cred (tallyAt (rcell c a) () (ramt a))) := by
  unfold Pipeline.launchCred
  rw [bigSep_univ_at _ (SemLoc.reg barS), launch_at (barC c) 15 (sum_reg c barS) c _ rfl,
    bigSep_erase (i := SemLoc.reg endS) (Finset.mem_erase.2 ⟨by decide, Finset.mem_univ _⟩), launch_at (endC c) 15 (sum_reg c endS) c _ rfl]
  refine sep_mono_right (sep_mono_right ?_)
  have hinj : Set.InjOn (fun a => (rcell c a).2) (Finset.Ico 0 60 : Finset ℕ) := fun a ha b hb h =>
    rcell_inj c a b (Finset.mem_Ico.1 ha).2 (Finset.mem_Ico.1 hb).2 (Prod.ext rfl h)
  refine (bigSep_subset (t := (Finset.Ico 0 60).image fun a => (rcell c a).2) fun x hx => ?_).trans ?_
  · obtain ⟨a, -, rfl⟩ := Finset.mem_image.1 hx
    exact Finset.mem_erase.2 ⟨(dma_ne c a endS), Finset.mem_erase.2 ⟨(dma_ne c a barS), Finset.mem_univ _⟩⟩
  · rw [bigSep_image_of_injOn hinj]
    refine bigSep_mono fun a ha => ent ?_
    exact congrArg _ (launch_at (rcell c a) (ramt a) (sum_r c a (Finset.mem_Ico.1 ha).2) c _ rfl)

/-! ## Places -/

/-- The place of arrival a, free, and its cell open. -/
def free (c : Dev nD) (a : ℕ) : sProp 𝕄 :=
  iprop(place c (decide (2 ≤ a % 4)) (rorg c a) (rr a) ∗ reached ER (rcell c a) 0)

theorem give_one (c t : Dev nD) :
    iprop(reached ER (endC c) 0 ∗ bigSep ((Finset.Ico 0 60).filter fun a => from_ c a = t) (free (F := F) c)) ⊢ give c t := by
  unfold give
  rw [bigSep_filter_split ((Finset.Ico 15 90).filter fun i => pdev t i = c) (fun i => i < 75)]
  have hm : ∀ i ∈ ((Finset.Ico 15 90).filter fun i => pdev t i = c).filter (fun i => i < 75), 15 ≤ i ∧ i < 75 ∧ pdev t i = c := fun i hi => by
    have h1 := Finset.mem_filter.1 hi; have h2 := Finset.mem_filter.1 h1.1; have h3 := Finset.mem_Ico.1 h2.1
    exact ⟨h3.1, h1.2, h2.2⟩
  have hinj : Set.InjOn (anum t) (((Finset.Ico 15 90).filter fun i => pdev t i = c).filter (fun i => i < 75) : Finset ℕ) := fun i hi j hj h => by
    obtain ⟨i1, i2, i3⟩ := hm i hi
    obtain ⟨j1, j2, j3⟩ := hm j hj
    obtain ⟨-, -, m3, -⟩ := match_all t ⟨i, i2⟩ i1
    obtain ⟨-, -, n3, -⟩ := match_all t ⟨j, j2⟩ j1
    dsimp only at m3 n3
    rw [i3] at m3; rw [j3] at n3
    rw [← m3, ← n3, h]
  have hA : bigSep ((Finset.Ico 0 60).filter fun a => from_ c a = t) (free (F := F) c)
      ⊢ bigSep (((Finset.Ico 15 90).filter fun i => pdev t i = c).filter fun i => i < 75) (fun i => dstFree (F := F) t i) := by
    refine (bigSep_subset (t := (((Finset.Ico 15 90).filter fun i => pdev t i = c).filter fun i => i < 75).image (anum t)) fun a ha => ?_).trans ?_
    · obtain ⟨i, hi, rfl⟩ := Finset.mem_image.1 ha
      obtain ⟨i1, i2, i3⟩ := hm i hi
      obtain ⟨m1, m2, -⟩ := match_all t ⟨i, i2⟩ i1
      dsimp only at m1 m2
      rw [i3] at m2
      exact Finset.mem_filter.2 ⟨Finset.mem_Ico.2 ⟨Nat.zero_le _, m1⟩, m2⟩
    · rw [bigSep_image_of_injOn hinj]
      refine bigSep_mono fun i hi => ent ?_
      obtain ⟨i1, i2, i3⟩ := hm i hi
      obtain ⟨-, -, -, m4, m5, m6, m7⟩ := match_all t ⟨i, i2⟩ i1
      dsimp only at m4 m5 m6 m7
      unfold free dstFree
      rw [if_pos i2, i3, ← m5, ← m4, i3, show decide (2 ≤ anum t i % 4) = decide (i < 45) from decide_eq_decide.2 (by omega), m7, i3]
  have hB : (reached ER (endC c) 0 : sProp 𝕄)
      ⊢ bigSep (((Finset.Ico 15 90).filter fun i => pdev t i = c).filter fun i => ¬ i < 75) (fun i => dstFree (F := F) t i) := by
    refine (bigSep_of_persistent _ _).trans (bigSep_mono fun i hi => ent ?_)
    have h1 := Finset.mem_filter.1 hi; have h2 := Finset.mem_filter.1 h1.1; have h3 := Finset.mem_Ico.1 h2.1
    unfold dstFree
    rw [if_neg h1.2]
    unfold pcell
    rw [if_neg (by omega), if_neg (by omega), if_neg h1.2, h2.2]
  exact (BIClass.sep_mono hB hA).trans (Laws.sep_comm).1

theorem give_intro (c : Dev nD) :
    iprop(reached ER (endC c) 0 ∗ bigSep (Finset.Ico 0 60) (free (F := F) c)) ⊢ gv c 0 := by
  unfold gv
  rw [bigSep_fiberwise (Finset.Ico 0 60) (from_ c), from_image, by_sh]
  refine bigSep_with_persistent fun k hk => ?_
  rw [show pdev c k = sh c (k + 1) from if_pos (Finset.mem_Ico.1 hk).2]
  exact give_one c _

end Cert.Proof
-- ==== Proof.Open.lean ====
/-
  A device from the opening of its cells to their close: the whole program between what the launch gives and what is returned.
-/
module

public import proofs.«01_k».proof.Proof.Cut
public import proofs.«01_k».proof.Proof.Deal

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Facts₀

variable {F : FTy → Type} [FloatOps F]

local notation "𝕄" => MT nD τ sig Unit (Elt F) ℕ UU ℕ

variable (xs : Dev nD → Vec F S4096x256 .fp8e4m3) (ws : Dev nD → Vec F S2x256x4096 .fp8e5m2) (su sv : Dev nD → Vec F S1 .f32)
variable (K : GSem nD τ sig → ℕ) (c : Dev nD)

/-- What everyone knows from the launch on: the cells, and that the barriers are open. -/
def recs : sProp 𝕄 :=
  iprop((bigSep cells fun g => cellInv ER (rd xs ws) (K g) g) ∗ bigSep Finset.univ fun d : Dev nD => reached ER (barC d) 0)
instance recs_persistent : BI.Persistent (recs xs ws K) := by unfold recs; infer_instance

/-- The tokens of a device. -/
def toks2 : sProp 𝕄 := iprop(bigSep (Finset.Ico 0 90) (fun i => dutyTok ER (pcell c i) 0 (pduty c i))
    ∗ bigSep (Finset.Ico 15 75) (fun i => dutyTok ER (scell c i) 0 0))
/-- Its credit. -/
def creds3 : sProp 𝕄 := iprop(cred (tallyAt (barC c) () 15) ∗ cred (tallyAt (endC c) () 15)
    ∗ bigSep (Finset.Ico 0 60) fun a => cred (tallyAt (rcell c a) () (ramt a)))
/-- Its position at the barrier and the right to open its own cells. -/
def seats : sProp 𝕄 := iprop(atPos ER (barC c) 0 ∅ 0 ∗ bigSep Finset.univ fun k : Fin 129 => openTok ER ((c : Thread nD τ), osem k))

/-- What a device has from the launch. -/
def dealt : sProp 𝕄 := iprop(∃ K, recs xs ws K ∗ seats c ∗ toks2 c ∗ creds3 c)

/-- What it has once its cells are open. -/
def opened : sProp 𝕄 :=
  iprop(ctx xs ws K ∗ (bigSep (Finset.Ico 0 90) fun i => dutyTok ER (pcell c i) 0 (pduty c i))
    ∗ tk c 15 ∗ ((bigSep (Finset.Ico 0 60) fun a => reached ER (rcell c a) 0) ∗ reached ER (endC c) 0)
    ∗ rp c 0 ∗ sp c 15 ∗ tail c ∗ cred (tallyAt (barC c) () 15) ∗ atPos ER (barC c) 0 ∅ 0
    ∗ bigSep (Finset.Ico 0 8) fun k => semVal (ucell c k) 0)

theorem open_run (S : Finset ℕ) (f : ℕ → GSem nD τ sig) (hf : ∀ i, f i ∈ cells) :
    iprop(ctx xs ws K ∗ (bigSep S (fun i => openTok ER (f i)) ∗ bigSep S fun i => semVal (f i) 0))
      ⊢ iprop(|={Set.univ}=> bigSep S fun i => iprop(atPos ER (f i) 0 ∅ 0 ∗ reached ER (f i) 0)) := by
  rw [← sep2]
  refine BIBase.Entails.trans ?_ (bigSep_fupd S _)
  refine bigSep_with_persistent fun i _ => ?_
  iintro ⟨#Hc, Ho, Hv⟩
  iapply (Rounds.cell_open ER (rd xs ws) (g := f i) (Set.mem_univ (K (f i))))
  isplitr; · iapply (ctx_inv xs ws K _ (hf i)); iexact Hc
  isplitl [Ho]; · iexact Ho
  iexact Hv

theorem hopen : iprop(dealt xs ws c ∗ Pipeline.ownSems0 osem c ∗ levAts L lv) ⊢ (|={Set.univ}=> (∃ K, opened xs ws K c) : sProp 𝕄) := by
  have e1 : (Pipeline.ownSems0 osem c : sProp 𝕄) = _ := own_all c (fun g => (semVal g 0 : sProp 𝕄))
  have e2 := own_all c (fun g => (openTok ER g : sProp 𝕄))
  have hr (K : GSem nD τ sig → ℕ) : iprop(recs xs ws K ∗ levAts L lv) ⊢ ctx xs ws K := by
    unfold recs ctx levs
    iintro ⟨⟨H1, H2⟩, H3⟩
    isplitl [H1]; · iexact H1
    isplitl [H3]; · iexact H3
    iexact H2
  unfold dealt seats toks2 creds3
  iintro ⟨⟨%K, #Hr, ⟨Hb, Ho⟩, ⟨T1, T2⟩, C1, C2, C3⟩, Hs, #Hl⟩
  ihave Hs := (ent e1) $$ Hs
  ihave Ho := (ent e2) $$ Ho
  icases Hs with ⟨S1, S2, S3, S4⟩
  icases Ho with ⟨O1, O2, -, O4⟩
  ihave #Hc := (hr K) $$ [Hr Hl]
  · isplitr; · iexact Hr
    iexact Hl
  imod (open_run xs ws K (Finset.Ico 0 60) (rcell c) (rcell_mem c)) $$ [S1 O1] with H1
  · isplitr; · iexact Hc
    isplitl [O1]; · iexact O1
    iexact S1
  imod (open_run xs ws K (Finset.Ico 15 75) (scell c) (scell_mem c)) $$ [S2 O2] with H2
  · isplitr; · iexact Hc
    isplitl [O2]; · iexact O2
    iexact S2
  imod (Rounds.cell_open ER (rd xs ws) (g := endC c) (Set.mem_univ (K (endC c)))) $$ [S4 O4] with ⟨H3, H4⟩
  · isplitr; · iapply (ctx_inv xs ws K _ (reg_mem c endS)); iexact Hc
    isplitl [O4]; · iexact O4
    iexact S4
  ihave H1 := (ent (sep2 _ _ _)) $$ H1
  ihave H2 := (ent (sep2 _ _ _)) $$ H2
  icases H1 with ⟨A1, R1⟩
  icases H2 with ⟨A2, R2⟩
  imodintro
  iexists K
  unfold opened tk rp sp tail
  isplitr; · iexact Hc
  isplitl [T1]; · iexact T1
  isplitl [T2 R2]
  · iapply (ent (sep2 _ _ _).symm)
    isplitl [T2]; · iexact T2
    iexact R2
  isplitl [R1 H4]
  · isplitl [R1]; · iexact R1
    iexact H4
  isplitl [C3 A1]
  · iapply (ent (sep2 _ _ _).symm)
    isplitl [C3]; · iexact C3
    iexact A1
  isplitl [A2]; · iexact A2
  isplitl [C2 H3]
  · isplitl [C2]; · iexact C2
    iexact H3
  isplitl [C1]; · iexact C1
  isplitl [Hb]; · iexact Hb
  iexact S3

local notation "WP" => wp frame (wpE (defs₀ (F := F)) 𝒱₀ (c : Thread nD τ) none) Set.univ

/-- What it holds at the end. -/
def closed : sProp 𝕄 :=
  iprop((∃ W, owes (c : Thread nD τ) (0 : CellTallies nD τ sig Unit) W) ∗ bufs2 c ∗ Pipeline.ownSems0 osem c ∗ semVal (barC c) 0
    ∗ ins c xs ws ∗ oH c (result xs ws su sv c) ∗ uH c su fullShare ∗ vH c sv fullShare)

theorem free_eq : iprop(places c ∗ bigSep (Finset.Ico 0 60) (fun a => reached ER (rcell c a) 0)) = bigSep (Finset.Ico 0 60) (free (F := F) c) := by
  unfold places free
  rw [sep2]

theorem dev_pre (W : Waits sig Unit) (f : Vec F S256x8192 .f32) :
    iprop(opened xs ws K c ∗ bufs2 c ∗ owes (c : Thread nD τ) (owed c 0) W ∗ ins c xs ws ∗ oH c f ∗ uH c su fullShare ∗ vH c sv fullShare)
      ⊢ iprop(pre xs ws su sv K c f ∗ (rest c xs ws ∗ spare c ∗ bigSep (Finset.Ico 0 8) fun k => semVal (ucell c k) 0)) := by
  rw [ins_eq]
  unfold opened pre ow cs gt bk
  rw [show Finset.Ico 0 0 = (∅ : Finset ℕ) from Finset.Ico_self _, show Finset.Ico 15 15 = (∅ : Finset ℕ) from Finset.Ico_self _, bigSep_empty, bigSep_empty, bigSep_empty]
  iintro ⟨⟨Hc, T, Htk, ⟨R1, R2⟩, Hrp, Hsp, Ht, C, A, U⟩, Hb, HO, ⟨S, O, Z⟩, HH, Hu, Hv⟩
  ihave Hb := (places_open (F := F) c) $$ Hb
  icases Hb with ⟨P, Q⟩
  ihave P := (ent (free_eq (F := F) c)) $$ [P R1]
  · isplitl [P]; · iexact P
    iexact R1
  ihave G := (give_intro (F := F) c) $$ [P R2]
  · isplitl [R2]; · iexact R2
    iexact P
  isplitr [Z Q U]
  · isplitl [Hc]; · iexact Hc
    isplitl [HO T]
    · isplitl [HO]; · iexists W; iexact HO
      iexact T
    isplitl [G]; · iexact G
    isplitr [C A]
    · isplitl [Htk]; · iexact Htk
      isplitr; · iempintro
      isplitl [S]; · iexact S
      isplitl [Hrp]; · iexact Hrp
      isplitr; · iempintro
      isplitl [Hsp]; · iexact Hsp
      isplitr; · iempintro
      isplitl [HH]; · iexact HH
      isplitl [Hu]; · iexact Hu
      isplitl [Hv]; · iexact Hv
      isplitl [O]; · iexact O
      iexact Ht
    isplitl [C]; · iexact C
    iexact A
  isplitl [Z]; · iexact Z
  isplitl [Q]; · iexact Q
  iexact U

theorem dev_post :
    iprop(post xs ws su sv K c ∗ (rest c xs ws ∗ spare c ∗ bigSep (Finset.Ico 0 8) fun k => semVal (ucell c k) 0)) ⊢ closed xs ws su sv c := by
  have e1 : (Pipeline.ownSems0 osem c : sProp 𝕄) = _ := own_all c (fun g => (semVal g 0 : sProp 𝕄))
  have e0 : owed c 90 = 0 := by unfold owed; rw [Finset.Ico_self, Finset.sum_empty]
  unfold post closed ow
  rw [e0, e1]
  iintro ⟨⟨-, ⟨HO, -⟩, ⟨Hbk, Hgt, HH, Hu, Hv, O, B⟩, E⟩, R, S, U⟩
  ihave H := (back c xs ws) $$ [Hbk Hgt O R S]
  · isplitl [Hbk Hgt]
    · isplitl [Hbk]; · iexact Hbk
      iexact Hgt
    isplitl [O]; · iexact O
    isplitl [R]; · iexact R
    iexact S
  icases H with ⟨I, P, Z1, Z2⟩
  isplitl [HO]; · iexact HO
  isplitl [P]; · iexact P
  isplitl [Z1 Z2 U E]
  · isplitl [Z1]; · iexact Z1
    isplitl [Z2]; · iexact Z2
    isplitl [U]; · iexact U
    iexact E
  isplitl [B]; · iexact B
  isplitl [I]; · iexact I
  isplitl [HH]; · iexact HH
  isplitl [Hu]; · iexact Hu
  iexact Hv

/-- A device's program, from the opening of its cells to the end. -/
theorem dev_run (W : Waits sig Unit) (f : Vec F S256x8192 .f32) :
    iprop(opened xs ws K c ∗ bufs2 c ∗ owes (c : Thread nD τ) (owed c 0) W ∗ ins c xs ws ∗ oH c f ∗ uH c su fullShare ∗ vH c sv fullShare)
      ⊢ WP (cc0_body (F := F) xM (Memref.isWhole_whole _) wM (Memref.isWhole_whole _) uM (Memref.isWhole_whole _) vM (Memref.isWhole_whole _)
          oM (Memref.isWhole_whole _) wbM (Memref.isWhole_whole _) xtM (Memref.isWhole_whole _)
          cc0_scratch2 cc0_scratch3 cc0_scratch4 cc0_scratch5 cc0_scoped0) (fun _ => closed xs ws su sv c) := by
  refine (dev_pre xs ws su sv K c W f).trans ?_
  refine BIBase.Entails.trans (sep_mono_left (body xs ws su sv K c f)) ?_
  exact (wp_frame_r _ _ _).trans (wp_mono _ _ _ fun _ => dev_post xs ws su sv K c)

end Cert.Proof
-- ==== Proof.Region.lean ====
/-
  The kernel between the arrays of a device before it and after it.
-/
module

public import proofs.«01_k».proof.Proof.Open
public import Idealize.ShloMosaic.Lib.Pipeline.ValueKit.Geometry

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)
open Cert.KernelIdeal Cert.KernelIdeal.Facts₀

variable {F : FTy → Type} [FloatOps F]

local notation "𝕄" => MT nD τ sig Unit (Elt F) ℕ UU ℕ

variable (m : (l : Loc nD τ sig) → Buf (Elt F) l) (c : Dev nD)

/-! ## The arrays -/

/-- What the host does first: the two halves of the weights, stacked. -/
def ops : List (HloOp τ sig (Elt F)) :=
  [StableHlo.unary main_arg1 main_v1 ((extractStridedSlice S256x4096 ![0, 0] · slices_S256x8192_S256x4096_0_0) : (⟨S256x8192, .fp8e5m2⟩ : BufTy).Contents (Elt F) → (⟨S256x4096, .fp8e5m2⟩ : BufTy).Contents (Elt F)),
   StableHlo.unary main_arg1 main_v2 ((extractStridedSlice S256x4096 ![0, 4096] · slices_S256x8192_S256x4096_0_4096) : (⟨S256x8192, .fp8e5m2⟩ : BufTy).Contents (Elt F) → (⟨S256x4096, .fp8e5m2⟩ : BufTy).Contents (Elt F)),
   StableHlo.unary main_v1 main_v3 (broadcastInDim S1x256x4096 ![1, 2] bcast_S256x4096_S1x256x4096_1_2 : (⟨S256x4096, .fp8e5m2⟩ : BufTy).Contents (Elt F) → (⟨S1x256x4096, .fp8e5m2⟩ : BufTy).Contents (Elt F)),
   StableHlo.unary main_v2 main_v4 (broadcastInDim S1x256x4096 ![1, 2] bcast_S256x4096_S1x256x4096_1_2 : (⟨S256x4096, .fp8e5m2⟩ : BufTy).Contents (Elt F) → (⟨S1x256x4096, .fp8e5m2⟩ : BufTy).Contents (Elt F)),
   StableHlo.binary main_v3 main_v4 main_v5 ((fun a b => concatenate S2x256x4096 0 [⟨S1x256x4096, a⟩, ⟨S1x256x4096, b⟩] concatenates_S1x256x4096_S1x256x4096_S2x256x4096_d0) : (⟨S1x256x4096, .fp8e5m2⟩ : BufTy).Contents (Elt F) → (⟨S1x256x4096, .fp8e5m2⟩ : BufTy).Contents (Elt F) → (⟨S2x256x4096, .fp8e5m2⟩ : BufTy).Contents (Elt F))]

def V₀ : Valuation τ sig (Elt F) := fun b => m (c, b)
def V₁ : Valuation τ sig (Elt F) := StableHlo.after ops (V₀ m c)
def xsOf (c : Dev nD) : Vec F S4096x256 .fp8e4m3 := V₁ m c (Proc.devRef .tc main_arg0)
def wsOf (c : Dev nD) : Vec F S2x256x4096 .fp8e5m2 := V₁ m c (Proc.devRef .tc main_v5)
def suOf (c : Dev nD) : Vec F S1 .f32 := V₁ m c (Proc.devRef .tc main_arg2)
def svOf (c : Dev nD) : Vec F S1 .f32 := V₁ m c (Proc.devRef .tc main_arg3)
def outOf : Vec F S256x8192 .f32 := result (xsOf m) (wsOf m) (suOf m) (svOf m) c
def V₂ : Valuation τ sig (Elt F) := Function.update (V₁ m c) (Proc.devRef .tc main_v6) (outOf m c)

/-! ## The proof data -/

def Φ₀ : sProp 𝕄 := iprop((∃ K, opened (xsOf m) (wsOf m) K c) ∗ bufs2 c ∗ ∃ r, prngReg c r)
def Φ₁ : sProp 𝕄 := iprop(bufs2 c ∗ (∃ r, prngReg c r) ∗ Pipeline.ownSems0 osem c ∗ semVal (barC c) 0)

def dat (c : Dev nD) : Dat τ (Elt F) Unit ℕ UU ℕ cfg0 c where
  A w := V₁ m c ((cfg0.win w).arr.view.loc (c : Thread nD τ)).2
  after w _ := match w with
    | ⟨0, _⟩ => xsOf m c
    | ⟨1, _⟩ => wsOf m c
    | ⟨2, _⟩ => suOf m c
    | ⟨3, _⟩ => svOf m c
    | ⟨4, _⟩ => outOf m c
  Φ t := if t.val = 0 then Φ₀ m c else Φ₁ c
  q _ := fullShare
  owed t := if t.val = 0 then owed c 0 else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ c => dat m c

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ
    = iprop(Φ (0 : Fin 5) ∗ Φ (1 : Fin 5) ∗ Φ (2 : Fin 5) ∗ Φ (3 : Fin 5) ∗ Φ (4 : Fin 5)) :=
  bigSep_univ_eq_bigSepL [(0 : Fin 5), 1, 2, 3, 4] (by decide) (by decide) Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

theorem owed_first : (dat (F := F) m c).owed t₀.castSucc = owed c 0 := by
  show (if (t₀.castSucc : Fin (cfg0.N + 1)).val = 0 then owed c 0 else 0) = owed c 0; exact if_pos rfl
theorem owed_last : (pdats (F := F) m 0 c).owed (Fin.last _) = 0 := by
  show (if (Fin.last cfg0.N).val = 0 then owed c 0 else 0) = 0
  rw [Fin.val_last, if_neg (by rw [show cfg0.N = 1 from cfg0_N]; decide)]
theorem owed_zero : (pdats (F := F) m 0 c).owed 0 = owed c 0 := by
  show (if ((0 : Fin (cfg0.N + 1)).val = 0) then owed c 0 else 0) = owed c 0; exact if_pos rfl

theorem phi_first : (dat (F := F) m c).Φ t₀.castSucc = Φ₀ m c := by
  show (if (t₀.castSucc : Fin (cfg0.N + 1)).val = 0 then Φ₀ m c else Φ₁ c) = Φ₀ m c; exact if_pos rfl
theorem phi_succ : (dat (F := F) m c).Φ t₀.succ = Φ₁ c := by
  show (if (t₀.succ : Fin (cfg0.N + 1)).val = 0 then Φ₀ m c else Φ₁ c) = Φ₁ c; exact if_neg (Nat.succ_ne_zero _)
theorem owed_succ : (dat (F := F) m c).owed t₀.succ = 0 := by
  show (if (t₀.succ : Fin (cfg0.N + 1)).val = 0 then owed c 0 else 0) = 0; exact if_neg (Nat.succ_ne_zero _)
theorem phi_zero : (pdats (F := F) m 0 c).Φ 0 = Φ₀ m c := by
  show (if ((0 : Fin (cfg0.N + 1)).val = 0) then Φ₀ m c else Φ₁ c) = Φ₀ m c; exact if_pos rfl
theorem phi_last : (pdats (F := F) m 0 c).Φ (Fin.last _) = Φ₁ c := by
  show (if (Fin.last cfg0.N).val = 0 then Φ₀ m c else Φ₁ c) = Φ₁ c
  rw [Fin.val_last, if_neg (by rw [show cfg0.N = 1 from cfg0_N]; decide)]

theorem owes_in {d : Dat τ (Elt F) Unit ℕ UU ℕ cfg0 c} (t : Fin (cfg0.N + 1)) (O : CellTallies nD τ sig Unit) (h : d.owed t = O)
    (hr : d.recorded t = Set.univ) : iprop(∃ W, owes (c : Thread nD τ) O W) ⊢ (d.owesAt () t : sProp 𝕄) := by
  unfold Dat.owesAt Pipeline.owesWithin Dat.bound; rw [h, hr]
  iintro ⟨%W, HO⟩; iexists W
  isplitr; · ipureintro; exact fun _ _ => Or.inl trivial
  iexact HO
theorem owes_out {d : Dat τ (Elt F) Unit ℕ UU ℕ cfg0 c} (t : Fin (cfg0.N + 1)) (O : CellTallies nD τ sig Unit) (h : d.owed t = O) :
    (d.owesAt () t : sProp 𝕄) ⊢ iprop(∃ W, owes (c : Thread nD τ) O W) := by
  unfold Dat.owesAt Pipeline.owesWithin; rw [h]
  iintro ⟨%W, -, HO⟩; iexists W; iexact HO

/-- The staged buffers before the kernel, and after it. -/
def staged (f : Vec F S256x8192 .f32) : sProp 𝕄 :=
  iprop(stg c cc0_stg0_0 (xsOf m c) ∗ stg c cc0_stg1_0 (wsOf m c) ∗ stg c cc0_stg2_0 (suOf m c) ∗ stg c cc0_stg3_0 (svOf m c) ∗ stg c cc0_stg4_0 f)

theorem staged_open (f : Vec F S256x8192 .f32) : staged m c f
    = iprop(ins c (xsOf m) (wsOf m) ∗ oH c f ∗ uH c (suOf m) fullShare ∗ vH c (svOf m) fullShare) := by
  unfold staged stg ins oH uH vH
  refine eqv ?_ ?_
  · iintro ⟨⟨%f0, %h0, H0⟩, ⟨%f1, %h1, H1⟩, ⟨%f2, %h2, H2⟩, ⟨%f3, %h3, H3⟩, ⟨%f4, %h4, H4⟩⟩
    subst h0 h1 h2 h3 h4
    isplitl [H0 H1]
    · isplitl [H0]; · iexact H0
      iexact H1
    isplitl [H4]; · iexact H4
    isplitl [H2]; · iexact H2
    iexact H3
  · iintro ⟨⟨H0, H1⟩, H4, H2, H3⟩
    isplitl [H0]
    · iexists _; isplitr; · (ipureintro; rfl)
      iexact H0
    isplitl [H1]
    · iexists _; isplitr; · (ipureintro; rfl)
      iexact H1
    isplitl [H2]
    · iexists _; isplitr; · (ipureintro; rfl)
      iexact H2
    isplitl [H3]
    · iexists _; isplitr; · (ipureintro; rfl)
      iexact H3
    iexists _; isplitr; · (ipureintro; rfl)
    iexact H4

theorem index_zero (w : Fin 5) (a) : (win0 w).index t₀ a = 0 := by
  revert a; revert w
  decide

/-- The block of a window is its array. -/
theorem blk_emb (w : Fin 5) (y : ((cfg0.win w).xblock (cfg0.grid.coords t₀)).Idx) :
    ((cfg0.win w).blk t₀).view.emb y
      = (cfg0.win w).arr.view.emb fun a => ⟨y a, by
          have h := (((cfg0.win w).rect t₀).emb y a).isLt
          rwa [Pipeline.Window.rect_emb_val_of_index_zero _ _ _ (index_zero w a)] at h⟩ := by
  show (cfg0.win w).arr.view.emb (((cfg0.win w).rect t₀).emb y) = _
  congr 1; funext a; apply Fin.ext
  rw [Pipeline.Window.rect_emb_val_of_index_zero _ _ _ (index_zero w a)]

theorem before0 (d) : (dat (F := F) m c).before (0 : Fin 5) t₀ d = xsOf m c := by
  unfold Dat.before; rw [if_pos (show (cfg0.win (0 : Fin 5)).fetch t₀ = true from rfl)]
  exact funext fun y => congrArg (xsOf m c) (blk_emb (0 : Fin 5) y)
theorem before1 (d) : (dat (F := F) m c).before (1 : Fin 5) t₀ d = wsOf m c := by
  unfold Dat.before; rw [if_pos (show (cfg0.win (1 : Fin 5)).fetch t₀ = true from rfl)]
  exact funext fun y => congrArg (wsOf m c) (blk_emb (1 : Fin 5) y)
theorem before2 (d) : (dat (F := F) m c).before (2 : Fin 5) t₀ d = suOf m c := by
  unfold Dat.before; rw [if_pos (show (cfg0.win (2 : Fin 5)).fetch t₀ = true from rfl)]
  exact funext fun y => congrArg (suOf m c) (blk_emb (2 : Fin 5) y)
theorem before3 (d) : (dat (F := F) m c).before (3 : Fin 5) t₀ d = svOf m c := by
  unfold Dat.before; rw [if_pos (show (cfg0.win (3 : Fin 5)).fetch t₀ = true from rfl)]
  exact funext fun y => congrArg (svOf m c) (blk_emb (3 : Fin 5) y)

set_option maxRecDepth 200000 in
theorem body_obligation : BodyObligation (dat (F := F) m c) defs₀ 𝒱₀ () Set.univ := fun t => by
  rw [fin_N t]
  rw [bigSep_W, bigSep_W]
  simp only [owns_whole_eq]
  show iprop((dat (F := F) m c).Φ t₀.castSucc ∗ (dat (F := F) m c).owesAt () t₀.castSucc
      ∗ (∃ d, stg c cc0_stg0_0 ((dat (F := F) m c).before (0 : Fin 5) t₀ d)) ∗ (∃ d, stg c cc0_stg1_0 ((dat (F := F) m c).before (1 : Fin 5) t₀ d))
      ∗ (∃ d, stg c cc0_stg2_0 ((dat (F := F) m c).before (2 : Fin 5) t₀ d)) ∗ (∃ d, stg c cc0_stg3_0 ((dat (F := F) m c).before (3 : Fin 5) t₀ d))
      ∗ (∃ d, stg c cc0_stg4_0 ((dat (F := F) m c).before (4 : Fin 5) t₀ d)))
    ⊢ wp frame (wpE (defs₀ (F := F)) 𝒱₀ (c : Thread nD τ) none) Set.univ
        (cc0_body (F := F) xM (Memref.isWhole_whole _) wM (Memref.isWhole_whole _) uM (Memref.isWhole_whole _) vM (Memref.isWhole_whole _)
          oM (Memref.isWhole_whole _) wbM (Memref.isWhole_whole _) xtM (Memref.isWhole_whole _)
          cc0_scratch2 cc0_scratch3 cc0_scratch4 cc0_scratch5 cc0_scoped0)
        (fun _ => iprop((dat (F := F) m c).Φ t₀.succ ∗ (dat (F := F) m c).owesAt () t₀.succ ∗ staged m c (outOf m c)))
  have hpre : iprop((dat (F := F) m c).Φ t₀.castSucc ∗ (dat (F := F) m c).owesAt () t₀.castSucc
      ∗ (∃ d, stg c cc0_stg0_0 ((dat (F := F) m c).before (0 : Fin 5) t₀ d)) ∗ (∃ d, stg c cc0_stg1_0 ((dat (F := F) m c).before (1 : Fin 5) t₀ d))
      ∗ (∃ d, stg c cc0_stg2_0 ((dat (F := F) m c).before (2 : Fin 5) t₀ d)) ∗ (∃ d, stg c cc0_stg3_0 ((dat (F := F) m c).before (3 : Fin 5) t₀ d))
      ∗ (∃ d, stg c cc0_stg4_0 ((dat (F := F) m c).before (4 : Fin 5) t₀ d)))
    ⊢ iprop(∃ K W f, (opened (xsOf m) (wsOf m) K c ∗ bufs2 c ∗ owes (c : Thread nD τ) (owed c 0) W ∗ ins c (xsOf m) (wsOf m) ∗ oH c f
        ∗ uH c (suOf m) fullShare ∗ vH c (svOf m) fullShare) ∗ ∃ r, prngReg c r) := by
    rw [phi_first]
    unfold Φ₀
    iintro ⟨⟨⟨%K, Hg⟩, Hb, Hr⟩, Ho, ⟨%d0, H0⟩, ⟨%d1, H1⟩, ⟨%d2, H2⟩, ⟨%d3, H3⟩, ⟨%d4, H4⟩⟩
    rw [before0, before1, before2, before3]
    ihave Ho := (owes_out (F := F) c (d := dat m c) t₀.castSucc (owed c 0) (owed_first m c)) $$ Ho
    icases Ho with ⟨%W, Ho⟩
    ihave H := (ent (staged_open m c ((dat (F := F) m c).before (4 : Fin 5) t₀ d4))) $$ [H0 H1 H2 H3 H4]
    · unfold staged
      isplitl [H0]; · iexact H0
      isplitl [H1]; · iexact H1
      isplitl [H2]; · iexact H2
      isplitl [H3]; · iexact H3
      iexact H4
    icases H with ⟨Hi, HH, Hu, Hv⟩
    iexists K, W, ((dat (F := F) m c).before (4 : Fin 5) t₀ d4)
    isplitr [Hr]
    · isplitl [Hg]; · iexact Hg
      isplitl [Hb]; · iexact Hb
      isplitl [Ho]; · iexact Ho
      isplitl [Hi]; · iexact Hi
      isplitl [HH]; · iexact HH
      isplitl [Hu]; · iexact Hu
      iexact Hv
    iexact Hr
  have hpost : iprop(closed (xsOf m) (wsOf m) (suOf m) (svOf m) c ∗ ∃ r, prngReg c r)
      ⊢ iprop((dat (F := F) m c).Φ t₀.succ ∗ (dat (F := F) m c).owesAt () t₀.succ ∗ staged m c (outOf m c)) := by
    rw [staged_open, phi_succ]
    unfold closed Φ₁ outOf
    iintro ⟨⟨HO, Hb, Hs, Hz, Hi, HH, Hu, Hv⟩, Hr⟩
    isplitl [Hb Hr Hs Hz]
    · isplitl [Hb]; · iexact Hb
      isplitl [Hr]; · iexact Hr
      isplitl [Hs]; · iexact Hs
      iexact Hz
    isplitl [HO]; · iapply (owes_in (F := F) c (d := dat m c) t₀.succ 0 (owed_succ m c) rfl); iexact HO
    isplitl [Hi]; · iexact Hi
    isplitl [HH]; · iexact HH
    isplitl [Hu]; · iexact Hu
    iexact Hv
  refine hpre.trans ?_
  refine exists_elim fun K => exists_elim fun W => exists_elim fun f => ?_
  refine BIBase.Entails.trans (sep_mono_left (dev_run (xsOf m) (wsOf m) (suOf m) (svOf m) K c W f)) ?_
  exact (wp_frame_r _ _ _).trans (wp_mono _ _ _ fun _ => hpost)

/-! ## The region -/

theorem scopedRest_eq : (Pipeline.scopedRest (Ix := Unit) (Name := ℕ) (U := UU) (Lvl := ℕ) (Val := Elt F) (Pipeline.pin (pcfgs (F := F)) adm 0).spec c : sProp 𝕄)
    = bufs2 c :=
  Pipeline.scopedRest_eq_of_list spec0 c [cc0_scratch0, cc0_scratch1] (by decide) (by decide)

theorem cellOf_inj : Function.Injective (Pipeline.cellOf (nD := nD) (τ := τ) (Pipeline.pin (pcfgs (F := F)) adm)) :=
  Pipeline.cellOf_injective _ (fun _ => (by decide : Pipeline.SpecSemsDistinct spec0))
    (fun p p' h => absurd (Subsingleton.elim p p') h)

theorem kitP : Pipeline.PLaunchFacts (nD := nD) (τ := τ) (pcfgs (F := F)) 0 where
  cellOf_inj a := by rw [Subsingleton.elim a adm]; exact cellOf_inj
  win := (by decide : Pipeline.WinFacts spec0)
  pre := Pipeline.PreFacts.none _
  block_pos := (by decide : ∀ w : Fin 5, 0 < (spec0 w).block.numel)
  arr_whole w := match w with
    | ⟨0, _⟩ => Memref.isWhole_whole _
    | ⟨1, _⟩ => Memref.isWhole_whole _
    | ⟨2, _⟩ => Memref.isWhole_whole _
    | ⟨3, _⟩ => Memref.isWhole_whole _
    | ⟨4, _⟩ => Memref.isWhole_whole _
  stage_whole w s := match w with
    | ⟨0, _⟩ => hstage0_0 0
    | ⟨1, _⟩ => hstage0_1 0
    | ⟨2, _⟩ => hstage0_2 0
    | ⟨3, _⟩ => hstage0_3 0
    | ⟨4, _⟩ => hstage0_4 0

theorem share_eq (w : Fin cfg0.W) : (dat (F := F) m c).share w = fullShare := by unfold Dat.share; split <;> rfl

theorem cut_owed (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then owed c 0 else 0 := rfl
  rw [e] at h
  split at h
  · obtain ⟨k, -, hk, rfl⟩ := owed_pos c 0 g i h
    refine ⟨by unfold L; rw [if_pos (pcell_tc c ⟨k, hk⟩)]; exact Finset.mem_singleton_self _, ?_⟩
    rw [lv_p c ⟨k, hk⟩]
    unfold plev
    split; · decide
    split; · decide
    split; · exact Nat.lt_of_lt_of_le (by decide) (Nat.le_add_right 3 _)
    decide
  · exact absurd h (Nat.lt_irrefl 0)

theorem lv_stage (w : Fin cfg0.W) (s : Fin (cfg0.win w).nbuf) : lv ((c : Thread nD τ), .dma ((cfg0.win w).sem s)) () ≤ 0 := by
  revert s; revert w
  show ∀ (w : Fin 5) (s : Fin (win0 w).nbuf), (if ((win0 w).sem s).val < 5 then 0 else _) ≤ 0
  intro w s
  rw [if_pos]
  revert s; revert w
  decide

theorem arr_first (w : Fin cfg0.W) : (dat (F := F) m c).arrAt w 0 = V₁ m c (Proc.devRef .tc (Pipeline.arrRef spec0 w)) := rfl

theorem V₂_of_ne (b : Ref sig .tc) (h : b ≠ main_v6) : V₂ m c (Proc.devRef .tc b) = V₁ m c (Proc.devRef .tc b) := by
  unfold V₂
  exact Function.update_of_ne (fun e => h (Proc.devRef_injective _ e)) _ _
theorem V₂_out : V₂ m c (Proc.devRef .tc main_v6) = outOf m c := by
  unfold V₂
  exact Function.update_self _ _ _

theorem out_whole : (cfg0.win (4 : Fin 5)).WholeAt t₀ := by decide +kernel

theorem arr_out : (dat (F := F) m c).arrAt (4 : Fin 5) cfg0.N = outOf m c :=
  (dat (F := F) m c).arrAt_eq_of_after_last (4 : Fin 5) t₀ out_whole (outOf m c) fun _ => rfl

theorem arr_last (w : Fin cfg0.W) : (dat (F := F) m c).arrAt w cfg0.N = V₂ m c (Proc.devRef .tc (Pipeline.arrRef spec0 w)) := by
  match w with
  | ⟨0, _⟩ => exact ((dat (F := F) m c).arrAt_in (0 : Fin 5) rfl _).trans (V₂_of_ne m c main_arg0 (by decide)).symm
  | ⟨1, _⟩ => exact ((dat (F := F) m c).arrAt_in (1 : Fin 5) rfl _).trans (V₂_of_ne m c main_v5 (by decide)).symm
  | ⟨2, _⟩ => exact ((dat (F := F) m c).arrAt_in (2 : Fin 5) rfl _).trans (V₂_of_ne m c main_arg2 (by decide)).symm
  | ⟨3, _⟩ => exact ((dat (F := F) m c).arrAt_in (3 : Fin 5) rfl _).trans (V₂_of_ne m c main_arg3 (by decide)).symm
  | ⟨4, _⟩ => exact (arr_out m c).trans (V₂_out m c).symm

/-- The arrays that the kernel does not stage. -/
def others : Finset (DevRef τ sig) :=
  {Proc.devRef .tc main_arg1, Proc.devRef .tc main_v1, Proc.devRef .tc main_v2, Proc.devRef .tc main_v3, Proc.devRef .tc main_v4}

theorem others_same (b : DevRef τ sig) (h : b ∈ others \ ∅) : V₂ m c b = V₁ m c b := by
  rw [Finset.sdiff_empty] at h
  unfold others at h
  simp only [Finset.mem_insert, Finset.mem_singleton] at h
  rcases h with rfl | rfl | rfl | rfl | rfl <;> exact V₂_of_ne m c _ (by decide)

theorem hin : iprop(Pipeline.scopedRest (Pipeline.pin (pcfgs (F := F)) adm 0).spec c ∗ (∃ r, prngReg c r)
      ∗ StableHlo.held (c.tc : Thread nD τ) ∅ (V₁ m c) ∗ ∃ K, opened (xsOf m) (wsOf m) K c)
    ⊢ (pdats m 0 c).Φ 0 := by
  rw [phi_zero, scopedRest_eq]
  unfold Φ₀
  iintro ⟨Hs, Hp, -, HK⟩
  isplitl [HK]; · iexact HK
  isplitl [Hs]; · iexact Hs
  iexact Hp

theorem hout : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ semVal (barC c) 0) := by
  rw [scopedRest_eq]
  refine (ent (phi_last m c)).trans ?_
  unfold Φ₁ StableHlo.held
  rw [bigSep_empty]
  iintro ⟨Hs, Hp, Ho, Hz⟩
  isplitl [Hs]; · iexact Hs
  isplitl [Hp]; · iexact Hp
  isplitr; · iempintro
  isplitl [Ho]; · iexact Ho
  iexact Hz

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem osem_ok
    ∅ others (Finset.empty_subset _) kitP rfl (fun c => (body_obligation m c).loose)
    (fun _ => 0) (fun c => owed c 0) (fun c => (owed_zero m c).trans (zero_add _).symm) (owed_last m) (fun _ => rfl) (share_eq m)
    (V₁ m) (V₂ m) (others_same m)
    (dealt (xsOf m) (wsOf m)) (fun c => semVal (barC c) 0) (fun c => iprop(∃ K, opened (xsOf m) (wsOf m) K c)) (fun c => semVal (barC c) 0)
    (hopen (xsOf m) (wsOf m)) (hin m) (hout m)
    (fun c => by iintro H; imodintro; iexact H)
    (fun _ => 0)
    ⟨fun c w s => by rw [L_tc]; exact Finset.mem_singleton_self _, fun c w s => lv_stage c w s, fun c t g i h => cut_owed m c t g i h⟩
    (fun _ => iprop(emp))
    (arr_first m) (arr_last m)

end Cert.Proof
-- ==== Proof.Run.lean ====
/-
  The whole program of every device: the host's operations, the kernel, and what the launch deals to each of them.
-/
module

public import proofs.«01_k».proof.Proof.Region
public import Idealize.ShloMosaic.Lib.StableHlo.RunRead
public import Idealize.ShloMosaic.Harness.Basic

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Facts₀

variable {F : FTy → Type} [FloatOps F]

local notation "𝕄" => MT nD τ sig Unit (Elt F) ℕ UU ℕ

variable (m : (l : Loc nD τ sig) → Buf (Elt F) l) (ρ : Dev nD → PrngReg) (c : Dev nD)

/-! ## The arrays of a device -/

def bufs : Finset (DevRef τ sig) := (StableHlo.tcRefs τ sig).filter fun b => ¬ b.isScoped

theorem unscopedBufs_held (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem arr_sub : Pipeline.arrRefs (τ := τ) spec0 ⊆ bufs := by decide
theorem arr_rest : bufs \ Pipeline.arrRefs (τ := τ) spec0 = others := by decide

theorem held_cut (W : Valuation τ sig (Elt F)) : (StableHlo.held (c.tc : Thread nD τ) bufs W : sProp 𝕄)
    = iprop(StableHlo.held (c.tc : Thread nD τ) (Pipeline.arrRefs (τ := τ) spec0) W ∗ StableHlo.held (c.tc : Thread nD τ) others W) := by
  rw [StableHlo.held_sub_split (c.tc : Thread nD τ) arr_sub W, arr_rest]

abbrev pt (b : Ref sig .tc) (X : b.ty.Contents (Elt F)) : sProp 𝕄 := iprop((Memref.whole b).view.loc (c : Thread nD τ) ↦{fullShare} X)

/-- The arguments and the result among them. -/
theorem held_args (W : Valuation τ sig (Elt F)) : (StableHlo.held (c : Thread nD τ) bufs W : sProp 𝕄)
    ⊢ iprop(pt c main_arg0 (W (Proc.devRef .tc main_arg0)) ∗ pt c main_arg1 (W (Proc.devRef .tc main_arg1)) ∗ pt c main_arg2 (W (Proc.devRef .tc main_arg2))
      ∗ pt c main_arg3 (W (Proc.devRef .tc main_arg3)) ∗ pt c main_v6 (W (Proc.devRef .tc main_v6))) := by
  unfold StableHlo.held
  rw [bigSep_eq_bigSepL_of_eq [Proc.devRef .tc main_arg0, Proc.devRef .tc main_arg1, Proc.devRef .tc main_arg2, Proc.devRef .tc main_arg3, Proc.devRef .tc main_v6,
    Proc.devRef .tc main_v1, Proc.devRef .tc main_v2, Proc.devRef .tc main_v3, Proc.devRef .tc main_v4, Proc.devRef .tc main_v5] (by decide) (by decide)]
  show iprop(pt c main_arg0 _ ∗ pt c main_arg1 _ ∗ pt c main_arg2 _ ∗ pt c main_arg3 _ ∗ pt c main_v6 _ ∗ _) ⊢ _
  iintro ⟨H0, H1, H2, H3, H4, -⟩
  isplitl [H0]; · iexact H0
  isplitl [H1]; · iexact H1
  isplitl [H2]; · iexact H2
  isplitl [H3]; · iexact H3
  iexact H4

/-! ## The two segments -/

/-- What rides beside the arrays: what was dealt, the generator's register, what is owed. -/
def R : sProp 𝕄 := iprop(dealt (xsOf m) (wsOf m) c ∗ (∃ r, prngReg c r) ∗ ∃ W, owes (c : Thread nD τ) (owed c 0) W)

theorem ops_sub : ∀ op ∈ (ops : List (HloOp τ sig (Elt F))), op.bufs ⊆ bufs := fun op h => by
  unfold ops at h
  simp only [List.mem_cons, List.not_mem_nil, or_false] at h
  rcases h with rfl | rfl | rfl | rfl | rfl
  · show ({Proc.devRef .tc main_arg1, Proc.devRef .tc main_v1} : Finset (DevRef τ sig)) ⊆ bufs; decide
  · show ({Proc.devRef .tc main_arg1, Proc.devRef .tc main_v2} : Finset (DevRef τ sig)) ⊆ bufs; decide
  · show ({Proc.devRef .tc main_v1, Proc.devRef .tc main_v3} : Finset (DevRef τ sig)) ⊆ bufs; decide
  · show ({Proc.devRef .tc main_v2, Proc.devRef .tc main_v4} : Finset (DevRef τ sig)) ⊆ bufs; decide
  · show ({Proc.devRef .tc main_v3, Proc.devRef .tc main_v4, Proc.devRef .tc main_v5} : Finset (DevRef τ sig)) ⊆ bufs; decide
theorem ops_fresh : ∀ op ∈ (ops : List (HloOp τ sig (Elt F))), op.fresh = ∅ := fun op h => by
  unfold ops at h
  simp only [List.mem_cons, List.not_mem_nil, or_false] at h
  rcases h with rfl | rfl | rfl | rfl | rfl <;> rfl

def seg0 : Pipeline.HostSeg (Name := ℕ) (U := UU) (pcfgs (F := F)) defs₀ 𝒱₀ L lv :=
  Pipeline.HostSeg.ofOps _ _ _ _ _ bufs ops ops_sub ops_fresh (V₀ m) (R m)

theorem reg_pre : iprop(StableHlo.held (c : Thread nD τ) bufs (V₁ m c) ∗ R m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) others (V₁ m c) ∗ emp) ∗ dealt (xsOf m) (wsOf m) c ∗ ∃ Wd, owes (c : Thread nD τ) (0 + owed c 0) Wd)
  rw [zero_add]
  refine BIBase.Entails.trans (sep_mono_left (ent (held_cut c (V₁ m c)))) ?_
  unfold R
  iintro ⟨⟨Ha, Ho⟩, HD, Hp, HO⟩
  isplitl [Ha]; · iexact Ha
  isplitl [Hp]; · iexact Hp
  isplitl [Ho]
  · isplitl [Ho]; · iexact Ho
    iempintro
  isplitl [HD]; · iexact HD
  iexact HO

theorem reg_post : (reg m).post c
    ⊢ iprop((StableHlo.held (c : Thread nD τ) bufs (V₂ m c) ∗ semVal (barC c) 0) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) others (V₂ m c) ∗ emp) ∗ semVal (barC c) 0 ∗ ∃ Wd, owes (c : Thread nD τ) (0 : CellTallies nD τ sig Unit) Wd) ⊢ _
  iintro ⟨Ha, -, ⟨Ho, -⟩, Hb, HO⟩
  isplitr [HO]
  · isplitl [Ha Ho]
    · iapply (ent (held_cut c (V₂ m c)).symm)
      isplitl [Ha]; · iexact Ha
      iexact Ho
    iexact Hb
  iexact HO

/-- The program as a list of segments. -/
def segs : List (Pipeline.Seg (pcfgs (F := F)) adm (pdats m) () defs₀ 𝒱₀ L lv) := [.host (seg0 m), .region (reg m)]

theorem main_eq : main (F := F) c = Pipeline.Seg.run (segs m) := by
  simp only [main, segs, Pipeline.Seg.run, seg0, ops, Pipeline.HostSeg.ofOps, StableHlo.seq, Prog.lift, Prog.bind_op, Prog.bind_ret,
    bind_pure_comp]
  rfl

/-! ## The launch -/

theorem bar_inj : Function.Injective (fun c : Dev nD => barC c) := fun _ _ h => congrArg (fun g : GSem nD τ sig => g.1.1) h
theorem own_inj : Function.Injective (fun ck : Dev nD × Fin 129 => (((ck.1 : Thread nD τ), osem ck.2) : GSem nD τ sig)) := fun a b h =>
  Prod.ext (congrArg (fun g : GSem nD τ sig => g.1.1) h) (osem_ok.inj (congrArg Prod.snd h))

@[irreducible] def barCells : Finset (GSem nD τ sig) := Finset.univ.map ⟨fun c : Dev nD => barC c, bar_inj⟩
@[irreducible] def ownCells : Finset (GSem nD τ sig) := Finset.univ.map ⟨_, own_inj⟩

theorem mem_barCells (g : GSem nD τ sig) : g ∈ barCells ↔ ∃ c, barC c = g := by
  unfold barCells; rw [Finset.mem_map]
  exact ⟨fun ⟨c, _, h⟩ => ⟨c, h⟩, fun ⟨c, h⟩ => ⟨c, Finset.mem_univ _, h⟩⟩
theorem mem_ownCells (g : GSem nD τ sig) : g ∈ ownCells ↔ ∃ ck : Dev nD × Fin 129, (((ck.1 : Thread nD τ), osem ck.2) : GSem nD τ sig) = g := by
  unfold ownCells; rw [Finset.mem_map]
  exact ⟨fun ⟨c, _, h⟩ => ⟨c, h⟩, fun ⟨c, h⟩ => ⟨c, Finset.mem_univ _, h⟩⟩

theorem osem_ne_bar (k : Fin 129) : osem k ≠ .reg barS := by
  revert k; decide
theorem disj_cells : Disjoint barCells ownCells := by
  rw [Finset.disjoint_left]
  intro g h1 h2
  obtain ⟨c, rfl⟩ := (mem_barCells g).1 h1
  obtain ⟨ck, h⟩ := (mem_ownCells _).1 h2
  exact osem_ne_bar ck.2 (congrArg Prod.snd h)

theorem sem_two : ∀ s : Sem sig, s = barS ∨ s = endS := by decide
theorem osem_dma (q : DmaSem sig) (h : 5 ≤ q.val) : ∃ k, osem k = .dma q := by
  have hq : q.val < 133 := q.isLt
  refine ⟨⟨q.val - 4, by omega⟩, ?_⟩
  unfold osem
  rw [if_neg (by show ¬ q.val - 4 = 0; omega)]
  congr 1
  exact Fin.ext (by show q.val - 4 + 4 = q.val; omega)
theorem osem_mine (k : Fin 129) : (match osem k with | .reg _ => True | .dma q => 5 ≤ q.val : Prop) := by
  unfold osem
  by_cases h : k.val = 0
  · rw [if_pos h]; trivial
  · rw [if_neg h]
    show 5 ≤ k.val + 4
    omega

theorem cells_eq : barCells ∪ ownCells = cells := by
  ext g
  rw [Finset.mem_union, mem_barCells, mem_ownCells, mem_cells]
  constructor
  · rintro (⟨c, rfl⟩ | ⟨ck, rfl⟩)
    · exact ⟨rfl, trivial⟩
    · exact ⟨rfl, osem_mine ck.2⟩
  · rintro ⟨h1, h2⟩
    obtain ⟨⟨d, p⟩, s⟩ := g
    dsimp only at h1 h2
    subst h1
    match s, h2 with
    | .reg s, _ =>
      rcases sem_two s with rfl | rfl
      · exact .inl ⟨d, rfl⟩
      · exact .inr ⟨(d, 0), rfl⟩
    | .dma q, h =>
      obtain ⟨k, hk⟩ := osem_dma q h
      exact .inr ⟨(d, k), by show ((d : Thread nD τ), osem k) = _; rw [hk]⟩

/-- The launch element. -/
def u₀ : UU :=
  (initOf (Pipeline.cells (Pipeline.pin (pcfgs (F := F)) adm) cellOf_inj) (Pipeline.launchToks (Pipeline.pin (pcfgs (F := F)) adm) cellOf_inj),
    launchOf barCells ownCells toks)

/-- All of X on the first device. -/
def onDev (X : sProp 𝕄) (c : Dev nD) : sProp 𝕄 := if c = 0 then X else iprop(emp)
theorem bigSep_onDev (X : sProp 𝕄) : bigSep Finset.univ (onDev X) = X := by
  rw [bigSep_univ_at _ (0 : Dev nD), bigSep_congr (s := Finset.univ.erase (0 : Dev nD)) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

def G : Dev nD → sProp 𝕄 := onDev (BI.own (ER (launchOf barCells ownCells toks)))

theorem unscopedSems0_eq : (unscopedSems0 c : sProp 𝕄) = semVal (barC c) 0 := by
  unfold unscopedSems0
  rw [show (Finset.univ.filter fun sm : SemLoc sig => ¬ sm.isScoped .tc) = {SemLoc.reg barS} from by decide, BI.bigSep_singleton]

/-- What stays with a device. -/
def bundle : sProp 𝕄 :=
  iprop(StableHlo.held (c : Thread nD τ) bufs (V₀ m c) ∗ creds3 c ∗ owes (c : Thread nD τ) (owed c 0) ∅ ∗ ∃ r, prngReg c r)

abbrev T₀ : sProp 𝕄 := iprop(StableHlo.held (c : Thread nD τ) bufs (V₀ m c) ∗ R m c)
abbrev Tₙ : sProp 𝕄 := iprop(StableHlo.held (c : Thread nD τ) bufs (V₂ m c) ∗ semVal (barC c) 0)

theorem T₀_intro (K : GSem nD τ sig → ℕ) : iprop(recs (xsOf m) (wsOf m) K ∗ ((seats c ∗ toks2 c) ∗ bundle m c)) ⊢ T₀ m c := by
  unfold bundle T₀ R dealt
  iintro ⟨#HR, ⟨Hs, Ht⟩, Hh, Hc, HO, Hp⟩
  isplitl [Hh]; · iexact Hh
  isplitl [Hs Ht Hc]
  · iexists K
    isplitr; · iexact HR
    isplitl [Hs]; · iexact Hs
    isplitl [Ht]; · iexact Ht
    iexact Hc
  isplitl [Hp]; · iexact Hp
  iexists ∅; iexact HO

theorem core_split : iprop(unscopedBufs c (fun b => m ((c : Thread nD τ).loc b)) ∗ unscopedSems0 c
        ∗ owes (c : Thread nD τ) (owed c 0) ∅ ∗ Pipeline.launchCred (fun d => owed d 0) c ∗ prngReg c (ρ c) ∗ G c)
      ⊢ (iprop(bundle m c ∗ (semVal (barC c) 0 ∗ G c)) : sProp 𝕄) := by
  rw [show unscopedBufs c (fun b => m ((c : Thread nD τ).loc b)) = StableHlo.held (c : Thread nD τ) bufs (V₀ m c) from unscopedBufs_held c (V₀ m c),
    unscopedSems0_eq]
  unfold bundle creds3
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus]; · iexact Hus
  iexact HG

theorem bar_map (Φ : GSem nD τ sig → sProp 𝕄) : bigSep barCells Φ = bigSep Finset.univ fun c : Dev nD => Φ (barC c) := by
  unfold barCells; exact bigSep_map ..
theorem own_map (Φ : GSem nD τ sig → sProp 𝕄) : bigSep ownCells Φ
    = bigSep Finset.univ fun c : Dev nD => bigSep Finset.univ fun k : Fin 129 => Φ ((c : Thread nD τ), osem k) := by
  unfold ownCells; rw [bigSep_map, bigSep_univ_prod]; rfl

theorem init :
    iprop((bigSep Finset.univ fun c : Dev nD => iprop(unscopedBufs c (fun b => m ((c : Thread nD τ).loc b)) ∗ unscopedSems0 c
          ∗ owes (c : Thread nD τ) (owed c 0) ∅ ∗ Pipeline.launchCred (fun d => owed d 0) c ∗ prngReg c (ρ c) ∗ G c)) ∗ levAts L lv)
      ⊢ (|={Set.univ}=> bigSep Finset.univ (T₀ m) : sProp 𝕄) := by
  have h1 : (bigSep Finset.univ fun c : Dev nD => iprop(unscopedBufs c (fun b => m ((c : Thread nD τ).loc b)) ∗ unscopedSems0 c
          ∗ owes (c : Thread nD τ) (owed c 0) ∅ ∗ Pipeline.launchCred (fun d => owed d 0) c ∗ prngReg c (ρ c) ∗ G c))
      ⊢ (iprop((bigSep Finset.univ fun c : Dev nD => bundle m c) ∗ (bigSep Finset.univ fun c : Dev nD => semVal (barC c) 0) ∗ bigSep Finset.univ G) : sProp 𝕄) := by
    rw [← sep2, ← sep2]
    exact bigSep_mono fun c _ => core_split m ρ c
  have h2 : (bigSep Finset.univ fun c : Dev nD => (semVal (barC c) 0 : sProp 𝕄)) ⊢ bigSep barCells (fun g => (semVal g 0 : sProp 𝕄)) :=
    ent (bar_map (F := F) fun g => semVal g 0).symm
  have h3 : bigSep Finset.univ (G (F := F)) ⊢ BI.own (ER (launchOf barCells ownCells toks)) := ent (bigSep_onDev (F := F) _)
  have h4 (κ : GSem nD τ sig → ℕ) : iprop((bigSep (barCells ∪ ownCells) fun g => cellInv ER (rd (xsOf m) (wsOf m)) (κ g) g) ∗ bigSep barCells (fun g => reached ER g 0))
      ⊢ recs (xsOf m) (wsOf m) κ := by
    rw [cells_eq, bar_map]; unfold recs; exact .rfl
  have h5 : iprop(bigSep barCells (fun g => (atPos ER g 0 ∅ 0 : sProp 𝕄)) ∗ bigSep ownCells (fun g => openTok ER g))
      ⊢ bigSep Finset.univ fun c : Dev nD => seats (F := F) c := by
    rw [bar_map, own_map, ← sep2]; unfold seats; exact .rfl
  have h6 : bigSep toks (fun x => (dutyTok ER x.1 x.2.1 x.2.2 : sProp 𝕄)) ⊢ bigSep Finset.univ fun c : Dev nD => toks2 (F := F) c := by
    rw [toks_eq]; unfold toks2; exact .rfl
  iintro ⟨H, -⟩
  ihave H := h1 $$ H
  icases H with ⟨HB, Hv, HG⟩
  ihave Hv := h2 $$ Hv
  ihave Hu := h3 $$ HG
  imod (Rounds.fund_launch ER (rd (xsOf m) (wsOf m)) disj_cells (fun g _ h => h) toks) $$ [Hv Hu] with ⟨%κ, -, #Hinv, #Hr, Hat, Hopen, Htok⟩
  · isplitl [Hv]; · iexact Hv
    iexact Hu
  imodintro
  ihave Hs := h5 $$ [Hat Hopen]
  · isplitl [Hat]; · iexact Hat
    iexact Hopen
  ihave Ht := h6 $$ Htok
  ihave #HR := (h4 κ) $$ [Hinv Hr]
  · isplitr; · iexact Hinv
    iexact Hr
  iapply (bigSep_with_persistent (R := recs (xsOf m) (wsOf m) κ) (Φ := fun c => iprop((seats c ∗ toks2 c) ∗ bundle m c)) fun c _ => T₀_intro m c κ)
  isplitr; · iexact HR
  iapply (ent (sep2 _ _ _).symm)
  isplitr [HB]
  · iapply (ent (sep2 _ _ _).symm)
    isplitl [Hs]; · iexact Hs
    iexact Ht
  iexact HB

/-! ## The run -/

theorem V₁_arg (b : Ref sig .tc) (h : b ∉ [main_v1, main_v2, main_v3, main_v4, main_v5]) :
    V₁ m c (Proc.devRef .tc b) = m (c, Proc.devRef .tc b) := by
  unfold V₁
  exact StableHlo.after_unwritten [main_v1, main_v2, main_v3, main_v4, main_v5] rfl h (V₀ m c)
theorem V₂_arg (b : Ref sig .tc) (h : b ∉ [main_v1, main_v2, main_v3, main_v4, main_v5, main_v6]) :
    V₂ m c (Proc.devRef .tc b) = m (c, Proc.devRef .tc b) := by
  rw [V₂_of_ne m c b fun e => h (by rw [e]; decide), V₁_arg m c b fun e => h (by revert e; revert b; decide)]

theorem unscoped_eq : ∀ sm : SemLoc sig, sm.isScoped .tc = false → sm = .reg barS := by decide

/-- What a final state holds: the arguments as they were, the result computed, every counter at zero. -/
def Good (r : PUnit × MemSt nD τ sig (Elt F)) : Prop :=
  (∀ c : Dev nD, r.2.mem ((c : Thread nD τ).loc main_v6) = outOf m c ∧ (∀ b ∈ [main_arg0, main_arg1, main_arg2, main_arg3],
    r.2.mem ((c : Thread nD τ).loc b) = m ((c : Thread nD τ).loc b))) ∧ r.2.sem = fun _ => 0

set_option backward.isDefEq.respectTransparency.types false in
theorem run_main : θ_run defs (onTc (τ := τ) (main (F := F))) ⟨m, fun _ => 0, ρ⟩ (Good m) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun d => owed d 0) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := ⟨fun c => .rfl, fun c => reg_pre m c, fun c => reg_post m c⟩)
    (hinit := init m ρ)
    (QY := fun c s => (s.mem ((Memref.whole main_v6).view.loc (c : Thread nD τ)) = V₂ m c (Proc.devRef .tc main_v6)
        ∧ s.mem ((Memref.whole main_arg0).view.loc (c : Thread nD τ)) = V₂ m c (Proc.devRef .tc main_arg0)
        ∧ s.mem ((Memref.whole main_arg1).view.loc (c : Thread nD τ)) = V₂ m c (Proc.devRef .tc main_arg1)
        ∧ s.mem ((Memref.whole main_arg2).view.loc (c : Thread nD τ)) = V₂ m c (Proc.devRef .tc main_arg2)
        ∧ s.mem ((Memref.whole main_arg3).view.loc (c : Thread nD τ)) = V₂ m c (Proc.devRef .tc main_arg3))
      ∧ s.sem (barC c) = 0)
    (hfin := fun c s' => by
      dsimp only [Tₙ]
      iintro ⟨⟨H, Hb⟩, HSI⟩
      ihave H := (held_args c (V₂ m c)) $$ H
      icases H with ⟨H0, H1, H2, H3, H4⟩
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨Buf.eq_of_forall_mem_univ h4, Buf.eq_of_forall_mem_univ h0, Buf.eq_of_forall_mem_univ h1, Buf.eq_of_forall_mem_univ h2,
          Buf.eq_of_forall_mem_univ h3⟩, by simpa using hb⟩
      iexact HSI)
    (hQ := fun s h hs => ⟨fun c => by
        obtain ⟨⟨h6, h0, h1, h2, h3⟩, -⟩ := h c
        refine ⟨h6.trans (V₂_out m c), fun b hb => ?_⟩
        simp only [List.mem_cons, List.not_mem_nil, or_false] at hb
        rcases hb with rfl | rfl | rfl | rfl
        · exact h0.trans (V₂_arg m c main_arg0 (by decide))
        · exact h1.trans (V₂_arg m c main_arg1 (by decide))
        · exact h2.trans (V₂_arg m c main_arg2 (by decide))
        · exact h3.trans (V₂_arg m c main_arg3 (by decide)),
      sem_eq_zero hs fun c sm hsm => by
        obtain rfl := unscoped_eq sm hsm
        exact (h c).2⟩)

end Cert.Proof
-- ==== Proof.Whole.lean ====
/-
  The reference on its one device: the array it ends with, as a function of its four arguments.
-/
module

public import proofs.«01_k».proof.Proof.Gen.ReferenceIdeal.Value
public import Idealize.ShloMosaic.Lib.Pipeline.ValueKit
public import Idealize.ShloMosaic.Lib.Pipeline.ReadBack

@[expose] public section

noncomputable section

namespace Cert.Proof.Whole

open Idealize.ShloMosaic Idealize.ShloMosaic.TcCoe Idealize.SL.Sem
open Cert.ReferenceIdeal Cert.ReferenceIdeal.Gen

variable {F : FTy → Type} [FloatOps F]
variable (m : (l : Loc nD τ sig) → Buf (Elt F) l) (ρ : Dev nD → PrngReg)

/-- The array the reference ends with. -/
def out (x : Vec F S4096x4096 .fp8e4m3) (w : Vec F S4096x8192 .fp8e5m2) (u v : Vec F S1 .f32) : FVec F S4096x8192 .f32 :=
  k0_pay1 x w (u (ValueIdx.ix1 (0 : Fin 1))) (v (ValueIdx.ix1 (0 : Fin 1)))

/-- Every window is its whole array. -/
theorem index_zero (w : Fin 5) (t : Fin cfg0.N) : ∀ a, (cfg0.win w).index t a = 0 := by
  rw [fin_N0 t]; revert w; decide

theorem block_eq (w : Fin 5) (t : Fin cfg0.N) (y : ((cfg0.win w).xblock (cfg0.grid.coords t)).Idx) :
    ((cfg0.win w).blk t).view.emb y = (cfg0.win w).arr.view.emb fun a => ⟨y a, by
      have h := (((cfg0.win w).rect t).emb y a).isLt
      rwa [Pipeline.Window.rect_emb_val_of_index_zero _ _ _ (index_zero w t a)] at h⟩ := by
  show (cfg0.win w).arr.view.emb (((cfg0.win w).rect t).emb y) = _
  congr 1; funext a; apply Fin.ext
  rw [Pipeline.Window.rect_emb_val_of_index_zero _ _ _ (index_zero w t a)]

theorem in0 (c : Dev nD) (t : Fin cfg0.N) : iblk m c 0 t = m ((c : Thread nD τ).loc main_arg0) :=
  funext fun y => congrArg (m ((c : Thread nD τ).loc main_arg0)) (block_eq (0 : Fin 5) t y)
theorem in1 (c : Dev nD) (t : Fin cfg0.N) : iblk m c 1 t = m ((c : Thread nD τ).loc main_arg1) :=
  funext fun y => congrArg (m ((c : Thread nD τ).loc main_arg1)) (block_eq (1 : Fin 5) t y)
theorem in2 (c : Dev nD) (t : Fin cfg0.N) : iblk m c 2 t = m ((c : Thread nD τ).loc main_arg2) :=
  funext fun y => congrArg (m ((c : Thread nD τ).loc main_arg2)) (block_eq (2 : Fin 5) t y)
theorem in3 (c : Dev nD) (t : Fin cfg0.N) : iblk m c 3 t = m ((c : Thread nD τ).loc main_arg3) :=
  funext fun y => congrArg (m ((c : Thread nD τ).loc main_arg3)) (block_eq (3 : Fin 5) t y)

theorem first_idx (h : 0 < S1.numel) : Shape.Idx.first h = ValueIdx.ix1 (0 : Fin 1) :=
  funext fun a => match a with | 0 => Fin.ext (Nat.lt_one_iff.1 (Shape.Idx.first h 0).isLt)

theorem arr_out (c : Dev nD) : (dats m 0 c).arrAt 4 cfg0.N
    = out (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp
  rw [after0_4]
  unfold outsAt0
  frame_out
  simp only [read_unread_whole, in0, in1, in2, in3]
  rw [first_idx]
  exact congrArg (out _ _ _ _) (block_eq (4 : Fin 5) t y).symm

/-- The reference runs, and ends so. -/
theorem run_out : θ_run defs (onTc (τ := τ) (main (F := F))) ⟨m, fun _ => 0, ρ⟩ fun r => ∀ c : Dev nD,
    r.2.mem ((c : Thread nD τ).loc main_v0)
      = out (m ((c : Thread nD τ).loc main_arg0)) (m ((c : Thread nD τ).loc main_arg1)) (m ((c : Thread nD τ).loc main_arg2))
        (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (arr_out m c), (h c).2⟩) (Cert.ReferenceIdeal.Value.run_blocks m ρ)

end Cert.Proof.Whole

end
-- ==== Proof.Value.lean ====
/-
  The result of a device is its block of rows of the reference's result: over the extended reals
  the sixteen partial products, in whatever order the rings bring them, add up to the whole
  contraction.
-/
module

public import proofs.«01_k».proof.Proof.Run
public import proofs.«01_k».proof.Proof.Whole
public import Idealize.ShloMosaic.Lib.MatmulPlain

@[expose] public section

noncomputable section

namespace Cert.Proof

open Idealize.ShloMosaic Idealize.ShloMosaic.TcCoe Idealize.SL.Sem
open Cert.KernelIdeal Cert.KernelIdeal.Facts₀

/-! ## Indices -/

/-- Column k of block o, in the whole axis. -/
def at16 (o : Fin 16) (k : Fin 256) : Fin 4096 := ⟨o.val * 256 + k.val, by omega⟩

/-- Column b of half r, in the whole axis. -/
def at2 (r : Fin 2) (b : Fin 4096) : Fin 8192 := ⟨4096 * r.val + b.val, by omega⟩

theorem cols_idx (h : Layout.Tiles ⟨2, ![4096, 256]⟩ ⟨2, ![4096, 4096]⟩ 1 16) (c : Fin 16) (i : Fin 4096) (k : Fin 256) :
    h.idx c (ValueIdx.ix2 i k) = ValueIdx.ix2 i (at16 c k) := by
  funext b; apply Fin.ext
  match b with
  | 0 => rfl
  | 1 => rfl

theorem rows_idx (h : Layout.Tiles ⟨2, ![256, 8192]⟩ ⟨2, ![4096, 8192]⟩ 0 16) (c : Fin 16) (k : Fin 256) (j : Fin 8192) :
    h.idx c (ValueIdx.ix2 k j) = ValueIdx.ix2 (at16 c k) j := by
  funext b; apply Fin.ext
  match b with
  | 0 => rfl
  | 1 => rfl

/-- A sum over the whole axis, block by block. -/
theorem sum_blocks {M : Type} [AddCommMonoid M] (f : Fin 4096 → M) : ∑ K, f K = ∑ o, ∑ k, f (at16 o k) := by
  rw [← Fintype.sum_prod_type']
  refine (Fintype.sum_equiv (finProdFinEquiv (m := 16) (n := 256)) _ _ fun p => congrArg f (Fin.ext ?_)).symm
  show p.1.val * 256 + p.2.val = p.2.val + 256 * p.1.val
  omega

/-- A device and the fifteen before it on a ring are all of them. -/
theorem sum_org {M : Type} [AddCommMonoid M] (r : Fin 2) (c : Dev nD) (f : Dev nD → M) :
    ∑ h ∈ Finset.range 16, f (org r h c) = ∑ o, f o := by
  rw [Finset.sum_range fun h => f (org r h c)]
  refine Function.Bijective.sum_comp (e := fun h : Fin 16 => org r h.val c) ?_ f
  exact (Fintype.bijective_iff_injective_and_card _).2 ⟨fun h h' => org_inj r c h h', rfl⟩

/-! ## The sums -/

section Sums

variable (xs : Dev nD → Vec Ideal S4096x256 .fp8e4m3) (ws : Dev nD → Vec Ideal S2x256x4096 .fp8e5m2) (c : Dev nD)

theorem part_apply (r : Fin 2) (o : Dev nD) (a : Fin 256) (b : Fin 4096) :
    part xs ws c r o (ValueIdx.ix2 a b)
      = (∑ k : Fin 256, xs o (ValueIdx.ix2 (at16 c a) k) * ws o (ValueIdx.ix3 r k b) : EReal) := by
  refine (Ideal.matmul_plain_apply none (extf .bf16 (xTile xs c o) bitsLt_fp8e4m3_bf16) (extf .bf16 (wTile ws o r) bitsLt_fp8e5m2_bf16)
    (constant S256x4096 .f32 0x00000000#32) a b).trans ?_
  rw [show (constant S256x4096 .f32 0x00000000#32 : FVec Ideal S256x4096 .f32) (ValueIdx.ix2 a b) = (0 : EReal) from Ideal.ofBits_zero_f32, zero_add]
  rfl

theorem acc_apply (r : Fin 2) (n : ℕ) (y : S256x4096.Idx) :
    acc xs ws c r n y = (∑ h ∈ Finset.range (n + 1), part xs ws c r (org r h c) y : EReal) := by
  induction n with
  | zero => rw [Finset.sum_range_one]; rfl
  | succ n ih => rw [Finset.sum_range_succ, ← ih]; rfl

theorem join_apply (r : Fin 2) (a : Fin 256) (b : Fin 4096) :
    join (fun r => acc xs ws c r 15) (ValueIdx.ix2 a (at2 r b))
      = (∑ o : Fin 16, ∑ k : Fin 256, xs o (ValueIdx.ix2 (at16 c a) k) * ws o (ValueIdx.ix3 r k b) : EReal) := by
  refine (join_ix2 (fun r => acc xs ws c r 15) r a b).trans ?_
  rw [acc_apply, sum_org r c fun o => part xs ws c r o (ValueIdx.ix2 a b)]
  exact Finset.sum_congr rfl fun o _ => part_apply xs ws c r o a b

end Sums

/-! ## The closing scaling -/

/-- What becomes of one sum. -/
def act (u v a : Ideal .f32) : Ideal .f32 := fin u v (fun _ => a) (ValueIdx.ix2 0 0)

theorem fin_apply (u v : Ideal .f32) (o : FVec Ideal S256x8192 .f32) (y : S256x8192.Idx) : fin u v o y = act u v (o y) := rfl

theorem whole_apply (x : Vec Ideal Cert.ReferenceIdeal.S4096x4096 .fp8e4m3) (w : Vec Ideal Cert.ReferenceIdeal.S4096x8192 .fp8e5m2) (u v : Vec Ideal S1 .f32)
    (i : Fin 4096) (j : Fin 8192) :
    Whole.out x w u v (ValueIdx.ix2 i j)
      = act (u (ValueIdx.ix1 0)) (v (ValueIdx.ix1 0)) (∑ K : Fin 4096, x (ValueIdx.ix2 i K) * w (ValueIdx.ix2 K j) : EReal) := by
  refine Eq.trans (b := act (u (ValueIdx.ix1 0)) (v (ValueIdx.ix1 0)) (FloatOps.matmul (DotDims.plain 4096 4096 8192) none
    (extf .f32 x Cert.ReferenceIdeal.Facts₀.bitsLt_fp8e4m3_f32) (extf .f32 w Cert.ReferenceIdeal.Facts₀.bitsLt_fp8e5m2_f32) (constant Cert.ReferenceIdeal.S4096x8192 .f32 0x00000000#32) (ValueIdx.ix2 i j))) rfl ?_
  rw [Ideal.matmul_plain_apply]
  rw [show (constant Cert.ReferenceIdeal.S4096x8192 .f32 0x00000000#32 : FVec Ideal Cert.ReferenceIdeal.S4096x8192 .f32) (ValueIdx.ix2 i j) = (0 : EReal) from Ideal.ofBits_zero_f32, zero_add]
  rfl

/-! ## The arrays of a device -/

section Arrays

variable {F : FTy → Type} [FloatOps F] (m : (l : Loc nD τ sig) → Buf (Elt F) l) (c : Dev nD)

theorem xsOf_eq : xsOf m c = m ((c : Thread nD τ).loc main_arg0) := V₁_arg m c main_arg0 (by decide)
theorem suOf_eq : suOf m c = m ((c : Thread nD τ).loc main_arg2) := V₁_arg m c main_arg2 (by decide)
theorem svOf_eq : svOf m c = m ((c : Thread nD τ).loc main_arg3) := V₁_arg m c main_arg3 (by decide)

/-- Columns of the weights from a given one on, under a new first axis. -/
theorem slice_apply (x : Vec F S256x8192 .fp8e5m2) (n : ℕ) (h : S256x8192.Slices ![0, n] S256x4096) (k : Fin 256) (b : Fin 4096)
    (j : Fin 8192) (hj : j.val = n + b.val) :
    broadcastInDim S1x256x4096 ![1, 2] bcast_S256x4096_S1x256x4096_1_2 (extractStridedSlice S256x4096 ![0, n] x h)
      (ValueIdx.ix3 (0 : Fin 1) k b) = x (ValueIdx.ix2 k j) := by
  refine (broadcastInDim_apply _ _ _ _ (ValueIdx.ix2 k b) fun a => ?_).trans (extractStridedSlice_apply _ _ _ _ _ fun a => ?_)
  · match a with | 0 => rfl | 1 => rfl
  · match a with
    | 0 => exact (Nat.zero_add _).symm
    | 1 => exact hj

theorem stack_fst (x y : Vec F S1x256x4096 .fp8e5m2) (k : Fin 256) (b : Fin 4096) :
    concatenate S2x256x4096 0 [⟨S1x256x4096, x⟩, ⟨S1x256x4096, y⟩] concatenates_S1x256x4096_S1x256x4096_S2x256x4096_d0
      (ValueIdx.ix3 (0 : Fin 2) k b) = x (ValueIdx.ix3 (0 : Fin 1) k b) :=
  concatenate_pair_apply_left (t := S2x256x4096) (s₁ := S1x256x4096) (s₂ := S1x256x4096) 0 x y _ (ValueIdx.ix3 (0 : Fin 2) k b) rfl
    (ValueIdx.ix3 (0 : Fin 1) k b) fun a => match a with | 0 => rfl | 1 => rfl | 2 => rfl
theorem stack_snd (x y : Vec F S1x256x4096 .fp8e5m2) (k : Fin 256) (b : Fin 4096) :
    concatenate S2x256x4096 0 [⟨S1x256x4096, x⟩, ⟨S1x256x4096, y⟩] concatenates_S1x256x4096_S1x256x4096_S2x256x4096_d0
      (ValueIdx.ix3 (1 : Fin 2) k b) = y (ValueIdx.ix3 (0 : Fin 1) k b) :=
  concatenate_pair_apply_right (t := S2x256x4096) (s₁ := S1x256x4096) (s₂ := S1x256x4096) 0 x y _ (ValueIdx.ix3 (1 : Fin 2) k b) rfl rfl
    (ValueIdx.ix3 (0 : Fin 1) k b) (fun a ha => match a with | 0 => absurd rfl ha | 1 => rfl | 2 => rfl) rfl

/-- Half r of the stack is the half r of the columns. -/
theorem wsOf_apply (r : Fin 2) (k : Fin 256) (b : Fin 4096) :
    wsOf m c (ValueIdx.ix3 r k b) = m ((c : Thread nD τ).loc main_arg1) (ValueIdx.ix2 k (at2 r b)) := by
  have h : wsOf m c = concatenate S2x256x4096 0
      [⟨S1x256x4096, broadcastInDim S1x256x4096 ![1, 2] bcast_S256x4096_S1x256x4096_1_2
        (extractStridedSlice S256x4096 ![0, 0] (m ((c : Thread nD τ).loc main_arg1)) slices_S256x8192_S256x4096_0_0)⟩,
       ⟨S1x256x4096, broadcastInDim S1x256x4096 ![1, 2] bcast_S256x4096_S1x256x4096_1_2
        (extractStridedSlice S256x4096 ![0, 4096] (m ((c : Thread nD τ).loc main_arg1)) slices_S256x8192_S256x4096_0_4096)⟩]
      concatenates_S1x256x4096_S1x256x4096_S2x256x4096_d0 := by
    unfold wsOf V₁ ops
    after_results
    rfl
  rw [h]
  match r with
  | 0 => exact (stack_fst _ _ k b).trans (slice_apply _ _ slices_S256x8192_S256x4096_0_0 k b (at2 0 b) rfl)
  | 1 => exact (stack_snd _ _ k b).trans (slice_apply _ _ slices_S256x8192_S256x4096_0_4096 k b (at2 1 b) rfl)

end Arrays

/-! ## The result -/

open Cert.KernelIdeal in
theorem out_block (m : (l : Loc nD τ sig) → Buf (Elt Ideal) l) (X : Vec Ideal Cert.ReferenceIdeal.S4096x4096 .fp8e4m3)
    (W : Vec Ideal Cert.ReferenceIdeal.S4096x8192 .fp8e5m2) (u v : Vec Ideal S1 .f32)
    (hx : ∀ o : Dev nD, m ((o : Thread nD τ).loc main_arg0) = Layout.block ⟨2, ![4096, 256]⟩ ⟨2, ![4096, 4096]⟩ 1 16 o X)
    (hw : ∀ o : Dev nD, m ((o : Thread nD τ).loc main_arg1) = Layout.block ⟨2, ![256, 8192]⟩ ⟨2, ![4096, 8192]⟩ 0 16 o W)
    (hu : ∀ o : Dev nD, m ((o : Thread nD τ).loc main_arg2) = u) (hv : ∀ o : Dev nD, m ((o : Thread nD τ).loc main_arg3) = v)
    (c : Dev nD) : outOf m c = Layout.block ⟨2, ![256, 8192]⟩ ⟨2, ![4096, 8192]⟩ 0 16 c (Whole.out X W u v) := by
  funext y
  obtain ⟨a, j, rfl⟩ : ∃ (a : Fin 256) (j : Fin 8192), y = ValueIdx.ix2 a j := ⟨y 0, y 1, (ix2_eta y).symm⟩
  obtain ⟨r, b, rfl⟩ : ∃ (r : Fin 2) (b : Fin 4096), j = at2 r b :=
    ⟨⟨j.val / 4096, by omega⟩, ⟨j.val % 4096, by omega⟩, Fin.ext (by show j.val = 4096 * (j.val / 4096) + j.val % 4096; omega)⟩
  rw [Layout.block_apply, rows_idx, whole_apply, sum_blocks]
  unfold outOf result
  rw [fin_apply, join_apply, suOf_eq, svOf_eq, hu, hv]
  refine congrArg (act _ _) (Finset.sum_congr rfl fun o _ => Finset.sum_congr rfl fun k _ => ?_)
  rw [xsOf_eq, wsOf_apply, hx, hw, Layout.block_apply, Layout.block_apply, cols_idx, rows_idx]

end Cert.Proof

end
-- ==== Proof.lean ====
/-
  The kernel on its sixteen devices and the reference on one: both run, leave their arguments and
  the counters as they were, and each device ends with its rows of the reference's result.
-/
module

public import proofs.«01_k».proof.Defs
public import proofs.«01_k».proof.Proof.Value
public import proofs.«01_k».proof.Proof.Gen.ReferenceIdeal
public import proofs.«01_k».proof.Proof.Gen.ReferenceIdeal.Frame

@[expose] public section

noncomputable section

namespace Cert.Proof

open Idealize.ShloMosaic Idealize.ShloMosaic.TcCoe Idealize.SL.Sem Cert.KernelIdeal

/-- The arguments of a final state. -/
theorem Good.args {F : FTy → Type} [FloatOps F] {m : (l : Loc nD τ sig) → Buf (Elt F) l} {r : PUnit × MemSt nD τ sig (Elt F)}
    (h : Good m r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨(h.1 c).2 main_arg0 (by decide), (h.1 c).2 main_arg1 (by decide), (h.1 c).2 main_arg2 (by decide), (h.1 c).2 main_arg3 (by decide)⟩

/-- The run with its arguments, for any floats. -/
theorem run_args {F : FTy → Type} [FloatOps F] (m : (l : Loc nD τ sig) → Buf (Elt F) l) (ρ : Dev nD → PrngReg) :
    θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0 :=
  (θ_run defs _ _).mono (fun _ h => ⟨fun c => Good.args h c, h.2⟩) (run_main m ρ)

/-- The kernel as it was written is the same program. -/
theorem same : Cert.quiescent_Kernel (hKernel := factsK) = ∀ (m : (l : Loc nD τ sig) → Buf (Elt Bits) l) (ρ : Dev nD → PrngReg), True →
    θ_run defs (onTc (τ := τ) (main (F := Bits))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0 := by
  sl_kernel_rfl

theorem frameK : Cert.quiescent_Kernel (hKernel := factsK) := same.mpr fun m ρ _ => run_args m ρ

theorem frameI : Cert.quiescent_KernelIdeal (hKernelIdeal := factsI) := fun m ρ _ => run_args (F := Ideal) m ρ

theorem frameR : Cert.quiescent_ReferenceIdeal (hReferenceIdeal := Cert.ReferenceIdeal.Gen.facts) :=
  fun m ρ _ => Cert.ReferenceIdeal.Gen.frame m ρ

theorem agree : Cert.algebraic_KernelIdeal_ReferenceIdeal (hKernelIdeal := factsI) (hReferenceIdeal := Cert.ReferenceIdeal.Gen.facts) :=
  fun m ρ m' ρ' _ h => ⟨_,
    (θ_run defs _ _).mono (fun _ g c => ⟨(g.1 c).1.trans (out_block m _ _ _ _ (fun o => (h o).1) (fun o => (h o).2.1)
      (fun o => (h o).2.2.1) (fun o => (h o).2.2.2) c), Good.args g c⟩) (run_main m ρ),
    (θ_run Cert.ReferenceIdeal.defs _ _).mono (fun _ g => g 0) (Whole.run_out m' ρ')⟩

theorem claim : Cert.Claim := ⟨factsK, factsI, Cert.ReferenceIdeal.Gen.facts, frameK, frameI, frameR, trivial, agree⟩

end Cert.Proof

end
